-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v39) = v2 c
          ∧ r.2.mem ((c.tc : Thread Cert.Reference5Ideal.nD Cert.Reference5Ideal.τ).loc Cert.Reference5Ideal.main_v36) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_v38) = v1 c
          ∧ r.2.mem ((c.tc : Thread Cert.Reference7Ideal.nD Cert.Reference7Ideal.τ).loc Cert.Reference7Ideal.main_v39) = v2 c
          ∧ r.2.mem ((c.tc : Thread Cert.Reference7Ideal.nD Cert.Reference7Ideal.τ).loc Cert.Reference7Ideal.main_v36) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v6_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v7_1)) (v1 : (c : Dev Cert.Kernel9Ideal.nD) → Buf (Elt Ideal) ((c.tc : Thread Cert.Kernel9Ideal.nD Cert.Kernel9Ideal.τ).loc Cert.Kernel9Ideal.main_v7_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_1) = v0 c
          ∧ r.2.mem ((c.tc : Thread Cert.Kernel9Ideal.nD Cert.Kernel9Ideal.τ).loc Cert.Kernel9Ideal.main_v7_2) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v88) = v0 c
          ∧ r.2.mem ((c.tc : Thread Cert.Reference9Ideal.nD Cert.Reference9Ideal.τ).loc Cert.Reference9Ideal.main_v89) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_logits.lean ====
abbrev S4x2048x1024 : Shape := ⟨3, ![4, 2048, 1024]⟩
abbrev S4x2048x8 : Shape := ⟨3, ![4, 2048, 8]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048x8 : S_.BroadcastsInDim S4x2048x8 (![] : Fin 0 → Fin S4x2048x8.rank)
  reducesTo_S4x2048x8_S_d0_1_2 : S4x2048x8.ReducesTo [0, 1, 2] S_

variable [Facts]

def fn {F : FTy → Type} [FloatOps F] (main_arg0 : FVec F S4x2048x1024 .f32) (main_arg1 : FVec F S4x2048x1024 .f32) (main_arg2 : FVec F S4x2048x1024 .f32) (main_arg3 : FVec F S4x2048x8 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x8 .f32 := Host.absf main_arg3
  let main_cst_2 : FVec F S_ .f32 := constant S_ .f32 0x7F800000#32
  let main_v10 : FVec F S4x2048x8 .f32 := broadcastInDim S4x2048x8 ![] bcast_S_S4x2048x8 main_cst_2
  let main_v11 : IVec S4x2048x8 1 := cmpf .olt main_v9 main_v10
  let main_c_3 : IVec S_ 1 := constantI S_ 1 1#1
  let main_v12 : IVec S_ 1 := (fun x v => Host.reduce IntOp.andi x v reducesTo_S4x2048x8_S_d0_1_2 h_S_) main_v11 main_c_3
  let main_v13 : IVec S_ 1 := andi main_v8 main_v12
  main_v13
-- ==== Kernel.lean ====
abbrev S4x2048x1024 : Shape := ⟨3, ![4, 2048, 1024]⟩
abbrev S4x2048x8 : Shape := ⟨3, ![4, 2048, 8]⟩
abbrev S4x8x2048 : Shape := ⟨3, ![4, 8, 2048]⟩
abbrev S4x8x2048x1 : Shape := ⟨4, ![4, 8, 2048, 1]⟩
abbrev S4x8x4x1x512 : Shape := ⟨5, ![4, 8, 4, 1, 512]⟩
abbrev S1x512x128 : Shape := ⟨3, ![1, 512, 128]⟩
abbrev S1x2048x128 : Shape := ⟨3, ![1, 2048, 128]⟩
abbrev S1x1x512x1 : Shape := ⟨4, ![1, 1, 512, 1]⟩
abbrev S1x1x4x1x512 : Shape := ⟨5, ![1, 1, 4, 1, 512]⟩
abbrev S512x128 : Shape := ⟨2, ![512, 128]⟩
abbrev S512x1 : Shape := ⟨2, ![512, 1]⟩
abbrev S512x512 : Shape := ⟨2, ![512, 512]⟩
abbrev S1x1x1x1x512 : Shape := ⟨5, ![1, 1, 1, 1, 512]⟩
abbrev S1x512 : Shape := ⟨2, ![1, 512]⟩
abbrev S512 : Shape := ⟨1, ![512]⟩

abbrev nBuf : Space → Nat
  | .hbm => 8
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x8, .f32⟩
  | .hbm, ⟨4, _⟩ => ⟨S4x8x2048, .f32⟩
  | .hbm, ⟨5, _⟩ => ⟨S4x8x2048x1, .f32⟩
  | .hbm, ⟨6, _⟩ => ⟨S4x8x4x1x512, .f32⟩
  | .hbm, ⟨7, _⟩ => ⟨S4x2048x1024, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1x512x1, .f32⟩
  | .local _ .vmem, ⟨7, _⟩ => ⟨S1x1x512x1, .f32⟩
  | .local _ .vmem, ⟨8, _⟩ => ⟨S1x1x4x1x512, .f32⟩
  | .local _ .vmem, ⟨9, _⟩ => ⟨S1x1x4x1x512, .f32⟩
  | .local _ .vmem, ⟨10, _⟩ => ⟨S1x512x128, .f32⟩
  | .local _ .vmem, ⟨11, _⟩ => ⟨S1x512x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

@[reducible] def k0_t1_loop (i : grid0.Coords) : Scf.Loop 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_8 : BitVec 32 := 1#32
  ⟨c0_i32, v14, c1_i32_8⟩
def k0_mult1 (i : grid0.Coords) (k0_t1 : Fin (k0_t1_loop i).trips) : BitVec 32 :=
  let c0_i32 : BitVec 32 := 0#32
  let c1_i32_8 : BitVec 32 := 1#32
  let arg9 : BitVec 32 := Scf.iv c0_i32 c1_i32_8 k0_t1
  let c512_i32_26 : BitVec 32 := 512#32
  let v60 : BitVec 32 := Scalar.muli arg9 c512_i32_26
  v60
def k0_off1 (i : grid0.Coords) (k0_t1 : Fin (k0_t1_loop i).trips) : Fin 3 → Nat :=
  let c0_27 : Index := 0#32
  let c0_i32 : BitVec 32 := 0#32
  let c1_i32_8 : BitVec 32 := 1#32
  let arg9 : BitVec 32 := Scf.iv c0_i32 c1_i32_8 k0_t1
  let c512_i32_26 : BitVec 32 := 512#32
  let v60 : BitVec 32 := Scalar.muli arg9 c512_i32_26
  let v61 : BitVec 32 := v60
  let v62 : Index := Scalar.indexCast v61
  let c0_28 : Index := 0#32
  ![0, v62.toNat, 0]
def k0_off2 (i : grid0.Coords) (k0_t1 : Fin (k0_t1_loop i).trips) : Fin 5 → Nat :=
  let c0_32 : Index := 0#32
  let c0_33 : Index := 0#32
  let c0_i32 : BitVec 32 := 0#32
  let c1_i32_8 : BitVec 32 := 1#32
  let arg9 : BitVec 32 := Scf.iv c0_i32 c1_i32_8 k0_t1
  let v71 : Index := Scalar.indexCast arg9
  let c0_34 : Index := 0#32
  let c0_35 : Index := 0#32
  ![0, 0, v71.toNat, 0, 0]
@[reducible] def k0_t2_loop (i : grid0.Coords) : Scf.Loop 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let v11 : BitVec 32 := Scalar.addi c0_i32 v10
  let c1_i32_9 : BitVec 32 := 1#32
  ⟨v14, v11, c1_i32_9⟩
def k0_mult2 (i : grid0.Coords) (k0_t2 : Fin (k0_t2_loop i).trips) : BitVec 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_9 : BitVec 32 := 1#32
  let arg9 : BitVec 32 := Scf.iv v14 c1_i32_9 k0_t2
  let c512_i32_26 : BitVec 32 := 512#32
  let v60 : BitVec 32 := Scalar.muli arg9 c512_i32_26
  v60
def k0_off3 (i : grid0.Coords) (k0_t2 : Fin (k0_t2_loop i).trips) : Fin 3 → Nat :=
  let c0_27 : Index := 0#32
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_9 : BitVec 32 := 1#32
  let arg9 : BitVec 32 := Scf.iv v14 c1_i32_9 k0_t2
  let c512_i32_26 : BitVec 32 := 512#32
  let v60 : BitVec 32 := Scalar.muli arg9 c512_i32_26
  let v61 : BitVec 32 := v60
  let v62 : Index := Scalar.indexCast v61
  let c0_28 : Index := 0#32
  ![0, v62.toNat, 0]
def k0_off4 (i : grid0.Coords) (k0_t2 : Fin (k0_t2_loop i).trips) : Fin 5 → Nat :=
  let c0_32 : Index := 0#32
  let c0_33 : Index := 0#32
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_9 : BitVec 32 := 1#32
  let arg9 : BitVec 32 := Scf.iv v14 c1_i32_9 k0_t2
  let v71 : Index := Scalar.indexCast arg9
  let c0_34 : Index := 0#32
  let c0_35 : Index := 0#32
  ![0, 0, v71.toNat, 0, 0]
def k0_mult3 (i : grid0.Coords) : BitVec 32 :=
  let arg2 : BitVec 32 := BitVec.ofNat 32 (i 2).val
  let c512_i32 : BitVec 32 := 512#32
  let v17 : BitVec 32 := Scalar.muli arg2 c512_i32
  v17
def k0_off5 (i : grid0.Coords) : Fin 3 → Nat :=
  let c0_10 : Index := 0#32
  let arg2 : BitVec 32 := BitVec.ofNat 32 (i 2).val
  let c512_i32 : BitVec 32 := 512#32
  let v17 : BitVec 32 := Scalar.muli arg2 c512_i32
  let v18 : BitVec 32 := v17
  let v19 : Index := Scalar.indexCast v18
  let c0_11 : Index := 0#32
  ![0, v19.toNat, 0]
def k0_off6 (i : grid0.Coords) : Fin 5 → Nat :=
  let c0_15 : Index := 0#32
  let c0_16 : Index := 0#32
  let arg2 : BitVec 32 := BitVec.ofNat 32 (i 2).val
  let v28 : Index := Scalar.indexCast arg2
  let c0_17 : Index := 0#32
  let c0_18 : Index := 0#32
  ![0, 0, v28.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x2048x1024 : Shape := ⟨3, ![4, 2048, 1024]⟩
abbrev S4x2048x8 : Shape := ⟨3, ![4, 2048, 8]⟩
abbrev S4x2048x8x128 : Shape := ⟨4, ![4, 2048, 8, 128]⟩
abbrev S4x8x2048 : Shape := ⟨3, ![4, 8, 2048]⟩
abbrev S2048 : Shape := ⟨1, ![2048]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S4x8x128x2048 : Shape := ⟨4, ![4, 8, 128, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x8, .f32⟩
  | .hbm, ⟨4, _⟩ => ⟨S4x2048x8x128, .f32⟩
  | .hbm, ⟨5, _⟩ => ⟨S4x2048x8x128, .f32⟩
  | .hbm, ⟨6, _⟩ => ⟨S4x2048x8x128, .f32⟩
  | .hbm, ⟨7, _⟩ => ⟨S4x8x2048, .f32⟩
  | .hbm, ⟨8, _⟩ => ⟨S2048, .i32⟩
  | .hbm, ⟨9, _⟩ => ⟨S4x8x2048x2048, .f32⟩
  | .hbm, ⟨10, _⟩ => ⟨S4x8x2048x1, .f32⟩
  | .hbm, ⟨11, _⟩ => ⟨S4x8x1x2048, .f32⟩
  | .hbm, ⟨12, _⟩ => ⟨S4x8x2048x2048, .f32⟩
  | .hbm, ⟨13, _⟩ => ⟨S4x8x2048x2048, .f32⟩
  | .hbm, ⟨14, _⟩ => ⟨S4x8x2048x2048, .f32⟩
  | .hbm, ⟨15, _⟩ => ⟨S4x8x2048x2048, .f32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S4x8x2048x2048, .i1⟩
  | .hbm, ⟨24, _⟩ => ⟨S4x8x2048x2048, .f32⟩
  | .hbm, ⟨25, _⟩ => ⟨S4x8x2048x2048, .f32⟩
  | .hbm, ⟨26, _⟩ => ⟨S_, .f32⟩
  | .hbm, ⟨27, _⟩ => ⟨S4x8x2048, .f32⟩
  | .hbm, ⟨28, _⟩ => ⟨S_, .f32⟩
  | .hbm, ⟨29, _⟩ => ⟨S4x8x2048, .f32⟩
  | .hbm, ⟨30, _⟩ => ⟨S4x8x2048, .f32⟩
  | .hbm, ⟨31, _⟩ => ⟨S4x8x2048x1, .f32⟩
  | .hbm, ⟨32, _⟩ => ⟨S4x8x2048x2048, .f32⟩
  | .hbm, ⟨33, _⟩ => ⟨S4x8x2048x2048, .f32⟩
  | .hbm, ⟨34, _⟩ => ⟨S4x8x2048x2048, .f32⟩
  | .hbm, ⟨35, _⟩ => ⟨S_, .f32⟩
  | .hbm, ⟨36, _⟩ => ⟨S4x8x2048, .f32⟩
  | .hbm, ⟨37, _⟩ => ⟨S4x8x2048x1, .f32⟩
  | .hbm, ⟨38, _⟩ => ⟨S4x8x2048x2048, .f32⟩
  | .hbm, ⟨39, _⟩ => ⟨S4x8x2048x2048, .f32⟩
  | .hbm, ⟨40, _⟩ => ⟨S4x8x128x2048, .f32⟩
  | .hbm, ⟨41, _⟩ => ⟨S4x2048x8x128, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Kernel2Ideal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S_, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S2048x6912 : Shape := ⟨2, ![2048, 6912]⟩
abbrev S1x2048 : Shape := ⟨2, ![1, 2048]⟩
abbrev S8192x6912 : Shape := ⟨2, ![8192, 6912]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6912, .f32⟩
  | .hbm, ⟨3, _⟩ => ⟨S2048x6912, .bf16⟩
  | .hbm, ⟨4, _⟩ => ⟨S1x2048, .f32⟩
  | .hbm, ⟨5, _⟩ => ⟨S8192x6912, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel3Ideal.lean ====
abbrev S8192x2048 : Shape := ⟨2, ![8192, 2048]⟩
abbrev S2048 : Shape := ⟨1, ![2048]⟩
abbrev S2048x6912 : Shape := ⟨2, ![2048, 6912]⟩
abbrev S1x2048 : Shape := ⟨2, ![1, 2048]⟩
abbrev S8192x6912 : Shape := ⟨2, ![8192, 6912]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6912, .f32⟩
  | .hbm, ⟨3, _⟩ => ⟨S2048x6912, .bf16⟩
  | .hbm, ⟨4, _⟩ => ⟨S1x2048, .f32⟩
  | .hbm, ⟨5, _⟩ => ⟨S8192x6912, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x2048 : Shape := ⟨2, ![8192, 2048]⟩
abbrev S2048 : Shape := ⟨1, ![2048]⟩
abbrev S2048x6912 : Shape := ⟨2, ![2048, 6912]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x6912 : Shape := ⟨2, ![8192, 6912]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6912, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x6912, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel4.lean ====
abbrev S8192x2048 : Shape := ⟨2, ![8192, 2048]⟩
abbrev S8192x512 : Shape := ⟨2, ![8192, 512]⟩
abbrev S8192x1024 : Shape := ⟨2, ![8192, 1024]⟩
abbrev S2048x2048 : Shape := ⟨2, ![2048, 2048]⟩
abbrev S512x2048 : Shape := ⟨2, ![512, 2048]⟩
abbrev S512x512 : Shape := ⟨2, ![512, 512]⟩
abbrev S512x1024 : Shape := ⟨2, ![512, 1024]⟩
abbrev S1024x2048 : Shape := ⟨2, ![1024, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S2048x2048, .f32⟩
  | .hbm, ⟨5, _⟩ => ⟨S2048x2048, .bf16⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel4Ideal.lean ====
abbrev S8192x2048 : Shape := ⟨2, ![8192, 2048]⟩
abbrev S8192x512 : Shape := ⟨2, ![8192, 512]⟩
abbrev S8192x1024 : Shape := ⟨2, ![8192, 1024]⟩
abbrev S2048x2048 : Shape := ⟨2, ![2048, 2048]⟩
abbrev S512x2048 : Shape := ⟨2, ![512, 2048]⟩
abbrev S512x512 : Shape := ⟨2, ![512, 512]⟩
abbrev S512x1024 : Shape := ⟨2, ![512, 1024]⟩
abbrev S1024x2048 : Shape := ⟨2, ![1024, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S2048x2048, .f32⟩
  | .hbm, ⟨5, _⟩ => ⟨S2048x2048, .bf16⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8192x2048 : Shape := ⟨2, ![8192, 2048]⟩
abbrev S8192x512 : Shape := ⟨2, ![8192, 512]⟩
abbrev S8192x1024 : Shape := ⟨2, ![8192, 1024]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Kernel5.lean ====
abbrev S4x2048x6912 : Shape := ⟨3, ![4, 2048, 6912]⟩
abbrev S128 : Shape := ⟨1, ![128]⟩
abbrev S8 : Shape := ⟨1, ![8]⟩
abbrev S1x8 : Shape := ⟨2, ![1, 8]⟩
abbrev S_ : Shape := ⟨0, ![]⟩
abbrev S1x128 : Shape := ⟨2, ![1, 128]⟩
abbrev S4x2048x1024 : Shape := ⟨3, ![4, 2048, 1024]⟩
abbrev S4x2048x8 : Shape := ⟨3, ![4, 2048, 8]⟩
abbrev S1x256x1024 : Shape := ⟨3, ![1, 256, 1024]⟩
abbrev S1x256x128 : Shape := ⟨3, ![1, 256, 128]⟩
abbrev S1x256x8 : Shape := ⟨3, ![1, 256, 8]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S256x8 : Shape := ⟨2, ![256, 8]⟩
abbrev S256x256 : Shape := ⟨2, ![256, 256]⟩

abbrev nBuf : Space → Nat
  | .hbm => 15
  | .vmem => 22
  | .smem => 0
  | _ => 0

abbrev bufTy : (tb : Table) → Fin (tcTables nBuf tb) → BufTy
  | .hbm, ⟨0, _⟩ => ⟨S4x2048x6912, .f32⟩
  | .hbm, ⟨1, _⟩ => ⟨S128, .f32⟩
  | .hbm, ⟨2, _⟩ => ⟨S128, .f32⟩
  | .hbm, ⟨3, _⟩ => ⟨S8, .f32⟩
  | .hbm, ⟨4, _⟩ => ⟨S1x8, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x8, .f32⟩
  | .hbm, ⟨14, _⟩ => ⟨S4x2048x8, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x128, .f32⟩
  | .local _ .vmem, ⟨7, _⟩ => ⟨S1x256x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x8, .f32⟩
  | .local _ .vmem, ⟨18, _⟩ => ⟨S1x256x8, .f32⟩
  | .local _ .vmem, ⟨19, _⟩ => ⟨S1x256x8, .f32⟩
  | .local _ .vmem, ⟨20, _⟩ => ⟨S1x256x8, .f32⟩
  | .local _ .vmem, ⟨21, _⟩ => ⟨S1x128, .f32⟩
  | _, _ => ⟨S4x2048x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c52_i32 : BitVec 32 := 52#32
  let c0_i32 : BitVec 32 := 0#32
  ![arg0.toNat, arg1.toNat, c52_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S4x2048x6912 : Shape := ⟨3, ![4, 2048, 6912]⟩
abbrev S128 : Shape := ⟨1, ![128]⟩
abbrev S8 : Shape := ⟨1, ![8]⟩
abbrev S4x2048x1024 : Shape := ⟨3, ![4, 2048, 1024]⟩
abbrev S4x2048x8x128 : Shape := ⟨4, ![4, 2048, 8, 128]⟩
abbrev S_ : Shape := ⟨0, ![]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S1x1x8 : Shape := ⟨3, ![1, 1, 8]⟩

abbrev nBuf : Space → Nat
  | .hbm => 66
  | .vmem => 0
  | .smem => 0
  | _ => 0

abbrev bufTy : (tb : Table) → Fin (tcTables nBuf tb) → BufTy
  | .hbm, ⟨0, _⟩ => ⟨S4x2048x6912, .f32⟩
  | .hbm, ⟨1, _⟩ => ⟨S128, .f32⟩
  | .hbm, ⟨2, _⟩ => ⟨S128, .f32⟩
  | .hbm, ⟨3, _⟩ => ⟨S8, .f32⟩
  | .hbm, ⟨4, _⟩ => ⟨S4x2048x1024, .f32⟩
  | .hbm, ⟨5, _⟩ => ⟨S4x2048x8x128, .f32⟩
  | .hbm, ⟨6, _⟩ => ⟨S4x2048x1024, .f32⟩
  | .hbm, ⟨7, _⟩ => ⟨S4x2048x8x128, .f32⟩
  | .hbm, ⟨8, _⟩ => ⟨S4x2048x8x128, .f32⟩
  | .hbm, ⟨9, _⟩ => ⟨S_, .f32⟩
  | .hbm, ⟨10, _⟩ => ⟨S4x2048x8, .f32⟩
  | .hbm, ⟨11, _⟩ => ⟨S4x2048x8x1, .f32⟩
  | .hbm, ⟨12, _⟩ => ⟨S_, .f32⟩
  | .hbm, ⟨13, _⟩ => ⟨S4x2048x8x1, .f32⟩
  | .hbm, ⟨14, _⟩ => ⟨S4x2048x8x1, .f32⟩
  | .hbm, ⟨15, _⟩ => ⟨S_, .f32⟩
  | .hbm, ⟨16, _⟩ => ⟨S4x2048x8x1, .f32⟩
  | .hbm, ⟨17, _⟩ => ⟨S4x2048x8x1, .f32⟩
  | .hbm, ⟨18, _⟩ => ⟨S4x2048x8x1, .f32⟩
  | .hbm, ⟨19, _⟩ => ⟨S4x2048x8x128, .f32⟩
  | .hbm, ⟨20, _⟩ => ⟨S4x2048x8x128, .f32⟩
  | .hbm, ⟨21, _⟩ => ⟨S1x1x1x128, .f32⟩
  | .hbm, ⟨22, _⟩ => ⟨S4x2048x8x128, .f32⟩
  | .hbm, ⟨23, _⟩ => ⟨S4x2048x8x128, .f32⟩
  | .hbm, ⟨24, _⟩ => ⟨S_, .f32⟩
  | .hbm, ⟨25, _⟩ => ⟨S4x2048x8x128, .f32⟩
  | .hbm, ⟨26, _⟩ => ⟨S4x2048x8x128, .f32⟩
  | .hbm, ⟨27, _⟩ => ⟨S4x2048x8x128, .f32⟩
  | .hbm, ⟨28, _⟩ => ⟨S_, .f32⟩
  | .hbm, ⟨29, _⟩ => ⟨S4x2048x8, .f32⟩
  | .hbm, ⟨30, _⟩ => ⟨S4x2048x8x1, .f32⟩
  | .hbm, ⟨31, _⟩ => ⟨S_, .f32⟩
  | .hbm, ⟨32, _⟩ => ⟨S4x2048x8x1, .f32⟩
  | .hbm, ⟨33, _⟩ => ⟨S4x2048x8x1, .f32⟩
  | .hbm, ⟨34, _⟩ => ⟨S_, .f32⟩
  | .hbm, ⟨35, _⟩ => ⟨S4x2048x8x1, .f32⟩
  | .hbm, ⟨36, _⟩ => ⟨S4x2048x8x1, .f32⟩
  | .hbm, ⟨37, _⟩ => ⟨S4x2048x8x1, .f32⟩
  | .hbm, ⟨38, _⟩ => ⟨S4x2048x8x128, .f32⟩
  | .hbm, ⟨39, _⟩ => ⟨S4x2048x8x128, .f32⟩
  | .hbm, ⟨40, _⟩ => ⟨S1x1x1x128, .f32⟩
  | .hbm, ⟨41, _⟩ => ⟨S4x2048x8x128, .f32⟩
  | .hbm, ⟨42, _⟩ => ⟨S4x2048x8x128, .f32⟩
  | .hbm, ⟨43, _⟩ => ⟨S4x2048x8, .f32⟩
  | .hbm, ⟨44, _⟩ => ⟨S1x1x8, .f32⟩
  | .hbm, ⟨45, _⟩ => ⟨S4x2048x8, .f32⟩
  | .hbm, ⟨46, _⟩ => ⟨S4x2048x8, .f32⟩
  | .hbm, ⟨47, _⟩ => ⟨S4x2048x8, .f32⟩
  | .hbm, ⟨48, _⟩ => ⟨S_, .f32⟩
  | .hbm, ⟨49, _⟩ => ⟨S4x2048x8, .f32⟩
  | .hbm, ⟨50, _⟩ => ⟨S4x2048x8, .f32⟩
  | .hbm, ⟨51, _⟩ => ⟨S4x2048x8, .f32⟩
  | .hbm, ⟨52, _⟩ => ⟨S4x2048x8, .f32⟩
  | .hbm, ⟨53, _⟩ => ⟨S4x2048x8, .i1⟩
  | .hbm, ⟨54, _⟩ => ⟨S4x2048x8, .f32⟩
  | .hbm, ⟨55, _⟩ => ⟨S4x2048x8, .f32⟩
  | .hbm, ⟨56, _⟩ => ⟨S4x2048x8, .f32⟩
  | .hbm, ⟨57, _⟩ => ⟨S4x2048x8, .f32⟩
  | .hbm, ⟨58, _⟩ => ⟨S4x2048x8, .f32⟩
  | .hbm, ⟨59, _⟩ => ⟨S4x2048x8, .f32⟩
  | .hbm, ⟨60, _⟩ => ⟨S4x2048x8, .f32⟩
  | .hbm, ⟨61, _⟩ => ⟨S4x2048x8, .f32⟩
  | .hbm, ⟨62, _⟩ => ⟨S4x2048x8, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | _, _ => ⟨S4x2048x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_call0_cst : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_v1 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]
-- ==== Kernel6.lean ====
abbrev S8x2048 : Shape := ⟨2, ![8, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S2048x512 : Shape := ⟨2, ![2048, 512]⟩
abbrev S512x2048 : Shape := ⟨2, ![512, 2048]⟩
abbrev S8 : Shape := ⟨1, ![8]⟩
abbrev S8x1 : Shape := ⟨2, ![8, 1]⟩
abbrev S8x512 : Shape := ⟨2, ![8, 512]⟩

abbrev nBuf : Space → Nat
  | .hbm => 10
  | .vmem => 11
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S1x2048, .f32⟩
  | .hbm, ⟨9, _⟩ => ⟨S8x2048, .f32⟩
  | .local _ .vmem, ⟨0, _⟩ => ⟨S8x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S8x2048, .f32⟩
  | .local _ .vmem, ⟨9, _⟩ => ⟨S8x2048, .bf16⟩
  | .local _ .vmem, ⟨10, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference6Ideal.lean ====
abbrev S8x2048 : Shape := ⟨2, ![8, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8 : Shape := ⟨1, ![8]⟩
abbrev S8x1 : Shape := ⟨2, ![8, 1]⟩
abbrev S1x2048 : Shape := ⟨2, ![1, 2048]⟩
abbrev S8x5632 : Shape := ⟨2, ![8, 5632]⟩

abbrev nBuf : Space → Nat
  | .hbm => 38
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8x2048, .f32⟩
  | .hbm, ⟨6, _⟩ => ⟨S_, .f32⟩
  | .hbm, ⟨7, _⟩ => ⟨S8, .f32⟩
  | .hbm, ⟨8, _⟩ => ⟨S8x1, .f32⟩
  | .hbm, ⟨9, _⟩ => ⟨S_, .f32⟩
  | .hbm, ⟨10, _⟩ => ⟨S8x1, .f32⟩
  | .hbm, ⟨11, _⟩ => ⟨S8x1, .f32⟩
  | .hbm, ⟨12, _⟩ => ⟨S_, .f32⟩
  | .hbm, ⟨13, _⟩ => ⟨S8x1, .f32⟩
  | .hbm, ⟨14, _⟩ => ⟨S8x1, .f32⟩
  | .hbm, ⟨15, _⟩ => ⟨S8x1, .f32⟩
  | .hbm, ⟨16, _⟩ => ⟨S8x2048, .f32⟩
  | .hbm, ⟨17, _⟩ => ⟨S8x2048, .f32⟩
  | .hbm, ⟨18, _⟩ => ⟨S1x2048, .f32⟩
  | .hbm, ⟨19, _⟩ => ⟨S8x2048, .f32⟩
  | .hbm, ⟨20, _⟩ => ⟨S8x2048, .f32⟩
  | .hbm, ⟨21, _⟩ => ⟨S8x5632, .f32⟩
  | .hbm, ⟨22, _⟩ => ⟨S8x5632, .f32⟩
  | .hbm, ⟨23, _⟩ => ⟨S8x5632, .f32⟩
  | .hbm, ⟨24, _⟩ => ⟨S_, .f32⟩
  | .hbm, ⟨25, _⟩ => ⟨S8x5632, .f32⟩
  | .hbm, ⟨26, _⟩ => ⟨S8x5632, .f32⟩
  | .hbm, ⟨27, _⟩ => ⟨S_, .f32⟩
  | .hbm, ⟨28, _⟩ => ⟨S8x5632, .f32⟩
  | .hbm, ⟨29, _⟩ => ⟨S8x5632, .f32⟩
  | .hbm, ⟨30, _⟩ => ⟨S8x5632, .f32⟩
  | .hbm, ⟨31, _⟩ => ⟨S8x5632, .f32⟩
  | .hbm, ⟨32, _⟩ => ⟨S8x5632, .f32⟩
  | .hbm, ⟨33, _⟩ => ⟨S8x2048, .f32⟩
  | .hbm, ⟨34, _⟩ => ⟨S_, .f32⟩
  | .hbm, ⟨35, _⟩ => ⟨S8x2048, .f32⟩
  | .hbm, ⟨36, _⟩ => ⟨S8x2048, .f32⟩
  | .hbm, ⟨37, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel7.lean ====
abbrev S1x8x6912 : Shape := ⟨3, ![1, 8, 6912]⟩
abbrev S128 : Shape := ⟨1, ![128]⟩
abbrev S8 : Shape := ⟨1, ![8]⟩
abbrev S1x8 : Shape := ⟨2, ![1, 8]⟩
abbrev S_ : Shape := ⟨0, ![]⟩
abbrev S1x128 : Shape := ⟨2, ![1, 128]⟩
abbrev S1x8x1024 : Shape := ⟨3, ![1, 8, 1024]⟩
abbrev S1x8x8 : Shape := ⟨3, ![1, 8, 8]⟩
abbrev S1x8x128 : Shape := ⟨3, ![1, 8, 128]⟩
abbrev S8x128 : Shape := ⟨2, ![8, 128]⟩
abbrev S8x1 : Shape := ⟨2, ![8, 1]⟩
abbrev S8x1024 : Shape := ⟨2, ![8, 1024]⟩
abbrev S8x8 : Shape := ⟨2, ![8, 8]⟩

abbrev nBuf : Space → Nat
  | .hbm => 15
  | .vmem => 13
  | .smem => 0
  | _ => 0

abbrev bufTy : (tb : Table) → Fin (tcTables nBuf tb) → BufTy
  | .hbm, ⟨0, _⟩ => ⟨S1x8x6912, .f32⟩
  | .hbm, ⟨1, _⟩ => ⟨S128, .f32⟩
  | .hbm, ⟨2, _⟩ => ⟨S128, .f32⟩
  | .hbm, ⟨3, _⟩ => ⟨S8, .f32⟩
  | .hbm, ⟨4, _⟩ => ⟨S1x8, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S1x8x1024, .f32⟩
  | .hbm, ⟨11, _⟩ => ⟨S1x8x1024, .f32⟩
  | .hbm, ⟨12, _⟩ => ⟨S1x8x1024, .f32⟩
  | .hbm, ⟨13, _⟩ => ⟨S1x8x8, .f32⟩
  | .hbm, ⟨14, _⟩ => ⟨S1x8x8, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x8x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x8x8, .f32⟩
  | .local _ .vmem, ⟨11, _⟩ => ⟨S1x8x8, .f32⟩
  | .local _ .vmem, ⟨12, _⟩ => ⟨S1x128, .f32⟩
  | _, _ => ⟨S1x8x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c52_i32 : BitVec 32 := 52#32
  let c0_i32 : BitVec 32 := 0#32
  ![arg0.toNat, arg1.toNat, c52_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x8x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x8x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]
-- ==== Reference7Ideal.lean ====
abbrev S1x8x6912 : Shape := ⟨3, ![1, 8, 6912]⟩
abbrev S128 : Shape := ⟨1, ![128]⟩
abbrev S8 : Shape := ⟨1, ![8]⟩
abbrev S1x8x1024 : Shape := ⟨3, ![1, 8, 1024]⟩
abbrev S1x8x8x128 : Shape := ⟨4, ![1, 8, 8, 128]⟩
abbrev S_ : Shape := ⟨0, ![]⟩
abbrev S1x8x8 : Shape := ⟨3, ![1, 8, 8]⟩
abbrev S1x8x8x1 : Shape := ⟨4, ![1, 8, 8, 1]⟩
abbrev S1x1x1x128 : Shape := ⟨4, ![1, 1, 1, 128]⟩
abbrev S1x1x8 : Shape := ⟨3, ![1, 1, 8]⟩

abbrev nBuf : Space → Nat
  | .hbm => 66
  | .vmem => 0
  | .smem => 0
  | _ => 0

abbrev bufTy : (tb : Table) → Fin (tcTables nBuf tb) → BufTy
  | .hbm, ⟨0, _⟩ => ⟨S1x8x6912, .f32⟩
  | .hbm, ⟨1, _⟩ => ⟨S128, .f32⟩
  | .hbm, ⟨2, _⟩ => ⟨S128, .f32⟩
  | .hbm, ⟨3, _⟩ => ⟨S8, .f32⟩
  | .hbm, ⟨4, _⟩ => ⟨S1x8x1024, .f32⟩
  | .hbm, ⟨5, _⟩ => ⟨S1x8x8x128, .f32⟩
  | .hbm, ⟨6, _⟩ => ⟨S1x8x1024, .f32⟩
  | .hbm, ⟨7, _⟩ => ⟨S1x8x8x128, .f32⟩
  | .hbm, ⟨8, _⟩ => ⟨S1x8x8x128, .f32⟩
  | .hbm, ⟨9, _⟩ => ⟨S_, .f32⟩
  | .hbm, ⟨10, _⟩ => ⟨S1x8x8, .f32⟩
  | .hbm, ⟨11, _⟩ => ⟨S1x8x8x1, .f32⟩
  | .hbm, ⟨12, _⟩ => ⟨S_, .f32⟩
  | .hbm, ⟨13, _⟩ => ⟨S1x8x8x1, .f32⟩
  | .hbm, ⟨14, _⟩ => ⟨S1x8x8x1, .f32⟩
  | .hbm, ⟨15, _⟩ => ⟨S_, .f32⟩
  | .hbm, ⟨16, _⟩ => ⟨S1x8x8x1, .f32⟩
  | .hbm, ⟨17, _⟩ => ⟨S1x8x8x1, .f32⟩
  | .hbm, ⟨18, _⟩ => ⟨S1x8x8x1, .f32⟩
  | .hbm, ⟨19, _⟩ => ⟨S1x8x8x128, .f32⟩
  | .hbm, ⟨20, _⟩ => ⟨S1x8x8x128, .f32⟩
  | .hbm, ⟨21, _⟩ => ⟨S1x1x1x128, .f32⟩
  | .hbm, ⟨22, _⟩ => ⟨S1x8x8x128, .f32⟩
  | .hbm, ⟨23, _⟩ => ⟨S1x8x8x128, .f32⟩
  | .hbm, ⟨24, _⟩ => ⟨S_, .f32⟩
  | .hbm, ⟨25, _⟩ => ⟨S1x8x8x128, .f32⟩
  | .hbm, ⟨26, _⟩ => ⟨S1x8x8x128, .f32⟩
  | .hbm, ⟨27, _⟩ => ⟨S1x8x8x128, .f32⟩
  | .hbm, ⟨28, _⟩ => ⟨S_, .f32⟩
  | .hbm, ⟨29, _⟩ => ⟨S1x8x8, .f32⟩
  | .hbm, ⟨30, _⟩ => ⟨S1x8x8x1, .f32⟩
  | .hbm, ⟨31, _⟩ => ⟨S_, .f32⟩
  | .hbm, ⟨32, _⟩ => ⟨S1x8x8x1, .f32⟩
  | .hbm, ⟨33, _⟩ => ⟨S1x8x8x1, .f32⟩
  | .hbm, ⟨34, _⟩ => ⟨S_, .f32⟩
  | .hbm, ⟨35, _⟩ => ⟨S1x8x8x1, .f32⟩
  | .hbm, ⟨36, _⟩ => ⟨S1x8x8x1, .f32⟩
  | .hbm, ⟨37, _⟩ => ⟨S1x8x8x1, .f32⟩
  | .hbm, ⟨38, _⟩ => ⟨S1x8x8x128, .f32⟩
  | .hbm, ⟨39, _⟩ => ⟨S1x8x8x128, .f32⟩
  | .hbm, ⟨40, _⟩ => ⟨S1x1x1x128, .f32⟩
  | .hbm, ⟨41, _⟩ => ⟨S1x8x8x128, .f32⟩
  | .hbm, ⟨42, _⟩ => ⟨S1x8x8x128, .f32⟩
  | .hbm, ⟨43, _⟩ => ⟨S1x8x8, .f32⟩
  | .hbm, ⟨44, _⟩ => ⟨S1x1x8, .f32⟩
  | .hbm, ⟨45, _⟩ => ⟨S1x8x8, .f32⟩
  | .hbm, ⟨46, _⟩ => ⟨S1x8x8, .f32⟩
  | .hbm, ⟨47, _⟩ => ⟨S1x8x8, .f32⟩
  | .hbm, ⟨48, _⟩ => ⟨S_, .f32⟩
  | .hbm, ⟨49, _⟩ => ⟨S1x8x8, .f32⟩
  | .hbm, ⟨50, _⟩ => ⟨S1x8x8, .f32⟩
  | .hbm, ⟨51, _⟩ => ⟨S1x8x8, .f32⟩
  | .hbm, ⟨52, _⟩ => ⟨S1x8x8, .f32⟩
  | .hbm, ⟨53, _⟩ => ⟨S1x8x8, .i1⟩
  | .hbm, ⟨54, _⟩ => ⟨S1x8x8, .f32⟩
  | .hbm, ⟨55, _⟩ => ⟨S1x8x8, .f32⟩
  | .hbm, ⟨56, _⟩ => ⟨S1x8x8, .f32⟩
  | .hbm, ⟨57, _⟩ => ⟨S1x8x8, .f32⟩
  | .hbm, ⟨58, _⟩ => ⟨S1x8x8, .f32⟩
  | .hbm, ⟨59, _⟩ => ⟨S1x8x8, .f32⟩
  | .hbm, ⟨60, _⟩ => ⟨S1x8x8, .f32⟩
  | .hbm, ⟨61, _⟩ => ⟨S1x8x8, .f32⟩
  | .hbm, ⟨62, _⟩ => ⟨S1x8x8, .f32⟩
  | .hbm, ⟨63, _⟩ => ⟨S1x8x1024, .f32⟩
  | .hbm, ⟨64, _⟩ => ⟨S1x8x1024, .f32⟩
  | .hbm, ⟨65, _⟩ => ⟨S1x8x1024, .f32⟩
  | _, _ => ⟨S1x8x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_call0_cst : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_v1 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]
-- ==== Kernel8.lean ====
abbrev S8x6912 : Shape := ⟨2, ![8, 6912]⟩
abbrev S16x256 : Shape := ⟨2, ![16, 256]⟩
abbrev S256 : Shape := ⟨1, ![256]⟩
abbrev S128 : Shape := ⟨1, ![128]⟩
abbrev S8x4x64x128 : Shape := ⟨4, ![8, 4, 64, 128]⟩
abbrev S_ : Shape := ⟨0, ![]⟩
abbrev S128x256 : Shape := ⟨2, ![128, 256]⟩
abbrev S8x1x6912 : Shape := ⟨3, ![8, 1, 6912]⟩
abbrev S8x64x6912 : Shape := ⟨3, ![8, 64, 6912]⟩
abbrev S1x256 : Shape := ⟨2, ![1, 256]⟩
abbrev S1x128 : Shape := ⟨2, ![1, 128]⟩
abbrev S8x64x512 : Shape := ⟨3, ![8, 64, 512]⟩
abbrev S1x64x256 : Shape := ⟨3, ![1, 64, 256]⟩
abbrev S1x64x512 : Shape := ⟨3, ![1, 64, 512]⟩
abbrev S1x64x128 : Shape := ⟨3, ![1, 64, 128]⟩
abbrev S1x4x64x128 : Shape := ⟨4, ![1, 4, 64, 128]⟩
abbrev S4x64x128 : Shape := ⟨3, ![4, 64, 128]⟩
abbrev S64x256 : Shape := ⟨2, ![64, 256]⟩
abbrev S64x64 : Shape := ⟨2, ![64, 64]⟩
abbrev S64x128 : Shape := ⟨2, ![64, 128]⟩
abbrev S64x512 : Shape := ⟨2, ![64, 512]⟩
abbrev S1x8x128 : Shape := ⟨3, ![1, 8, 128]⟩
abbrev S8x128 : Shape := ⟨2, ![8, 128]⟩
abbrev S64 : Shape := ⟨1, ![64]⟩
abbrev S64x1 : Shape := ⟨2, ![64, 1]⟩
abbrev S1x64 : Shape := ⟨2, ![1, 64]⟩

abbrev nBuf : Space → Nat
  | .hbm => 17
  | .vmem => 21
  | .smem => 0
  | _ => 0

abbrev bufTy : (tb : Table) → Fin (tcTables nBuf tb) → BufTy
  | .hbm, ⟨0, _⟩ => ⟨S8x6912, .f32⟩
  | .hbm, ⟨1, _⟩ => ⟨S16x256, .f32⟩
  | .hbm, ⟨2, _⟩ => ⟨S256, .f32⟩
  | .hbm, ⟨3, _⟩ => ⟨S128, .f32⟩
  | .hbm, ⟨4, _⟩ => ⟨S8x4x64x128, .f32⟩
  | .hbm, ⟨5, _⟩ => ⟨S_, .i32⟩
  | .hbm, ⟨6, _⟩ => ⟨S_, .f32⟩
  | .hbm, ⟨7, _⟩ => ⟨S128x256, .f32⟩
  | .hbm, ⟨8, _⟩ => ⟨S128x256, .bf16⟩
  | .hbm, ⟨9, _⟩ => ⟨S8x1x6912, .f32⟩
  | .hbm, ⟨10, _⟩ => ⟨S_, .i32⟩
  | .hbm, ⟨11, _⟩ => ⟨S_, .f32⟩
  | .hbm, ⟨12, _⟩ => ⟨S8x64x6912, .f32⟩
  | .hbm, ⟨13, _⟩ => ⟨S1x256, .f32⟩
  | .hbm, ⟨14, _⟩ => ⟨S1x128, .f32⟩
  | .hbm, ⟨15, _⟩ => ⟨S8x64x512, .f32⟩
  | .hbm, ⟨16, _⟩ => ⟨S8x4x64x128, .f32⟩
  | .local _ .vmem, ⟨0, _⟩ => ⟨S1x64x256, .f32⟩
  | .local _ .vmem, ⟨1, _⟩ => ⟨S1x64x256, .f32⟩
  | .local _ .vmem, ⟨2, _⟩ => ⟨S1x64x256, .f32⟩
  | .local _ .vmem, ⟨3, _⟩ => ⟨S1x64x256, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x128, .f32⟩
  | .local _ .vmem, ⟨9, _⟩ => ⟨S1x64x128, .f32⟩
  | .local _ .vmem, ⟨10, _⟩ => ⟨S128x256, .bf16⟩
  | .local _ .vmem, ⟨11, _⟩ => ⟨S1x256, .f32⟩
  | .local _ .vmem, ⟨12, _⟩ => ⟨S1x128, .f32⟩
  | .local _ .vmem, ⟨13, _⟩ => ⟨S1x4x64x128, .f32⟩
  | .local _ .vmem, ⟨14, _⟩ => ⟨S1x4x64x128, .f32⟩
  | .local _ .vmem, ⟨15, _⟩ => ⟨S1x64x512, .f32⟩
  | .local _ .vmem, ⟨16, _⟩ => ⟨S1x64x512, .f32⟩
  | .local _ .vmem, ⟨17, _⟩ => ⟨S1x4x64x128, .f32⟩
  | .local _ .vmem, ⟨18, _⟩ => ⟨S1x4x64x128, .f32⟩
  | .local _ .vmem, ⟨19, _⟩ => ⟨S4x64x128, .f32⟩
  | .local _ .vmem, ⟨20, _⟩ => ⟨S64x256, .f32⟩
  | _, _ => ⟨S8x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 1], ![false, false]⟩

@[reducible] def k0_t1_loop : Scf.Loop 32 :=
  let c0_i32_29 : BitVec 32 := 0#32
  let c8_i32 : BitVec 32 := 8#32
  let v58 : BitVec 32 := Scalar.addi c0_i32_29 c8_i32
  let c1_i32_30 : BitVec 32 := 1#32
  ⟨c0_i32_29, v58, c1_i32_30⟩
def k0_mult1 (k0_t1 : Fin k0_t1_loop.trips) : BitVec 32 :=
  let c0_i32_29 : BitVec 32 := 0#32
  let c1_i32_30 : BitVec 32 := 1#32
  let arg15 : BitVec 32 := Scf.iv c0_i32_29 c1_i32_30 k0_t1
  let c8_i32_127 : BitVec 32 := 8#32
  let v327 : BitVec 32 := Scalar.muli arg15 c8_i32_127
  v327
def k0_off1 (k0_t1 : Fin k0_t1_loop.trips) : Fin 3 → Nat :=
  let c0_128 : Index := 0#32
  let c0_i32_29 : BitVec 32 := 0#32
  let c1_i32_30 : BitVec 32 := 1#32
  let arg15 : BitVec 32 := Scf.iv c0_i32_29 c1_i32_30 k0_t1
  let c8_i32_127 : BitVec 32 := 8#32
  let v327 : BitVec 32 := Scalar.muli arg15 c8_i32_127
  let v328 : BitVec 32 := v327
  let v329 : Index := Scalar.indexCast v328
  let c0_129 : Index := 0#32
  ![0, v329.toNat, 0]
def k0_off2 (k0_t1 : Fin k0_t1_loop.trips) : Fin 2 → Nat :=
  let c0_i32_29 : BitVec 32 := 0#32
  let c1_i32_30 : BitVec 32 := 1#32
  let arg15 : BitVec 32 := Scf.iv c0_i32_29 c1_i32_30 k0_t1
  let c8_i32_127 : BitVec 32 := 8#32
  let v327 : BitVec 32 := Scalar.muli arg15 c8_i32_127
  let v328 : BitVec 32 := v327
  let v334 : Index := Scalar.indexCast v328
  let c0_131 : Index := 0#32
  ![v334.toNat, 0]
@[reducible] def k0_t2_loop : Scf.Loop 32 :=
  let c0_i32_34 : BitVec 32 := 0#32
  let c8_i32_35 : BitVec 32 := 8#32
  let v68 : BitVec 32 := Scalar.addi c0_i32_34 c8_i32_35
  let c1_i32_36 : BitVec 32 := 1#32
  ⟨c0_i32_34, v68, c1_i32_36⟩
def k0_mult2 (k0_t2 : Fin k0_t2_loop.trips) : BitVec 32 :=
  let c0_i32_34 : BitVec 32 := 0#32
  let c1_i32_36 : BitVec 32 := 1#32
  let arg15 : BitVec 32 := Scf.iv c0_i32_34 c1_i32_36 k0_t2
  let c8_i32_127 : BitVec 32 := 8#32
  let v327 : BitVec 32 := Scalar.muli arg15 c8_i32_127
  v327
def k0_off3 (k0_t2 : Fin k0_t2_loop.trips) : Fin 3 → Nat :=
  let c0_128 : Index := 0#32
  let c0_i32_34 : BitVec 32 := 0#32
  let c1_i32_36 : BitVec 32 := 1#32
  let arg15 : BitVec 32 := Scf.iv c0_i32_34 c1_i32_36 k0_t2
  let c8_i32_127 : BitVec 32 := 8#32
  let v327 : BitVec 32 := Scalar.muli arg15 c8_i32_127
  let v328 : BitVec 32 := v327
  let v329 : Index := Scalar.indexCast v328
  let c128_129 : Index := 128#32
  ![0, v329.toNat, 128]
def k0_off4 (k0_t2 : Fin k0_t2_loop.trips) : Fin 2 → Nat :=
  let c0_i32_34 : BitVec 32 := 0#32
  let c1_i32_36 : BitVec 32 := 1#32
  let arg15 : BitVec 32 := Scf.iv c0_i32_34 c1_i32_36 k0_t2
  let c8_i32_127 : BitVec 32 := 8#32
  let v327 : BitVec 32 := Scalar.muli arg15 c8_i32_127
  let v328 : BitVec 32 := v327
  let v334 : Index := Scalar.indexCast v328
  let c128_131 : Index := 128#32
  ![v334.toNat, 128]
def k0_cond2 (i : grid0.Coords) : BitVec 1 :=
  let arg1 : BitVec 32 := BitVec.ofNat 32 (i 1).val
  let c0_i32_125 : BitVec 32 := 0#32
  let v324 : BitVec 1 := Scalar.cmpi .eq arg1 c0_i32_125
  let v325 : BitVec 32 := Scalar.extui v324
  let c0_i32_126 : BitVec 32 := 0#32
  let v326 : BitVec 1 := Scalar.cmpi .ne v325 c0_i32_126
  v326

def cc0_transform_0 (i : grid0.Coords) : Fin 3 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg0.toNat, arg1.toNat, c24_i32.toNat]

def cc0_transform_1 (i : grid0.Coords) : Fin 3 → Nat :=
  let arg0 : BitVec 32 := BitVec.ofNat 32 (i 0).val
  let arg1 : BitVec 32 := BitVec.ofNat 32 (i 1).val
  let c25_i32 : BitVec 32 := 25#32
  let c0_i32 : BitVec 32 := 0#32
  ![arg0.toNat, arg1.toNat, c25_i32.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_4 (i : grid0.Coords) : Fin 3 → Nat :=
  let arg0 : BitVec 32 := BitVec.ofNat 32 (i 0).val
  let arg1 : BitVec 32 := BitVec.ofNat 32 (i 1).val
  let c52_i32 : BitVec 32 := 52#32
  let c0_i32 : BitVec 32 := 0#32
  ![arg0.toNat, arg1.toNat, c52_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference8Ideal.lean ====
abbrev S8x6912 : Shape := ⟨2, ![8, 6912]⟩
abbrev S16x256 : Shape := ⟨2, ![16, 256]⟩
abbrev S256 : Shape := ⟨1, ![256]⟩
abbrev S128 : Shape := ⟨1, ![128]⟩
abbrev S8x4x64x128 : Shape := ⟨4, ![8, 4, 64, 128]⟩
abbrev S8x256 : Shape := ⟨2, ![8, 256]⟩
abbrev S8x4x64 : Shape := ⟨3, ![8, 4, 64]⟩
abbrev S8x512 : Shape := ⟨2, ![8, 512]⟩
abbrev S8x4x128 : Shape := ⟨3, ![8, 4, 128]⟩
abbrev S8x16 : Shape := ⟨2, ![8, 16]⟩
abbrev S1x256 : Shape := ⟨2, ![1, 256]⟩
abbrev S_ : Shape := ⟨0, ![]⟩
abbrev S8x4x64x1 : Shape := ⟨4, ![8, 4, 64, 1]⟩
abbrev S8x4x1x128 : Shape := ⟨4, ![8, 4, 1, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x6912, .f32⟩
  | .hbm, ⟨1, _⟩ => ⟨S16x256, .f32⟩
  | .hbm, ⟨2, _⟩ => ⟨S256, .f32⟩
  | .hbm, ⟨3, _⟩ => ⟨S128, .f32⟩
  | .hbm, ⟨4, _⟩ => ⟨S8x4x64x128, .f32⟩
  | .hbm, ⟨5, _⟩ => ⟨S8x256, .f32⟩
  | .hbm, ⟨6, _⟩ => ⟨S8x4x64, .f32⟩
  | .hbm, ⟨7, _⟩ => ⟨S8x512, .f32⟩
  | .hbm, ⟨8, _⟩ => ⟨S8x4x128, .f32⟩
  | .hbm, ⟨9, _⟩ => ⟨S8x16, .f32⟩
  | .hbm, ⟨10, _⟩ => ⟨S8x256, .f32⟩
  | .hbm, ⟨11, _⟩ => ⟨S1x256, .f32⟩
  | .hbm, ⟨12, _⟩ => ⟨S8x256, .f32⟩
  | .hbm, ⟨13, _⟩ => ⟨S8x256, .f32⟩
  | .hbm, ⟨14, _⟩ => ⟨S8x256, .f32⟩
  | .hbm, ⟨15, _⟩ => ⟨S_, .f32⟩
  | .hbm, ⟨16, _⟩ => ⟨S8x256, .f32⟩
  | .hbm, ⟨17, _⟩ => ⟨S8x256, .f32⟩
  | .hbm, ⟨18, _⟩ => ⟨S8x256, .f32⟩
  | .hbm, ⟨19, _⟩ => ⟨S8x256, .f32⟩
  | .hbm, ⟨20, _⟩ => ⟨S8x256, .i1⟩
  | .hbm, ⟨21, _⟩ => ⟨S8x256, .f32⟩
  | .hbm, ⟨22, _⟩ => ⟨S8x256, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S8x256, .f32⟩
  | .hbm, ⟨27, _⟩ => ⟨S8x256, .f32⟩
  | .hbm, ⟨28, _⟩ => ⟨S8x256, .f32⟩
  | .hbm, ⟨29, _⟩ => ⟨S8x256, .f32⟩
  | .hbm, ⟨30, _⟩ => ⟨S8x4x64, .f32⟩
  | .hbm, ⟨31, _⟩ => ⟨S_, .f32⟩
  | .hbm, ⟨32, _⟩ => ⟨S8x4x64, .f32⟩
  | .hbm, ⟨33, _⟩ => ⟨S8x4x64, .f32⟩
  | .hbm, ⟨34, _⟩ => ⟨S8x4x64, .f32⟩
  | .hbm, ⟨35, _⟩ => ⟨S8x4x64x1, .f32⟩
  | .hbm, ⟨36, _⟩ => ⟨S8x4x64x128, .f32⟩
  | .hbm, ⟨37, _⟩ => ⟨S8x4x64x128, .f32⟩
  | .hbm, ⟨38, _⟩ => ⟨S8x4x64, .f32⟩
  | .hbm, ⟨39, _⟩ => ⟨S8x4x64, .f32⟩
  | .hbm, ⟨40, _⟩ => ⟨S8x4x64, .f32⟩
  | .hbm, ⟨41, _⟩ => ⟨S8x4x64x1, .f32⟩
  | .hbm, ⟨42, _⟩ => ⟨S8x4x1x128, .f32⟩
  | .hbm, ⟨43, _⟩ => ⟨S8x4x64x128, .f32⟩
  | .hbm, ⟨44, _⟩ => ⟨S8x4x64x128, .f32⟩
  | .hbm, ⟨45, _⟩ => ⟨S8x4x64x128, .f32⟩
  | .hbm, ⟨46, _⟩ => ⟨S8x4x64x128, .f32⟩
  | _, _ => ⟨S8x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]
-- ==== Kernel9.lean ====
abbrev S8x6912 : Shape := ⟨2, ![8, 6912]⟩
abbrev S4x1536 : Shape := ⟨2, ![4, 1536]⟩
abbrev S8x3x1536 : Shape := ⟨3, ![8, 3, 1536]⟩
abbrev S4 : Shape := ⟨1, ![4]⟩
abbrev S128 : Shape := ⟨1, ![128]⟩
abbrev S8x4x128x128 : Shape := ⟨4, ![8, 4, 128, 128]⟩
abbrev S8x1x6912 : Shape := ⟨3, ![8, 1, 6912]⟩
abbrev S_ : Shape := ⟨0, ![]⟩
abbrev S8x64x6912 : Shape := ⟨3, ![8, 64, 6912]⟩
abbrev S1x4 : Shape := ⟨2, ![1, 4]⟩
abbrev S1x128 : Shape := ⟨2, ![1, 128]⟩
abbrev S8x64x512 : Shape := ⟨3, ![8, 64, 512]⟩
abbrev S1x64x1536 : Shape := ⟨3, ![1, 64, 1536]⟩
abbrev S1x64x512 : Shape := ⟨3, ![1, 64, 512]⟩
abbrev S1x64x128 : Shape := ⟨3, ![1, 64, 128]⟩
abbrev S1x3x1536 : Shape := ⟨3, ![1, 3, 1536]⟩
abbrev S1x4x128x128 : Shape := ⟨4, ![1, 4, 128, 128]⟩
abbrev S4x128x128 : Shape := ⟨3, ![4, 128, 128]⟩
abbrev S72x1536 : Shape := ⟨2, ![72, 1536]⟩
abbrev S3x1536 : Shape := ⟨2, ![3, 1536]⟩
abbrev S64x1536 : Shape := ⟨2, ![64, 1536]⟩
abbrev S1x1536 : Shape := ⟨2, ![1, 1536]⟩
abbrev S64x128 : Shape := ⟨2, ![64, 128]⟩
abbrev S64x64 : Shape := ⟨2, ![64, 64]⟩
abbrev S64 : Shape := ⟨1, ![64]⟩
abbrev S64x1 : Shape := ⟨2, ![64, 1]⟩
abbrev S64x256 : Shape := ⟨2, ![64, 256]⟩
abbrev S1x128x128 : Shape := ⟨3, ![1, 128, 128]⟩
abbrev S128x128 : Shape := ⟨2, ![128, 128]⟩
abbrev S1x1 : Shape := ⟨2, ![1, 1]⟩

abbrev nBuf : Space → Nat
  | .hbm => 23
  | .vmem => 22
  | .smem => 0
  | _ => 0

abbrev bufTy : (tb : Table) → Fin (tcTables nBuf tb) → BufTy
  | .hbm, ⟨0, _⟩ => ⟨S8x6912, .f32⟩
  | .hbm, ⟨1, _⟩ => ⟨S4x1536, .f32⟩
  | .hbm, ⟨2, _⟩ => ⟨S8x3x1536, .f32⟩
  | .hbm, ⟨3, _⟩ => ⟨S4, .f32⟩
  | .hbm, ⟨4, _⟩ => ⟨S4, .f32⟩
  | .hbm, ⟨5, _⟩ => ⟨S128, .f32⟩
  | .hbm, ⟨6, _⟩ => ⟨S8x4x128x128, .f32⟩
  | .hbm, ⟨7, _⟩ => ⟨S8x1x6912, .f32⟩
  | .hbm, ⟨8, _⟩ => ⟨S_, .i32⟩
  | .hbm, ⟨9, _⟩ => ⟨S_, .f32⟩
  | .hbm, ⟨10, _⟩ => ⟨S8x64x6912, .f32⟩
  | .hbm, ⟨11, _⟩ => ⟨S1x4, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S1x4, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S1x128, .f32⟩
  | .hbm, ⟨20, _⟩ => ⟨S8x64x512, .f32⟩
  | .hbm, ⟨21, _⟩ => ⟨S8x4x128x128, .f32⟩
  | .hbm, ⟨22, _⟩ => ⟨S8x3x1536, .f32⟩
  | .local _ .vmem, ⟨0, _⟩ => ⟨S1x64x1536, .f32⟩
  | .local _ .vmem, ⟨1, _⟩ => ⟨S1x64x1536, .f32⟩
  | .local _ .vmem, ⟨2, _⟩ => ⟨S1x64x512, .f32⟩
  | .local _ .vmem, ⟨3, _⟩ => ⟨S1x64x512, .f32⟩
  | .local _ .vmem, ⟨4, _⟩ => ⟨S1x64x128, .f32⟩
  | .local _ .vmem, ⟨5, _⟩ => ⟨S1x64x128, .f32⟩
  | .local _ .vmem, ⟨6, _⟩ => ⟨S4x1536, .f32⟩
  | .local _ .vmem, ⟨7, _⟩ => ⟨S1x3x1536, .f32⟩
  | .local _ .vmem, ⟨8, _⟩ => ⟨S1x3x1536, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x4x128x128, .f32⟩
  | .local _ .vmem, ⟨13, _⟩ => ⟨S1x4x128x128, .f32⟩
  | .local _ .vmem, ⟨14, _⟩ => ⟨S1x64x512, .f32⟩
  | .local _ .vmem, ⟨15, _⟩ => ⟨S1x64x512, .f32⟩
  | .local _ .vmem, ⟨16, _⟩ => ⟨S1x4x128x128, .f32⟩
  | .local _ .vmem, ⟨17, _⟩ => ⟨S1x4x128x128, .f32⟩
  | .local _ .vmem, ⟨18, _⟩ => ⟨S1x3x1536, .f32⟩
  | .local _ .vmem, ⟨19, _⟩ => ⟨S1x3x1536, .f32⟩
  | .local _ .vmem, ⟨20, _⟩ => ⟨S4x128x128, .f32⟩
  | .local _ .vmem, ⟨21, _⟩ => ⟨S72x1536, .f32⟩
  | _, _ => ⟨S8x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_call2_v0 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg1 : BitVec 32 := BitVec.ofNat 32 (i 1).val
  let c0_i32_405 : BitVec 32 := 0#32
  let v1060 : BitVec 1 := Scalar.cmpi .eq arg1 c0_i32_405
  let v1061 : BitVec 32 := Scalar.extui v1060
  let c0_i32_406 : BitVec 32 := 0#32
  let v1062 : BitVec 1 := Scalar.cmpi .ne v1061 c0_i32_406
  v1062

def k0_cond2 (i : grid0.Coords) : BitVec 1 :=
  let arg1 : BitVec 32 := BitVec.ofNat 32 (i 1).val
  let c0_i32_16 : BitVec 32 := 0#32
  let v35 : BitVec 1 := Scalar.cmpi .eq arg1 c0_i32_16
  let v36 : BitVec 32 := Scalar.extui v35
  let c0_i32_17 : BitVec 32 := 0#32
  let v37 : BitVec 1 := Scalar.cmpi .ne v36 c0_i32_17
  v37

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_2 (i : grid0.Coords) : Fin 3 → Nat :=
  let arg0 : BitVec 32 := BitVec.ofNat 32 (i 0).val
  let arg1 : BitVec 32 := BitVec.ofNat 32 (i 1).val
  let c52_i32 : BitVec 32 := 52#32
  let c0_i32 : BitVec 32 := 0#32
  ![arg0.toNat, arg1.toNat, c52_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x3x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x3x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference9Ideal.lean ====
abbrev S8x6912 : Shape := ⟨2, ![8, 6912]⟩
abbrev S4x1536 : Shape := ⟨2, ![4, 1536]⟩
abbrev S8x3x1536 : Shape := ⟨3, ![8, 3, 1536]⟩
abbrev S4 : Shape := ⟨1, ![4]⟩
abbrev S128 : Shape := ⟨1, ![128]⟩
abbrev S8x4x128x128 : Shape := ⟨4, ![8, 4, 128, 128]⟩
abbrev S8x1536 : Shape := ⟨2, ![8, 1536]⟩
abbrev S8x1x1536 : Shape := ⟨3, ![8, 1, 1536]⟩
abbrev S8x4x1536 : Shape := ⟨3, ![8, 4, 1536]⟩
abbrev S1x1536 : Shape := ⟨2, ![1, 1536]⟩
abbrev S1536 : Shape := ⟨1, ![1536]⟩
abbrev S_ : Shape := ⟨0, ![]⟩
abbrev S8x512 : Shape := ⟨2, ![8, 512]⟩
abbrev S8x4x128 : Shape := ⟨3, ![8, 4, 128]⟩
abbrev S8x4 : Shape := ⟨2, ![8, 4]⟩
abbrev S8x4x1 : Shape := ⟨3, ![8, 4, 1]⟩
abbrev S1x4 : Shape := ⟨2, ![1, 4]⟩
abbrev S8x4x1x1 : Shape := ⟨4, ![8, 4, 1, 1]⟩
abbrev S8x4x128x1 : Shape := ⟨4, ![8, 4, 128, 1]⟩
abbrev S8x4x1x128 : Shape := ⟨4, ![8, 4, 1, 128]⟩

abbrev nBuf : Space → Nat
  | .hbm => 122
  | .vmem => 0
  | .smem => 0
  | _ => 0

abbrev bufTy : (tb : Table) → Fin (tcTables nBuf tb) → BufTy
  | .hbm, ⟨0, _⟩ => ⟨S8x6912, .f32⟩
  | .hbm, ⟨1, _⟩ => ⟨S4x1536, .f32⟩
  | .hbm, ⟨2, _⟩ => ⟨S8x3x1536, .f32⟩
  | .hbm, ⟨3, _⟩ => ⟨S4, .f32⟩
  | .hbm, ⟨4, _⟩ => ⟨S4, .f32⟩
  | .hbm, ⟨5, _⟩ => ⟨S128, .f32⟩
  | .hbm, ⟨6, _⟩ => ⟨S8x4x128x128, .f32⟩
  | .hbm, ⟨7, _⟩ => ⟨S8x1536, .f32⟩
  | .hbm, ⟨8, _⟩ => ⟨S8x1x1536, .f32⟩
  | .hbm, ⟨9, _⟩ => ⟨S8x4x1536, .f32⟩
  | .hbm, ⟨10, _⟩ => ⟨S8x1x1536, .f32⟩
  | .hbm, ⟨11, _⟩ => ⟨S8x1536, .f32⟩
  | .hbm, ⟨12, _⟩ => ⟨S1x1536, .f32⟩
  | .hbm, ⟨13, _⟩ => ⟨S1536, .f32⟩
  | .hbm, ⟨14, _⟩ => ⟨S1x1536, .f32⟩
  | .hbm, ⟨15, _⟩ => ⟨S8x1536, .f32⟩
  | .hbm, ⟨16, _⟩ => ⟨S8x1536, .f32⟩
  | .hbm, ⟨17, _⟩ => ⟨S8x1x1536, .f32⟩
  | .hbm, ⟨18, _⟩ => ⟨S8x1536, .f32⟩
  | .hbm, ⟨19, _⟩ => ⟨S1x1536, .f32⟩
  | .hbm, ⟨20, _⟩ => ⟨S1536, .f32⟩
  | .hbm, ⟨21, _⟩ => ⟨S1x1536, .f32⟩
  | .hbm, ⟨22, _⟩ => ⟨S8x1536, .f32⟩
  | .hbm, ⟨23, _⟩ => ⟨S8x1536, .f32⟩
  | .hbm, ⟨24, _⟩ => ⟨S8x1536, .f32⟩
  | .hbm, ⟨25, _⟩ => ⟨S8x1x1536, .f32⟩
  | .hbm, ⟨26, _⟩ => ⟨S8x1536, .f32⟩
  | .hbm, ⟨27, _⟩ => ⟨S1x1536, .f32⟩
  | .hbm, ⟨28, _⟩ => ⟨S1536, .f32⟩
  | .hbm, ⟨29, _⟩ => ⟨S1x1536, .f32⟩
  | .hbm, ⟨30, _⟩ => ⟨S8x1536, .f32⟩
  | .hbm, ⟨31, _⟩ => ⟨S8x1536, .f32⟩
  | .hbm, ⟨32, _⟩ => ⟨S8x1536, .f32⟩
  | .hbm, ⟨33, _⟩ => ⟨S8x1x1536, .f32⟩
  | .hbm, ⟨34, _⟩ => ⟨S8x1536, .f32⟩
  | .hbm, ⟨35, _⟩ => ⟨S1x1536, .f32⟩
  | .hbm, ⟨36, _⟩ => ⟨S1536, .f32⟩
  | .hbm, ⟨37, _⟩ => ⟨S1x1536, .f32⟩
  | .hbm, ⟨38, _⟩ => ⟨S8x1536, .f32⟩
  | .hbm, ⟨39, _⟩ => ⟨S8x1536, .f32⟩
  | .hbm, ⟨40, _⟩ => ⟨S8x1536, .f32⟩
  | .hbm, ⟨41, _⟩ => ⟨S8x1536, .f32⟩
  | .hbm, ⟨42, _⟩ => ⟨S8x1536, .f32⟩
  | .hbm, ⟨43, _⟩ => ⟨S_, .f32⟩
  | .hbm, ⟨44, _⟩ => ⟨S8x1536, .f32⟩
  | .hbm, ⟨45, _⟩ => ⟨S8x1536, .f32⟩
  | .hbm, ⟨46, _⟩ => ⟨S_, .f32⟩
  | .hbm, ⟨47, _⟩ => ⟨S8x1536, .f32⟩
  | .hbm, ⟨48, _⟩ => ⟨S8x1536, .f32⟩
  | .hbm, ⟨49, _⟩ => ⟨S8x1536, .f32⟩
  | .hbm, ⟨50, _⟩ => ⟨S8x512, .f32⟩
  | .hbm, ⟨51, _⟩ => ⟨S8x4x128, .f32⟩
  | .hbm, ⟨52, _⟩ => ⟨S8x512, .f32⟩
  | .hbm, ⟨53, _⟩ => ⟨S8x4x128, .f32⟩
  | .hbm, ⟨54, _⟩ => ⟨S8x4x128, .f32⟩
  | .hbm, ⟨55, _⟩ => ⟨S_, .f32⟩
  | .hbm, ⟨56, _⟩ => ⟨S8x4, .f32⟩
  | .hbm, ⟨57, _⟩ => ⟨S8x4x1, .f32⟩
  | .hbm, ⟨58, _⟩ => ⟨S_, .f32⟩
  | .hbm, ⟨59, _⟩ => ⟨S8x4x1, .f32⟩
  | .hbm, ⟨60, _⟩ => ⟨S8x4x1, .f32⟩
  | .hbm, ⟨61, _⟩ => ⟨S8x4x1, .f32⟩
  | .hbm, ⟨62, _⟩ => ⟨S8x4x128, .f32⟩
  | .hbm, ⟨63, _⟩ => ⟨S8x4x128, .f32⟩
  | .hbm, ⟨64, _⟩ => ⟨S8x4, .f32⟩
  | .hbm, ⟨65, _⟩ => ⟨S8x4, .f32⟩
  | .hbm, ⟨66, _⟩ => ⟨S8x4, .f32⟩
  | .hbm, ⟨67, _⟩ => ⟨S_, .f32⟩
  | .hbm, ⟨68, _⟩ => ⟨S8x4, .f32⟩
  | .hbm, ⟨69, _⟩ => ⟨S8x4, .f32⟩
  | .hbm, ⟨70, _⟩ => ⟨S_, .f32⟩
  | .hbm, ⟨71, _⟩ => ⟨S8x4, .f32⟩
  | .hbm, ⟨72, _⟩ => ⟨S8x4, .f32⟩
  | .hbm, ⟨73, _⟩ => ⟨S8x4x1, .f32⟩
  | .hbm, ⟨74, _⟩ => ⟨S4, .f32⟩
  | .hbm, ⟨75, _⟩ => ⟨S4, .f32⟩
  | .hbm, ⟨76, _⟩ => ⟨S8x4, .f32⟩
  | .hbm, ⟨77, _⟩ => ⟨S1x4, .f32⟩
  | .hbm, ⟨78, _⟩ => ⟨S8x4, .f32⟩
  | .hbm, ⟨79, _⟩ => ⟨S8x4, .f32⟩
  | .hbm, ⟨80, _⟩ => ⟨S_, .f32⟩
  | .hbm, ⟨81, _⟩ => ⟨S8x4, .f32⟩
  | .hbm, ⟨82, _⟩ => ⟨S8x4, .f32⟩
  | .hbm, ⟨83, _⟩ => ⟨S8x4, .f32⟩
  | .hbm, ⟨84, _⟩ => ⟨S8x4, .f32⟩
  | .hbm, ⟨85, _⟩ => ⟨S8x4, .i1⟩
  | .hbm, ⟨86, _⟩ => ⟨S8x4, .f32⟩
  | .hbm, ⟨87, _⟩ => ⟨S8x4, .f32⟩
  | .hbm, ⟨88, _⟩ => ⟨S8x4, .f32⟩
  | .hbm, ⟨89, _⟩ => ⟨S8x4, .f32⟩
  | .hbm, ⟨90, _⟩ => ⟨S8x4, .f32⟩
  | .hbm, ⟨91, _⟩ => ⟨S8x4, .f32⟩
  | .hbm, ⟨92, _⟩ => ⟨S8x4, .f32⟩
  | .hbm, ⟨93, _⟩ => ⟨S8x4, .f32⟩
  | .hbm, ⟨94, _⟩ => ⟨S1x4, .f32⟩
  | .hbm, ⟨95, _⟩ => ⟨S8x4, .f32⟩
  | .hbm, ⟨96, _⟩ => ⟨S8x4, .f32⟩
  | .hbm, ⟨97, _⟩ => ⟨S8x4x1, .f32⟩
  | .hbm, ⟨98, _⟩ => ⟨S8x4x128, .f32⟩
  | .hbm, ⟨99, _⟩ => ⟨S8x4x128, .f32⟩
  | .hbm, ⟨100, _⟩ => ⟨S8x4x128, .f32⟩
  | .hbm, ⟨101, _⟩ => ⟨S8x4x128, .f32⟩
  | .hbm, ⟨102, _⟩ => ⟨S8x4x1, .f32⟩
  | .hbm, ⟨103, _⟩ => ⟨S8x4x128, .f32⟩
  | .hbm, ⟨104, _⟩ => ⟨S8x4x128, .f32⟩
  | .hbm, ⟨105, _⟩ => ⟨S8x4x128, .f32⟩
  | .hbm, ⟨106, _⟩ => ⟨S8x4x128, .f32⟩
  | .hbm, ⟨107, _⟩ => ⟨S8x4x1, .f32⟩
  | .hbm, ⟨108, _⟩ => ⟨S8x4x1x1, .f32⟩
  | .hbm, ⟨109, _⟩ => ⟨S8x4x128x128, .f32⟩
  | .hbm, ⟨110, _⟩ => ⟨S8x4x128x128, .f32⟩
  | .hbm, ⟨111, _⟩ => ⟨S8x4x1, .f32⟩
  | .hbm, ⟨112, _⟩ => ⟨S8x4x1, .f32⟩
  | .hbm, ⟨113, _⟩ => ⟨S8x4x128, .f32⟩
  | .hbm, ⟨114, _⟩ => ⟨S8x4x128, .f32⟩
  | .hbm, ⟨115, _⟩ => ⟨S8x4x128x1, .f32⟩
  | .hbm, ⟨116, _⟩ => ⟨S8x4x1x128, .f32⟩
  | .hbm, ⟨117, _⟩ => ⟨S8x4x128x128, .f32⟩
  | .hbm, ⟨118, _⟩ => ⟨S8x4x128x128, .f32⟩
  | .hbm, ⟨119, _⟩ => ⟨S8x4x128x128, .f32⟩
  | .hbm, ⟨120, _⟩ => ⟨S8x4x128x128, .f32⟩
  | .hbm, ⟨121, _⟩ => ⟨S8x3x1536, .f32⟩
  | _, _ => ⟨S8x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst : Ref sig .tc := ⟨.hbm, 55, rfl⟩
abbrev main_v40 : Ref sig .tc := ⟨.hbm, 56, rfl⟩
abbrev main_v41 : Ref sig .tc := ⟨.hbm, 57, rfl⟩
abbrev main_cst_0 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_1 : Ref sig .tc := ⟨.hbm, 67, rfl⟩
abbrev main_v50 : Ref sig .tc := ⟨.hbm, 68, rfl⟩
abbrev main_v51 : Ref sig .tc := ⟨.hbm, 69, rfl⟩
abbrev main_cst_2 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩

abbrev nD : Nat := 1
abbrev τ : Topo := Topo.v7x

variable {F : FTy → Type} [FloatOps F]
-- ==== Kernel10.lean ====
abbrev S8x2048 : Shape := ⟨2, ![8, 2048]⟩
abbrev S2048 : Shape := ⟨1, ![2048]⟩
abbrev S2048x6912 : Shape := ⟨2, ![2048, 6912]⟩
abbrev S1x2048 : Shape := ⟨2, ![1, 2048]⟩
abbrev S8x6912 : Shape := ⟨2, ![8, 6912]⟩
abbrev S2048x768 : Shape := ⟨2, ![2048, 768]⟩
abbrev S8x768 : Shape := ⟨2, ![8, 768]⟩
abbrev S8 : Shape := ⟨1, ![8]⟩
abbrev S8x1 : Shape := ⟨2, ![8, 1]⟩

abbrev nBuf : Space → Nat
  | .hbm => 6
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2048x6912, .f32⟩
  | .hbm, ⟨3, _⟩ => ⟨S2048x6912, .bf16⟩
  | .hbm, ⟨4, _⟩ => ⟨S1x2048, .f32⟩
  | .hbm, ⟨5, _⟩ => ⟨S8x6912, .f32⟩
  | .local _ .vmem, ⟨0, _⟩ => ⟨S8x2048, .f32⟩
  | .local _ .vmem, ⟨1, _⟩ => ⟨S1x2048, .f32⟩
  | .local _ .vmem, ⟨2, _⟩ => ⟨S2048x768, .bf16⟩
  | .local _ .vmem, ⟨3, _⟩ => ⟨S2048x768, .bf16⟩
  | .local _ .vmem, ⟨4, _⟩ => ⟨S8x768, .f32⟩
  | .local _ .vmem, ⟨5, _⟩ => ⟨S8x768, .f32⟩
  | .local _ .vmem, ⟨6, _⟩ => ⟨S8x2048, .bf16⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8x2048 : Shape := ⟨2, ![8, 2048]⟩
abbrev S2048 : Shape := ⟨1, ![2048]⟩
abbrev S2048x6912 : Shape := ⟨2, ![2048, 6912]⟩
abbrev S_ : Shape := ⟨0, ![]⟩
abbrev S8 : Shape := ⟨1, ![8]⟩
abbrev S8x1 : Shape := ⟨2, ![8, 1]⟩
abbrev S1x2048 : Shape := ⟨2, ![1, 2048]⟩
abbrev S8x6912 : Shape := ⟨2, ![8, 6912]⟩

abbrev nBuf : Space → Nat
  | .hbm => 20
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2048x6912, .f32⟩
  | .hbm, ⟨3, _⟩ => ⟨S8x2048, .f32⟩
  | .hbm, ⟨4, _⟩ => ⟨S_, .f32⟩
  | .hbm, ⟨5, _⟩ => ⟨S8, .f32⟩
  | .hbm, ⟨6, _⟩ => ⟨S8x1, .f32⟩
  | .hbm, ⟨7, _⟩ => ⟨S_, .f32⟩
  | .hbm, ⟨8, _⟩ => ⟨S8x1, .f32⟩
  | .hbm, ⟨9, _⟩ => ⟨S8x1, .f32⟩
  | .hbm, ⟨10, _⟩ => ⟨S_, .f32⟩
  | .hbm, ⟨11, _⟩ => ⟨S8x1, .f32⟩
  | .hbm, ⟨12, _⟩ => ⟨S8x1, .f32⟩
  | .hbm, ⟨13, _⟩ => ⟨S8x1, .f32⟩
  | .hbm, ⟨14, _⟩ => ⟨S8x2048, .f32⟩
  | .hbm, ⟨15, _⟩ => ⟨S8x2048, .f32⟩
  | .hbm, ⟨16, _⟩ => ⟨S1x2048, .f32⟩
  | .hbm, ⟨17, _⟩ => ⟨S8x2048, .f32⟩
  | .hbm, ⟨18, _⟩ => ⟨S8x2048, .f32⟩
  | .hbm, ⟨19, _⟩ => ⟨S8x6912, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel11.lean ====
abbrev S8x2048 : Shape := ⟨2, ![8, 2048]⟩
abbrev S8x512 : Shape := ⟨2, ![8, 512]⟩
abbrev S8x1024 : Shape := ⟨2, ![8, 1024]⟩
abbrev S2048x2048 : Shape := ⟨2, ![2048, 2048]⟩
abbrev S512x2048 : Shape := ⟨2, ![512, 2048]⟩
abbrev S1024x2048 : Shape := ⟨2, ![1024, 2048]⟩

abbrev nBuf : Space → Nat
  | .hbm => 7
  | .vmem => 6
  | .smem => 0
  | _ => 0

abbrev bufTy : (tb : Table) → Fin (tcTables nBuf tb) → BufTy
  | .hbm, ⟨0, _⟩ => ⟨S8x2048, .f32⟩
  | .hbm, ⟨1, _⟩ => ⟨S8x512, .f32⟩
  | .hbm, ⟨2, _⟩ => ⟨S8x512, .f32⟩
  | .hbm, ⟨3, _⟩ => ⟨S8x1024, .f32⟩
  | .hbm, ⟨4, _⟩ => ⟨S2048x2048, .f32⟩
  | .hbm, ⟨5, _⟩ => ⟨S2048x2048, .bf16⟩
  | .hbm, ⟨6, _⟩ => ⟨S8x2048, .f32⟩
  | .local _ .vmem, ⟨0, _⟩ => ⟨S8x2048, .f32⟩
  | .local _ .vmem, ⟨1, _⟩ => ⟨S8x512, .f32⟩
  | .local _ .vmem, ⟨2, _⟩ => ⟨S8x512, .f32⟩
  | .local _ .vmem, ⟨3, _⟩ => ⟨S8x1024, .f32⟩
  | .local _ .vmem, ⟨4, _⟩ => ⟨S2048x2048, .bf16⟩
  | .local _ .vmem, ⟨5, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference11Ideal.lean ====
abbrev S8x2048 : Shape := ⟨2, ![8, 2048]⟩
abbrev S8x512 : Shape := ⟨2, ![8, 512]⟩
abbrev S8x1024 : Shape := ⟨2, ![8, 1024]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x512, .f32⟩
  | .hbm, ⟨2, _⟩ => ⟨S8x512, .f32⟩
  | .hbm, ⟨3, _⟩ => ⟨S8x1024, .f32⟩
  | .hbm, ⟨4, _⟩ => ⟨S2048x2048, .f32⟩
  | .hbm, ⟨5, _⟩ => ⟨S8x2048, .f32⟩
  | .hbm, ⟨6, _⟩ => ⟨S8x2048, .f32⟩
  | .hbm, ⟨7, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Proof.OnlineSoftmax.lean ====
module

public import Idealize.ShloMosaic.PureOps.Ideal
public import Idealize.ShloMosaic.Lib.Pointwise

@[expose] public section

/-!
# The running softmax over extended reals

Scores `s k` and values `v k` are read in order. `top s n` is the greatest of the first `n` scores, `den s n` the
sum of `exp (s k - top s n)` and `num s v n` the same sum weighted by `v k`. A further stretch of scores changes
the three by the rescaling step of a running softmax, and past the last finite score nothing changes.
-/

noncomputable section

namespace Cert.Softmax

open Idealize.ShloMosaic

/-- The greatest of the first `n` scores. -/
def top (s : ℕ → EReal) (n : ℕ) : EReal := (Finset.range n).sup s

/-- The sum of the first `n` weights, relative to the greatest score. -/
def den (s : ℕ → EReal) (n : ℕ) : EReal := ∑ k ∈ Finset.range n, Ideal.exp (s k - top s n)

/-- The weighted sum of the first `n` values, relative to the greatest score. -/
def num (s v : ℕ → EReal) (n : ℕ) : EReal := ∑ k ∈ Finset.range n, Ideal.exp (s k - top s n) * v k

theorem top_zero (s : ℕ → EReal) : top s 0 = ⊥ := by simp [top]
theorem den_zero (s : ℕ → EReal) : den s 0 = 0 := by simp [den]
theorem num_zero (s v : ℕ → EReal) : num s v 0 = 0 := by simp [num]

theorem le_top (s : ℕ → EReal) {n k : ℕ} (h : k < n) : s k ≤ top s n :=
  Finset.le_sup (f := s) (Finset.mem_range.mpr h)

theorem top_mono (s : ℕ → EReal) {n n' : ℕ} (h : n ≤ n') : top s n ≤ top s n' :=
  Finset.sup_mono (Finset.range_mono h)

theorem exp_bot : Ideal.exp ⊥ = 0 := rfl
theorem exp_top : Ideal.exp ⊤ = ⊤ := rfl
theorem exp_coe (x : ℝ) : Ideal.exp (x : EReal) = ((Real.exp x : ℝ) : EReal) := rfl

theorem exp_nonneg (x : EReal) : 0 ≤ Ideal.exp x := by
  induction x with
  | bot => rw [exp_bot]
  | coe x => rw [exp_coe]; exact_mod_cast (Real.exp_pos x).le
  | top => rw [exp_top]; exact OrderTop.le_top _

/-- A weight relative to a bound is a nonnegative real. -/
theorem exp_sub_real {x y : EReal} (h : x ≤ y) : ∃ r : ℝ, 0 ≤ r ∧ Ideal.exp (x - y) = (r : EReal) := by
  induction x with
  | bot => exact ⟨0, le_rfl, by rw [EReal.bot_sub, exp_bot]; rfl⟩
  | top =>
    obtain rfl : y = ⊤ := top_le_iff.mp h
    exact ⟨0, le_rfl, by rw [EReal.sub_top, exp_bot]; rfl⟩
  | coe x =>
    induction y with
    | bot => exact absurd h (by simp)
    | top => exact ⟨0, le_rfl, by rw [EReal.sub_top, exp_bot]; rfl⟩
    | coe y => exact ⟨_, (Real.exp_pos (x - y)).le, by rw [← EReal.coe_sub, exp_coe]⟩

/-- The rescaling of one weight from a bound to a greater one. -/
theorem exp_sub_mul {x m m' : EReal} (h : x ≤ m) (h' : m ≤ m') :
    Ideal.exp (m - m') * Ideal.exp (x - m) = Ideal.exp (x - m') := by
  induction x with
  | bot => simp only [EReal.bot_sub, exp_bot, mul_zero]
  | top =>
    obtain rfl : m = ⊤ := top_le_iff.mp h
    obtain rfl : m' = ⊤ := top_le_iff.mp h'
    simp only [EReal.sub_top, exp_bot, mul_zero]
  | coe x =>
    induction m with
    | bot => exact absurd h (by simp)
    | top =>
      obtain rfl : m' = ⊤ := top_le_iff.mp h'
      simp only [EReal.sub_top, exp_bot, mul_zero]
    | coe m =>
      induction m' with
      | bot => exact absurd h' (by simp)
      | top => simp only [EReal.sub_top, exp_bot, zero_mul]
      | coe m' =>
        rw [← EReal.coe_sub, ← EReal.coe_sub, ← EReal.coe_sub, exp_coe, exp_coe, exp_coe, ← EReal.coe_mul,
          ← Real.exp_add]
        congr 2; ring

/-- A nonnegative real factor goes into a sum. -/
theorem coe_mul_sum {ι : Type*} (S : Finset ι) (r : ℝ) (h : 0 ≤ r) (f : ι → EReal) :
    (r : EReal) * ∑ k ∈ S, f k = ∑ k ∈ S, (r : EReal) * f k := by
  classical
  induction S using Finset.induction_on with
  | empty => simp
  | insert a S ha ih =>
    rw [Finset.sum_insert ha, Finset.sum_insert ha,
      EReal.left_distrib_of_nonneg_of_ne_top (by exact_mod_cast h) (EReal.coe_ne_top r), ih]

/-- A finite sum of reals is the sum of their images. -/
theorem coe_sum {ι : Type*} (S : Finset ι) (f : ι → ℝ) :
    ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-! ## One more stretch of scores -/

theorem top_add (s : ℕ → EReal) (n t : ℕ) :
    top s (n + t) = max (top s n) (Finset.univ.fold max ⊥ fun c : Fin t => s (n + c)) := by
  have e : (Finset.univ.fold max ⊥ fun c : Fin t => s (n + c)) = Finset.univ.sup fun c : Fin t => s (n + c) := rfl
  rw [e]
  apply le_antisymm
  · refine Finset.sup_le fun k hk => ?_
    rw [Finset.mem_range] at hk
    by_cases h : k < n
    · exact (le_top s h).trans (le_max_left _ _)
    · refine le_trans ?_ (le_max_right _ _)
      have := Finset.le_sup (f := fun c : Fin t => s (n + c)) (Finset.mem_univ ⟨k - n, by omega⟩)
      simpa [show n + (k - n) = k by omega] using this
  · refine max_le (top_mono s (by omega)) (Finset.sup_le fun c _ => le_top s (by omega))

theorem den_add (s : ℕ → EReal) (n t : ℕ) :
    den s (n + t) = Ideal.exp (top s n - top s (n + t)) * den s n
      + ∑ c : Fin t, Ideal.exp (s (n + c) - top s (n + t)) := by
  have hm : top s n ≤ top s (n + t) := top_mono s (by omega)
  obtain ⟨r, hr, er⟩ := exp_sub_real hm
  unfold den
  rw [Finset.sum_range_add, er, coe_mul_sum _ r hr, Finset.sum_range (n := t)]
  congr 1
  refine Finset.sum_congr rfl fun k hk => ?_
  rw [← er, exp_sub_mul (le_top s (Finset.mem_range.mp hk)) hm]

theorem num_add (s v : ℕ → EReal) (n t : ℕ) :
    num s v (n + t) = Ideal.exp (top s n - top s (n + t)) * num s v n
      + ∑ c : Fin t, Ideal.exp (s (n + c) - top s (n + t)) * v (n + c) := by
  have hm : top s n ≤ top s (n + t) := top_mono s (by omega)
  obtain ⟨r, hr, er⟩ := exp_sub_real hm
  unfold num
  rw [Finset.sum_range_add, er, coe_mul_sum _ r hr, Finset.sum_range (n := t)]
  congr 1
  refine Finset.sum_congr rfl fun k hk => ?_
  rw [← er, ← mul_assoc, exp_sub_mul (le_top s (Finset.mem_range.mp hk)) hm]

/-! ## Scores that are −∞ from some key on -/

theorem top_tail (s : ℕ → EReal) {n N : ℕ} (h : n ≤ N) (hs : ∀ k, n ≤ k → s k = ⊥) : top s N = top s n := by
  apply le_antisymm _ (top_mono s h)
  refine Finset.sup_le fun k hk => ?_
  by_cases hn : k < n
  · exact le_top s hn
  · rw [hs k (by omega)]; exact bot_le

theorem den_tail (s : ℕ → EReal) {n N : ℕ} (h : n ≤ N) (hs : ∀ k, n ≤ k → s k = ⊥) : den s N = den s n := by
  unfold den
  rw [top_tail s h hs]
  symm
  refine Finset.sum_subset (Finset.range_mono h) fun k _ hk => ?_
  rw [hs k (by simpa using hk), EReal.bot_sub, exp_bot]

theorem num_tail (s v : ℕ → EReal) {n N : ℕ} (h : n ≤ N) (hs : ∀ k, n ≤ k → s k = ⊥) : num s v N = num s v n := by
  unfold num
  rw [top_tail s h hs]
  symm
  refine Finset.sum_subset (Finset.range_mono h) fun k _ hk => ?_
  rw [hs k (by simpa using hk), EReal.bot_sub, exp_bot, zero_mul]

/-! ## The quotient -/

/-- With no score at +∞ and one above −∞, the sum of weights is a positive real. -/
theorem den_real (s : ℕ → EReal) (N k₀ : ℕ) (hk : k₀ < N) (h₀ : s k₀ ≠ ⊥) (hs : ∀ k < N, s k ≠ ⊤) :
    ∃ r : ℝ, 0 < r ∧ den s N = (r : EReal) := by
  have hne : (Finset.range N).Nonempty := ⟨k₀, Finset.mem_range.mpr hk⟩
  obtain ⟨k₁, hk₁, e₁⟩ := Finset.exists_mem_eq_sup _ hne s
  rw [Finset.mem_range] at hk₁
  have htop : top s N ≠ ⊤ := by unfold top; rw [e₁]; exact hs k₁ hk₁
  have hbot : top s N ≠ ⊥ := fun h => h₀ (le_bot_iff.mp (h ▸ le_top s hk))
  have hw : ∀ k ∈ Finset.range N, ∃ r : ℝ, 0 ≤ r ∧ Ideal.exp (s k - top s N) = (r : EReal) :=
    fun k h => exp_sub_real (le_top s (Finset.mem_range.mp h))
  choose! r hr er using hw
  refine ⟨∑ k ∈ Finset.range N, r k, ?_, ?_⟩
  · refine Finset.sum_pos' hr ⟨k₁, Finset.mem_range.mpr hk₁, ?_⟩
    have h1 : Ideal.exp (s k₁ - top s N) = 1 := by
      have : s k₁ = top s N := e₁.symm
      rw [this, EReal.sub_self htop hbot]
      exact (exp_coe 0).trans (by rw [Real.exp_zero]; rfl)
    have h2 := (er k₁ (Finset.mem_range.mpr hk₁)).symm.trans h1
    have : r k₁ = 1 := by exact_mod_cast h2
    rw [this]; exact one_pos
  · unfold den
    rw [Finset.sum_congr rfl er]
    exact (coe_sum _ _).symm

/-- Dividing the weighted sum is dividing each weight. -/
theorem sum_div_mul (s v : ℕ → EReal) (N k₀ : ℕ) (hk : k₀ < N) (h₀ : s k₀ ≠ ⊥) (hs : ∀ k < N, s k ≠ ⊤) :
    ∑ k : Fin N, Ideal.div (Ideal.exp (s k - top s N)) (den s N) * v k = Ideal.div (num s v N) (den s N) := by
  obtain ⟨r, hr, er⟩ := den_real s N k₀ hk h₀ hs
  rw [er, Ideal.div_coe hr.ne']
  unfold num
  rw [mul_comm, coe_mul_sum _ _ (one_div_nonneg.mpr hr.le), Finset.sum_range]
  refine Finset.sum_congr rfl fun k _ => ?_
  rw [Ideal.div_coe hr.ne', ← mul_assoc, mul_comm (Ideal.exp _)]

end Cert.Softmax

end
-- ==== Proof.Score.lean ====
module

public import proofs.«01_k».proof.Proof.OnlineSoftmax
public import Idealize.ShloMosaic.Lib.Affine

@[expose] public section

/-!
# The causal scores of one query

The score of a key is the inner product of the query and the key plus the difference of the two cumulative forget
gates; a key after the query scores −∞.
-/

noncomputable section

namespace Cert.Softmax

open Idealize.ShloMosaic

/-- An extended real that is a real. -/
def IsReal (x : EReal) : Prop := ∃ r : ℝ, x = (r : EReal)

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r
theorem IsReal.add {x y : EReal} (h : IsReal x) (h' : IsReal y) : IsReal (x + y) := by
  obtain ⟨r, rfl⟩ := h; obtain ⟨t, rfl⟩ := h'; exact ⟨r + t, (EReal.coe_add r t).symm⟩
theorem IsReal.sub {x y : EReal} (h : IsReal x) (h' : IsReal y) : IsReal (x - y) := by
  obtain ⟨r, rfl⟩ := h; obtain ⟨t, rfl⟩ := h'; exact ⟨r - t, (EReal.coe_sub r t).symm⟩
theorem IsReal.mul {x y : EReal} (h : IsReal x) (h' : IsReal y) : IsReal (x * y) := by
  obtain ⟨r, rfl⟩ := h; obtain ⟨t, rfl⟩ := h'; exact ⟨r * t, (EReal.coe_mul r t).symm⟩
theorem IsReal.sum {ι : Type*} (S : Finset ι) {f : ι → EReal} (h : ∀ i, IsReal (f i)) : IsReal (∑ i ∈ S, f i) := by
  choose r hr using h
  exact ⟨∑ i ∈ S, r i, by rw [coe_sum]; exact Finset.sum_congr rfl fun i _ => hr i⟩

/-- The score of key `k` for the query at position `p`. -/
def score (q : Fin 128 → EReal) (K : Fin 2048 → Fin 128 → EReal) (cq : EReal) (C : Fin 2048 → EReal) (p k : ℕ) : EReal :=
  if h : k ≤ p ∧ k < 2048 then ∑ x, q x * K ⟨k, h.2⟩ x + (cq - C ⟨k, h.2⟩) else ⊥

/-- The value of key `k`. -/
def value (V : Fin 2048 → EReal) (k : ℕ) : EReal := if h : k < 2048 then V ⟨k, h⟩ else 0

variable (q : Fin 128 → EReal) (K : Fin 2048 → Fin 128 → EReal) (cq : EReal) (C : Fin 2048 → EReal) (p : ℕ)

theorem score_of_le (k : Fin 2048) (h : k.val ≤ p) : score q K cq C p k = ∑ x, q x * K k x + (cq - C k) :=
  dif_pos ⟨h, k.isLt⟩

theorem score_of_lt (k : ℕ) (h : p < k) : score q K cq C p k = ⊥ := dif_neg (by omega)

theorem value_fin (V : Fin 2048 → EReal) (k : Fin 2048) : value V k = V k := dif_pos k.isLt

theorem score_ite (k : Fin 2048) : score q K cq C p k = if k.val ≤ p then ∑ x, q x * K k x + (cq - C k) else ⊥ := by
  split_ifs with h
  · exact score_of_le q K cq C p k h
  · exact score_of_lt q K cq C p k (by omega)

theorem score_isReal (hq : ∀ x, IsReal (q x)) (hK : ∀ k x, IsReal (K k x)) (hc : IsReal cq) (hC : ∀ k, IsReal (C k))
    (k : Fin 2048) (h : k.val ≤ p) : IsReal (score q K cq C p k) := by
  rw [score_of_le q K cq C p k h]
  exact (IsReal.sum _ fun x => (hq x).mul (hK k x)).add (hc.sub (hC k))

/-- The attention output from the first `n` keys, when these hold every key the query sees. -/
theorem attention_eq (hq : ∀ x, IsReal (q x)) (hK : ∀ k x, IsReal (K k x)) (hc : IsReal cq) (hC : ∀ k, IsReal (C k))
    (V : Fin 2048 → EReal) (n : ℕ) (hn : n ≤ 2048) (hp : p < n) :
    ∑ k : Fin 2048, Ideal.div (Ideal.exp (score q K cq C p k - top (score q K cq C p) 2048)) (den (score q K cq C p) 2048) * V k
      = Ideal.div (num (score q K cq C p) (value V) n) (den (score q K cq C p) n) := by
  have ht : ∀ k, n ≤ k → score q K cq C p k = ⊥ := fun k hk => score_of_lt q K cq C p k (by omega)
  have hs : ∀ k < 2048, score q K cq C p k ≠ ⊤ := fun k hk => by
    by_cases h : k ≤ p
    · exact (score_isReal q K cq C p hq hK hc hC ⟨k, hk⟩ h).ne_top
    · rw [score_of_lt q K cq C p k (by omega)]; exact bot_ne_top
  have h₀ : score q K cq C p p ≠ ⊥ := (score_isReal q K cq C p hq hK hc hC ⟨p, by omega⟩ le_rfl).ne_bot
  have := sum_div_mul (score q K cq C p) (value V) 2048 p (by omega) h₀ hs
  rw [num_tail _ _ hn ht] at this
  simp only [value_fin] at this
  rw [this, den_tail _ hn ht]

theorem top_eq_fold (s : ℕ → EReal) (n : ℕ) : top s n = Finset.univ.fold max ⊥ fun k : Fin n => s k := by
  have := top_add s 0 n
  rw [top_zero, zero_add] at this
  rw [this, max_eq_right bot_le]
  simp only [zero_add]

theorem den_eq_sum (s : ℕ → EReal) (n : ℕ) : den s n = ∑ k : Fin n, Ideal.exp (s k - top s n) := Finset.sum_range _

/-- The choice on "at most" of two small words. -/
theorem select_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  have e : (IntOp.cmpi .sle (BitVec.ofNat 32 a) (BitVec.ofNat 32 b) = 1#1) ↔ a ≤ b := by
    rw [IntOp.cmpi_sle, BitVec.toInt_eq_toNat_of_lt, BitVec.toInt_eq_toNat_of_lt, BitVec.toNat_ofNat, BitVec.toNat_ofNat,
      Nat.mod_eq_of_lt (by omega), Nat.mod_eq_of_lt (by omega)]
    · exact Int.ofNat_le
    · rw [BitVec.toNat_ofNat]; omega
    · rw [BitVec.toNat_ofNat]; omega
  unfold Scalar.select
  by_cases h : a ≤ b
  · rw [if_pos h]; exact if_pos (e.2 h)
  · rw [if_neg h]; exact if_neg (fun h' => h (e.1 h'))

/-- The choice on "at least" of two small words. -/
theorem select_sge {α : Type} (a b : ℕ) (ha : a < 2 ^ 31) (hb : b < 2 ^ 31) (x y : α) :
    Scalar.select (IntOp.cmpi .sge (BitVec.ofNat 32 a) (BitVec.ofNat 32 b)) x y = if b ≤ a then x else y := by
  have e : (IntOp.cmpi .sge (BitVec.ofNat 32 a) (BitVec.ofNat 32 b) = 1#1) ↔ b ≤ a := by
    rw [IntOp.cmpi_sge, BitVec.toInt_eq_toNat_of_lt, BitVec.toInt_eq_toNat_of_lt, BitVec.toNat_ofNat, BitVec.toNat_ofNat,
      Nat.mod_eq_of_lt (by omega), Nat.mod_eq_of_lt (by omega)]
    · exact Int.ofNat_le
    · rw [BitVec.toNat_ofNat]; omega
    · rw [BitVec.toNat_ofNat]; omega
  unfold Scalar.select
  by_cases h : b ≤ a
  · rw [if_pos h]; exact if_pos (e.2 h)
  · rw [if_neg h]; exact if_neg (fun h' => h (e.1 h'))

/-- The word of −∞. -/
theorem ofBits_neg_inf : Ideal.ofBits FTy.f32 4286578688#32 = ⊥ := by
  simp [Ideal.ofBits, Ideal.ieee]

/-- The word of +∞. -/
theorem ofBits_inf : Ideal.ofBits FTy.f32 2139095040#32 = ⊤ := by
  simp [Ideal.ofBits, Ideal.ieee]

end Cert.Softmax

end
-- ==== Proof.FlashBlock.lean ====
module

public import proofs.«01_k».proof.Proof.Score
public import proofs.«01_k».proof.Proof.Gen.KernelIdeal.Value
public import Idealize.ShloMosaic.Lib.Pipeline.ValueKit
public import Idealize.ShloMosaic.Lib.Pointwise

@[expose] public section

set_option maxRecDepth 16384

/-!
# One block of queries of the attention kernel

The kernel's loop carries, per query row, the greatest score so far, the sum of the weights and the weighted sum of
the values; a trip takes up one more stretch of 512 keys, and the last stretch is masked before the quotient.
-/

noncomputable section

open Idealize.ShloMosaic Idealize.ShloMosaic.TcCoe Idealize.SL.Sem
open Idealize.ShloMosaic.Pipeline (Dat)

namespace Cert.KernelIdeal.Flash

open Cert.KernelIdeal Cert.KernelIdeal.Gen Cert.Softmax

section Payloads
variable (v0 : FVec Ideal S1x512x128 .f32) (v3 : FVec Ideal S1x1x512x1 .f32) (kb vb : FVec Ideal S1x512x128 .f32)
  (cb : FVec Ideal S1x1x1x1x512 .f32) (mm ll : FVec Ideal S512x1 .f32) (aa : FVec Ideal S512x128 .f32)

theorem s_apply (r c : Fin 512) :
    k0_pay7 v0 v3 kb cb (ix2 r c) = ∑ x, v0 (ix3 0 r x) * kb (ix3 0 c x) + (v3 (ix4 0 0 r 0) - cb (ix5 0 0 0 0 c)) := by
  unfold k0_pay7 k0_pay2 k0_pay3
  pointwise

theorem m_apply (r : Fin 512) :
    k0_pay8 v0 v3 mm kb cb (ix2 r 0) = max (mm (ix2 r 0)) (Finset.univ.fold max ⊥ fun c => k0_pay7 (F := Ideal) v0 v3 kb cb (ix2 r c)) := by
  unfold k0_pay8
  pointwise
  rw [ofBits_neg_inf]

theorem l_apply (r : Fin 512) :
    k0_pay11 v0 v3 mm ll kb cb (ix2 r 0) = Ideal.exp (mm (ix2 r 0) - k0_pay8 (F := Ideal) v0 v3 mm kb cb (ix2 r 0)) * ll (ix2 r 0)
      + ∑ c, Ideal.exp (k0_pay7 (F := Ideal) v0 v3 kb cb (ix2 r c) - k0_pay8 (F := Ideal) v0 v3 mm kb cb (ix2 r 0)) := by
  unfold k0_pay11 k0_pay10 k0_pay9
  pointwise

theorem a_apply (r : Fin 512) (d : Fin 128) :
    k0_pay12 v0 v3 mm aa kb vb cb (ix2 r d) = Ideal.exp (mm (ix2 r 0) - k0_pay8 (F := Ideal) v0 v3 mm kb cb (ix2 r 0)) * aa (ix2 r d)
      + ∑ c, Ideal.exp (k0_pay7 (F := Ideal) v0 v3 kb cb (ix2 r c) - k0_pay8 (F := Ideal) v0 v3 mm kb cb (ix2 r 0)) * vb (ix3 0 c d) := by
  unfold k0_pay12 k0_pay10 k0_pay9
  pointwise

/-- The masked score of the last stretch. -/
abbrev ds (r c : Fin 512) : EReal :=
  if c.val ≤ r.val then ∑ x, v0 (ix3 0 r x) * kb (ix3 0 c x) + (v3 (ix4 0 0 r 0) - cb (ix5 0 0 0 0 c)) else ⊥

theorem last_apply (b : Fin 1) (r : Fin 512) (d : Fin 128) :
    k0_pay1 (iota .tc S512x512 32 [0] iota_S512x512_d0_w32) (iota .tc S512x512 32 [1] iota_S512x512_d1_w32) mm ll aa (k0_pay19 vb) (k0_pay20 v0 kb) (k0_pay21 v3) (k0_pay22 cb) (ix3 b r d)
      = Ideal.div
          (Ideal.exp (mm (ix2 r 0) - max (mm (ix2 r 0)) (Finset.univ.fold max ⊥ fun c => ds v0 v3 kb cb r c)) * aa (ix2 r d)
            + ∑ c, Ideal.exp (ds v0 v3 kb cb r c - max (mm (ix2 r 0)) (Finset.univ.fold max ⊥ fun c => ds v0 v3 kb cb r c)) * vb (ix3 0 c d))
          (Ideal.exp (mm (ix2 r 0) - max (mm (ix2 r 0)) (Finset.univ.fold max ⊥ fun c => ds v0 v3 kb cb r c)) * ll (ix2 r 0)
            + ∑ c, Ideal.exp (ds v0 v3 kb cb r c - max (mm (ix2 r 0)) (Finset.univ.fold max ⊥ fun c => ds v0 v3 kb cb r c))) := by
  unfold k0_pay1 k0_pay19 k0_pay20 k0_pay21 k0_pay22 k0_pay2 k0_pay3
  pointwise
  have e : ∀ (c : Fin 512) (x y : EReal),
      Scalar.select (IntOp.cmpi .sge (BitVec.ofNat 32 r.val) (BitVec.ofNat 32 c.val)) x y = if c.val ≤ r.val then x else y :=
    fun c x y => select_sge _ _ (by omega) (by omega) x y
  simp only [e, ofBits_neg_inf]
end Payloads

section Steps
variable (x0 : FVec Ideal S1x512x128 .f32) (x1 x2 : FVec Ideal S1x2048x128 .f32) (x3 : FVec Ideal S1x1x512x1 .f32)
  (x4 : FVec Ideal S1x1x4x1x512 .f32) (p : ℕ)

/-- The scores of row `r` of the block whose first query is at position `p`. -/
abbrev sc (r : Fin 512) : ℕ → EReal :=
  score (fun x => x0 (ix3 0 r x)) (fun k x => x1 (ix3 0 k x)) (x3 (ix4 0 0 r 0))
    (fun k => x4 (ix5 0 0 ⟨k.val / 512, by omega⟩ 0 ⟨k.val % 512, by omega⟩)) (p + r.val)

/-- The carried values after the first `n` keys. -/
def St (n : ℕ) (a : FVec Ideal S512x1 .f32 × FVec Ideal S512x1 .f32 × FVec Ideal S512x128 .f32) : Prop :=
  ∀ r : Fin 512, a.1 (ix2 r 0) = top (sc x0 x1 x3 x4 p r) n ∧ a.2.1 (ix2 r 0) = den (sc x0 x1 x3 x4 p r) n
    ∧ ∀ d : Fin 128, a.2.2 (ix2 r d) = num (sc x0 x1 x3 x4 p r) (value fun k => x2 (ix3 0 k d)) n

theorem st_zero : St x0 x1 x2 x3 x4 p 0 (k0_pay4, k0_pay5, k0_pay6) := by
  intro r
  refine ⟨?_, ?_, fun d => ?_⟩
  · rw [top_zero]
    show k0_pay4 (F := Ideal) (ix2 r 0) = ⊥
    unfold k0_pay4
    pointwise
    exact ofBits_neg_inf
  · rw [den_zero]
    show k0_pay5 (F := Ideal) (ix2 r 0) = 0
    unfold k0_pay5
    pointwise
  · rw [num_zero]
    show k0_pay6 (F := Ideal) (ix2 r d) = 0
    unfold k0_pay6
    pointwise

theorem st_step (j : ℕ) (hj : 512 * j + 512 ≤ p) (hp : p ≤ 1536) (kb vb : FVec Ideal S1x512x128 .f32) (cb : FVec Ideal S1x1x1x1x512 .f32)
    (hk : ∀ (c : Fin 512) (x : Fin 128), kb (ix3 0 c x) = x1 (ix3 0 ⟨512 * j + c.val, by omega⟩ x))
    (hv : ∀ (c : Fin 512) (x : Fin 128), vb (ix3 0 c x) = x2 (ix3 0 ⟨512 * j + c.val, by omega⟩ x))
    (hc : ∀ (c : Fin 512), cb (ix5 0 0 0 0 c) = x4 (ix5 0 0 ⟨j, by omega⟩ 0 c))
    (a : FVec Ideal S512x1 .f32 × FVec Ideal S512x1 .f32 × FVec Ideal S512x128 .f32) (ha : St x0 x1 x2 x3 x4 p (512 * j) a) :
    St x0 x1 x2 x3 x4 p (512 * j + 512)
      (k0_pay8 x0 x3 a.1 kb cb, k0_pay11 x0 x3 a.1 a.2.1 kb cb, k0_pay12 x0 x3 a.1 a.2.2 kb vb cb) := by
  intro r
  obtain ⟨h1, h2, h3⟩ := ha r
  have hs : ∀ c : Fin 512, k0_pay7 (F := Ideal) x0 x3 kb cb (ix2 r c) = sc x0 x1 x3 x4 p r (512 * j + c.val) := by
    intro c
    have := score_of_le (fun x => x0 (ix3 0 r x)) (fun k x => x1 (ix3 0 k x)) (x3 (ix4 0 0 r 0))
      (fun k => x4 (ix5 0 0 ⟨k.val / 512, by omega⟩ 0 ⟨k.val % 512, by omega⟩)) (p + r.val) ⟨512 * j + c.val, by omega⟩
      (by show 512 * j + c.val ≤ p + r.val; omega)
    rw [s_apply, sc, this]
    simp only [hk, hc]
    congr 4
    · exact Fin.ext (by show j = (512 * j + c.val) / 512; omega)
    · exact Fin.ext (by show c.val = (512 * j + c.val) % 512; omega)
  have hm : k0_pay8 x0 x3 a.1 kb cb (ix2 r 0) = top (sc x0 x1 x3 x4 p r) (512 * j + 512) := by
    rw [m_apply, h1, top_add]
    simp only [hs]
  refine ⟨hm, ?_, fun d => ?_⟩
  · show k0_pay11 x0 x3 a.1 a.2.1 kb cb (ix2 r 0) = _
    rw [l_apply, hm, h1, h2, den_add]
    simp only [hs]
  · show k0_pay12 x0 x3 a.1 a.2.2 kb vb cb (ix2 r d) = _
    rw [a_apply, hm, h1, h3, num_add]
    simp only [hs, hv]
    congr 1
    refine Finset.sum_congr rfl fun c _ => ?_
    congr 1
    exact (value_fin (fun k => x2 (ix3 0 k d)) ⟨512 * j + c.val, by omega⟩).symm

theorem last_step (j : ℕ) (hj : p = 512 * j) (hp : j < 4) (kb vb : FVec Ideal S1x512x128 .f32) (cb : FVec Ideal S1x1x1x1x512 .f32)
    (hk : ∀ (c : Fin 512) (x : Fin 128), kb (ix3 0 c x) = x1 (ix3 0 ⟨512 * j + c.val, by omega⟩ x))
    (hv : ∀ (c : Fin 512) (x : Fin 128), vb (ix3 0 c x) = x2 (ix3 0 ⟨512 * j + c.val, by omega⟩ x))
    (hc : ∀ (c : Fin 512), cb (ix5 0 0 0 0 c) = x4 (ix5 0 0 ⟨j, by omega⟩ 0 c))
    (a : FVec Ideal S512x1 .f32 × FVec Ideal S512x1 .f32 × FVec Ideal S512x128 .f32) (ha : St x0 x1 x2 x3 x4 p (512 * j) a)
    (b : Fin 1) (r : Fin 512) (d : Fin 128) :
    k0_pay1 (iota .tc S512x512 32 [0] iota_S512x512_d0_w32) (iota .tc S512x512 32 [1] iota_S512x512_d1_w32) a.1 a.2.1 a.2.2 (k0_pay19 vb) (k0_pay20 x0 kb) (k0_pay21 x3) (k0_pay22 cb) (ix3 b r d)
      = Ideal.div (num (sc x0 x1 x3 x4 p r) (value fun k => x2 (ix3 0 k d)) (512 * j + 512)) (den (sc x0 x1 x3 x4 p r) (512 * j + 512)) := by
  obtain ⟨h1, h2, h3⟩ := ha r
  have hs : ∀ c : Fin 512, ds x0 x3 kb cb r c = sc x0 x1 x3 x4 p r (512 * j + c.val) := by
    intro c
    have := score_ite (fun x => x0 (ix3 0 r x)) (fun k x => x1 (ix3 0 k x)) (x3 (ix4 0 0 r 0))
      (fun k => x4 (ix5 0 0 ⟨k.val / 512, by omega⟩ 0 ⟨k.val % 512, by omega⟩)) (p + r.val) ⟨512 * j + c.val, by omega⟩
    rw [ds, sc, this]
    simp only [hk, hc]
    have e1 : (⟨(512 * j + c.val) / 512, by omega⟩ : Fin 4) = ⟨j, hp⟩ := Fin.ext (by show (512 * j + c.val) / 512 = j; omega)
    have e2 : (⟨(512 * j + c.val) % 512, by omega⟩ : Fin 512) = c := Fin.ext (by show (512 * j + c.val) % 512 = c.val; omega)
    rw [e1, e2]
    by_cases h : c.val ≤ r.val
    · rw [if_pos h, if_pos (by omega)]
    · rw [if_neg h, if_neg (by omega)]
  rw [last_apply, h1, h2, h3, den_add, num_add, top_add]
  simp only [hs, hv]
  congr 2
  refine Finset.sum_congr rfl fun c _ => ?_
  congr 1
  exact (value_fin (fun k => x2 (ix3 0 k d)) ⟨512 * j + c.val, by omega⟩).symm

end Steps

end Cert.KernelIdeal.Flash

end
-- ==== Proof.FlashTrip.lean ====
module

public import proofs.«01_k».proof.Proof.FlashBlock

@[expose] public section

set_option maxRecDepth 16384

/-!
# The kernel's loop over the keys before the query block

A grid point whose third coordinate is `j` runs `j` trips of the loop and none of the remainder loop; the carried
values after `n` trips are those of the first `512 * n` keys.
-/

noncomputable section

open Idealize.ShloMosaic Idealize.ShloMosaic.TcCoe Idealize.SL.Sem
open Idealize.ShloMosaic.Pipeline (Dat)

namespace Cert.KernelIdeal.Flash

open Cert.KernelIdeal Cert.KernelIdeal.Gen Cert.Softmax

theorem trips1 (i : grid0.Coords) : (k0_t1_loop i).trips = (i 2).val := by
  have : ∀ j : Fin 4, Scf.trips 0#32 (Scalar.addi (0#32) (Scalar.muli (Scalar.divsi (Scalar.subi (BitVec.ofNat 32 j.val) 0#32) 1#32) 1#32)) 1#32 = j.val := by
    decide +kernel
  exact this (i 2)

theorem trips2 (i : grid0.Coords) : (k0_t2_loop i).trips = 0 := by
  have : ∀ j : Fin 4, Scf.trips (Scalar.addi (0#32) (Scalar.muli (Scalar.divsi (Scalar.subi (BitVec.ofNat 32 j.val) 0#32) 1#32) 1#32))
      (Scalar.addi (0#32) (Scalar.subi (BitVec.ofNat 32 j.val) 0#32)) 1#32 = 0 := by
    decide +kernel
  exact this (i 2)

theorem off1 (i : grid0.Coords) (k : Fin (k0_t1_loop i).trips) (h : k.val < 4) : k0_off1 i k = ![0, 512 * k.val, 0] := by
  have : ∀ j : Fin 4, (Scalar.indexCast (Scalar.muli (Scf.iv 0#32 1#32 j.val) 512#32)).toNat = 512 * j.val := by
    decide +kernel
  have := this ⟨k.val, h⟩
  unfold k0_off1
  funext a
  fin_cases a
  · rfl
  · exact this
  · rfl

theorem off2 (i : grid0.Coords) (k : Fin (k0_t1_loop i).trips) (h : k.val < 4) : k0_off2 i k = ![0, 0, k.val, 0, 0] := by
  have : ∀ j : Fin 4, (Scalar.indexCast (Scf.iv 0#32 1#32 j.val)).toNat = j.val := by
    decide +kernel
  have := this ⟨k.val, h⟩
  unfold k0_off2
  funext a
  fin_cases a
  · rfl
  · rfl
  · exact this
  · rfl
  · rfl

theorem off5 (i : grid0.Coords) : k0_off5 i = ![0, 512 * (i 2).val, 0] := by
  have : ∀ j : Fin 4, (Scalar.indexCast (Scalar.muli (BitVec.ofNat 32 j.val) 512#32)).toNat = 512 * j.val := by
    decide +kernel
  have := this (i 2)
  unfold k0_off5
  funext a
  fin_cases a
  · rfl
  · exact this
  · rfl

theorem off6 (i : grid0.Coords) : k0_off6 i = ![0, 0, (i 2).val, 0, 0] := by
  have : ∀ j : Fin 4, (Scalar.indexCast (BitVec.ofNat 32 j.val)).toNat = j.val := by
    decide +kernel
  have := this (i 2)
  unfold k0_off6
  funext a
  fin_cases a
  · rfl
  · rfl
  · exact this
  · rfl
  · rfl

theorem out_apply (c : Dev nD) (t : Fin cfg0.N) (x0 : Vec Ideal S1x512x128 .f32) (x1 x2 : Vec Ideal S1x2048x128 .f32) (x3 : Vec Ideal S1x1x512x1 .f32) (x4 : Vec Ideal S1x1x4x1x512 .f32)
    (b : Fin 1) (r : Fin 512) (d : Fin 128) (j : ℕ) (hj : j = (grid0.coords t 2).val) :
   out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 x3 x4 (ix3 b r d)
     = Ideal.div (num (sc x0 x1 x3 x4 (512 * j) r) (value fun k => x2 (ix3 0 k d)) (512 * j + 512)) (den (sc x0 x1 x3 x4 (512 * j) r) (512 * j + 512)) := by
  have hj4 : j < 4 := hj ▸ (grid0.coords t 2).isLt
  generalize hi : grid0.coords t = i at hj ⊢
  frame_out
  have hst : ∀ n ≤ j, St x0 x1 x2 x3 x4 (512 * j) (512 * n)
      (st_k0_t1 Variants.none c none i (ms0_0 t) (hs0_0 t) (ms0_1 t) (hs0_1 t) (ms0_2 t) (hs0_2 t) (ms0_3 t) (hs0_3 t) (ms0_4 t) (hs0_4 t) (ms0_5 t) (hs0_5 t)
        x0 x3 ((hs0_1 t).unread x1) ((hs0_2 t).unread x2) ((hs0_4 t).unread x4) (k0_pay4, k0_pay5, k0_pay6) n) := by
    intro n
    induction n with
    | zero => intro _; exact st_zero x0 x1 x2 x3 x4 _
    | succ n ih =>
      intro hn
      have hk : n < (k0_t1_loop i).trips := by rw [trips1]; omega
      have := st_k0_t1_succ (F := Ideal) Variants.none c none i (ms0_0 t) (hs0_0 t) (ms0_1 t) (hs0_1 t) (ms0_2 t) (hs0_2 t) (ms0_3 t) (hs0_3 t) (ms0_4 t) (hs0_4 t) (ms0_5 t) (hs0_5 t)
        x0 x3 ((hs0_1 t).unread x1) ((hs0_2 t).unread x2) ((hs0_4 t).unread x4) (k0_pay4, k0_pay5, k0_pay6) ⟨n, hk⟩
      rw [show n + 1 = (⟨n, hk⟩ : Fin (k0_t1_loop i).trips).val + 1 from rfl, this]
      unfold tripR_k0_t1 trip_k0_t1
      dsimp only
      have o1 := off1 i ⟨n, hk⟩ (by show n < 4; omega)
      have o2 := off2 i ⟨n, hk⟩ (by show n < 4; omega)
      refine st_step x0 x1 x2 x3 x4 (512 * j) n (by omega) (by omega) _ _ _ ?_ ?_ ?_ _ (ih (by omega))
      · intro c x
        rw [View.readAt_eq_ld, Memref.IsWhole.read_unread]
        pointwise [o1]
      · intro c x
        rw [View.readAt_eq_ld, Memref.IsWhole.read_unread]
        pointwise [o1]
      · intro c
        rw [View.readAt_eq_ld, Memref.IsWhole.read_unread]
        pointwise [o2]
  have o5 := off5 i
  have o6 := off6 i
  rw [← hj] at o5 o6
  refine last_step x0 x1 x2 x3 x4 (512 * j) j rfl hj4 _ _ _ ?_ ?_ ?_ _ ?_ b r d
  · intro c x
    pointwise [o5]
  · intro c x
    pointwise [o5]
  · intro c
    pointwise [o6]
  · have e1 : Scf.trips 0#32 (Scalar.addi (0#32) (Scalar.muli (Scalar.divsi (Scalar.subi (BitVec.ofNat 32 (i 2).val) 0#32) 1#32) 1#32)) 1#32 = (i 2).val := trips1 i
    have e2 : Scf.trips (Scalar.addi (0#32) (Scalar.muli (Scalar.divsi (Scalar.subi (BitVec.ofNat 32 (i 2).val) 0#32) 1#32) 1#32))
      (Scalar.addi (0#32) (Scalar.subi (BitVec.ofNat 32 (i 2).val) 0#32)) 1#32 = 0 := trips2 i
    rw [e2, st_k0_t2_zero, e1, ← hj]
    exact hst j le_rfl

end Cert.KernelIdeal.Flash

end
-- ==== Proof.FlashRef.lean ====
module

public import proofs.«01_k».proof.Proof.Score
public import proofs.«01_k».proof.Proof.Gen.ReferenceIdeal.Read
public import Idealize.ShloMosaic.Lib.Pointwise

@[expose] public section

set_option maxRecDepth 16384

/-!
# The reference attention at an index

Each operation of the reference is read at an index; together they are the softmax of the causal scores of one query
of one head, weighting the values.
-/

noncomputable section

open Idealize.ShloMosaic Idealize.ShloMosaic.TcCoe Idealize.SL.Sem

namespace Cert.ReferenceIdeal.Flash

open Cert.ReferenceIdeal Cert.ReferenceIdeal.Gen Cert.ReferenceIdeal.Read Cert.Softmax

variable (x0 x1 x2 : (⟨S4x2048x1024, .f32⟩ : BufTy).Contents (Elt Ideal)) (x3 : (⟨S4x2048x8, .f32⟩ : BufTy).Contents (Elt Ideal))

/-- The scores of query `q` of head `h` of batch `b`. -/
abbrev sc (b : Fin 4) (h : Fin 8) (q : Fin 2048) : ℕ → EReal :=
  score (fun x => x0 (ix3 b q ⟨h.val * 128 + x.val, by omega⟩)) (fun k x => x1 (ix3 b k ⟨h.val * 128 + x.val, by omega⟩))
    (x3 (ix3 b q h)) (fun k => x3 (ix3 b k h)) q.val

theorem mask (b : Fin 4) (h : Fin 8) (q k : Fin 2048) :
    val_main_call0_v1 (F := Ideal) (ix4 b h q k) = IntOp.cmpi .sle (BitVec.ofNat 32 k.val) (BitVec.ofNat 32 q.val) := by
  unfold val_main_call0_v1 val_main_v16 val_main_v14 val_main_v15 val_main_v12 val_main_v13 val_main_v4
  pointwise

theorem fill (b : Fin 4) (h : Fin 8) (q k : Fin 2048) :
    val_main_call0_v2 (F := Ideal) (ix4 b h q k) = ⊥ := by
  unfold val_main_call0_v2 val_main_call0_v0 val_main_cst
  rw [id_eq]
  pointwise
  exact ofBits_neg_inf

theorem logits (b : Fin 4) (h : Fin 8) (q k : Fin 2048) :
    val_main_v17 (F := Ideal) x0 x1 x3 (ix4 b h q k) = sc x0 x1 x3 b h q k := by
  rw [val_main_v17_apply, mask, fill, select_sle _ _ (by omega) (by omega), sc, score_ite]
  congr 1
  pointwise [val_main_v0,val_main_v1,val_main_v3,val_main_v5,val_main_v6,val_main_v7,val_main_v8,val_main_v9,val_main_v10,val_main_v11]

theorem fold_max (L : FVec Ideal S4x8x2048x2048 .f32) (b : Fin 4) (h : Fin 8) (q : Fin 2048) :
    Host.reduce FloatOps.maximumf L (constant (F := Ideal) S_ .f32 0xFF800000#32) reducesTo_S4x8x2048x2048_S4x8x2048_d3 h_S_ (ix3 b h q)
      = Finset.univ.fold max ⊥ fun k : Fin 2048 => L (ix4 b h q k) := by
  pointwise
  rw [ofBits_neg_inf]

theorem greatest (b : Fin 4) (h : Fin 8) (q : Fin 2048) :
    val_main_v18 (F := Ideal) x0 x1 x3 (ix3 b h q) = top (sc x0 x1 x3 b h q) 2048 := by
  rw [top_eq_fold]
  unfold val_main_v18 val_main_cst_0
  refine (fold_max _ b h q).trans ?_
  refine congrArg (fun f => Finset.univ.fold max ⊥ f) (funext fun k => ?_)
  exact logits x0 x1 x3 b h q k

theorem floor_apply (i : S4x8x2048.Idx) : val_main_v19 (F := Ideal) i = ⊥ := by
  rw [val_main_v19_apply, val_main_cst_1_apply]
  exact ofBits_neg_inf

theorem greatest' (b : Fin 4) (h : Fin 8) (q : Fin 2048) :
    val_main_v20 (F := Ideal) x0 x1 x3 (ix3 b h q) = top (sc x0 x1 x3 b h q) 2048 := by
  rw [val_main_v20_apply, floor_apply, greatest]
  exact max_eq_right (a := (⊥ : EReal)) bot_le

theorem greatest_wide (b : Fin 4) (h : Fin 8) (q k : Fin 2048) :
    val_main_v22 (F := Ideal) x0 x1 x3 (ix4 b h q k) = top (sc x0 x1 x3 b h q) 2048 := by
  rw [← greatest']
  unfold val_main_v22 val_main_v21
  generalize val_main_v20 (F := Ideal) x0 x1 x3 = L
  pointwise

theorem weight (b : Fin 4) (h : Fin 8) (q k : Fin 2048) :
    val_main_v24 (F := Ideal) x0 x1 x3 (ix4 b h q k) = Ideal.exp (sc x0 x1 x3 b h q k - top (sc x0 x1 x3 b h q) 2048) := by
  rw [← greatest_wide x0 x1 x3 b h q k, ← logits]
  unfold val_main_v24 val_main_v23
  generalize val_main_v17 (F := Ideal) x0 x1 x3 = L
  generalize val_main_v22 (F := Ideal) x0 x1 x3 = L'
  pointwise

theorem weights (b : Fin 4) (h : Fin 8) (q : Fin 2048) :
    val_main_v25 (F := Ideal) x0 x1 x3 (ix3 b h q) = den (sc x0 x1 x3 b h q) 2048 := by
  rw [den_eq_sum]
  simp only [← weight]
  unfold val_main_v25 val_main_cst_2
  generalize val_main_v24 (F := Ideal) x0 x1 x3 = L
  pointwise

theorem weights_wide (b : Fin 4) (h : Fin 8) (q k : Fin 2048) :
    val_main_v27 (F := Ideal) x0 x1 x3 (ix4 b h q k) = den (sc x0 x1 x3 b h q) 2048 := by
  rw [← weights]
  unfold val_main_v27 val_main_v26
  generalize val_main_v25 (F := Ideal) x0 x1 x3 = L
  pointwise

theorem quotient (b : Fin 4) (h : Fin 8) (q k : Fin 2048) :
    val_main_v28 (F := Ideal) x0 x1 x3 (ix4 b h q k)
      = Ideal.div (Ideal.exp (sc x0 x1 x3 b h q k - top (sc x0 x1 x3 b h q) 2048)) (den (sc x0 x1 x3 b h q) 2048) := by
  rw [← weights_wide x0 x1 x3 b h q k, ← weight]
  unfold val_main_v28
  generalize val_main_v24 (F := Ideal) x0 x1 x3 = L
  generalize val_main_v27 (F := Ideal) x0 x1 x3 = L'
  pointwise

theorem product (b : Fin 4) (h : Fin 8) (q : Fin 2048) (d : Fin 128) :
    val_main_v29 (F := Ideal) x0 x1 x2 x3 (ix4 b h d q)
      = ∑ k : Fin 2048, x2 (ix3 b k ⟨h.val * 128 + d.val, by omega⟩) * val_main_v28 (F := Ideal) x0 x1 x3 (ix4 b h q k) := by
  unfold val_main_v29 val_main_v2
  generalize val_main_v28 (F := Ideal) x0 x1 x3 = L
  pointwise

theorem placed (b : Fin 4) (h : Fin 8) (q : Fin 2048) (d : Fin 128) :
    val_main_v31 (F := Ideal) x0 x1 x2 x3 (ix3 b q ⟨h.val * 128 + d.val, by omega⟩)
      = val_main_v29 (F := Ideal) x0 x1 x2 x3 (ix4 b h d q) := by
  unfold val_main_v31 val_main_v30
  generalize val_main_v29 (F := Ideal) x0 x1 x2 x3 = L
  pointwise

/-- The reference attention output, from the first `n` keys, when these hold every key the query sees. -/
theorem attention (h0 : ∀ i, IsReal (x0 i)) (h1 : ∀ i, IsReal (x1 i)) (h3 : ∀ i, IsReal (x3 i))
    (b : Fin 4) (h : Fin 8) (q : Fin 2048) (d : Fin 128) (n : ℕ) (hn : n ≤ 2048) (hp : q.val < n) :
    val_main_v31 (F := Ideal) x0 x1 x2 x3 (ix3 b q ⟨h.val * 128 + d.val, by omega⟩)
      = Ideal.div (num (sc x0 x1 x3 b h q) (value fun k => x2 (ix3 b k ⟨h.val * 128 + d.val, by omega⟩)) n)
          (den (sc x0 x1 x3 b h q) n) := by
  rw [placed, product, ← attention_eq _ _ _ _ _ (fun _ => h0 _) (fun _ _ => h1 _) (h3 _) (fun _ => h3 _) _ n hn hp]
  refine Finset.sum_congr rfl fun k _ => ?_
  rw [quotient, mul_comm]

end Cert.ReferenceIdeal.Flash

end
-- ==== Proof.FlashValue.lean ====
module

public import proofs.«01_k».proof.Defs
public import proofs.«01_k».proof.Proof.FlashTrip
public import proofs.«01_k».proof.Proof.FlashRef
public import proofs.«01_k».proof.Proof.Gen.KernelIdeal.Value
public import Idealize.ShloMosaic.Lib.Pipeline.ValueKit
public import Idealize.ShloMosaic.Lib.Claim

@[expose] public section

set_option maxRecDepth 16384

/-!
# The attention kernel's output array

Grid point `(b, h, j)` writes the 512 query rows `512 * j + r` of batch `b`, head `h`: each is the forgetting attention
over the keys `0 … 512 * j + 511`, of which those after the query carry no weight.
-/

noncomputable section

open Idealize.ShloMosaic Idealize.ShloMosaic.TcCoe Idealize.SL.Sem
open Idealize.ShloMosaic.Pipeline (Dat)

namespace Cert.KernelIdeal.Flash

open Cert.KernelIdeal Cert.KernelIdeal.Gen Cert.Softmax

theorem idx : ∀ t : Fin cfg0.N,
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, (grid0.coords t 1).val, (grid0.coords t 2).val, 0]
    ∧ win0_4.index t = ![(grid0.coords t 0).val, (grid0.coords t 1).val, 0, 0, 0]
    ∧ win0_5.index t = ![(grid0.coords t 0).val, (grid0.coords t 2).val, (grid0.coords t 1).val] :=
  (by decide +kernel : ∀ t : Fin grid0.N, _)

variable (m : (ℓ : Loc nD τ sig) → Buf (Elt Ideal) ℓ) (c : Dev nD)

theorem covers : (cfg0.win 5).Covers := by decide +kernel

theorem read0 (t : Fin cfg0.N) (b : Fin 1) (r : Fin 512) (x : Fin 128) (B : Fin 4) (H : Fin 8) (J : Fin 4)
    (hB : B = grid0.coords t 0) (hH : H = grid0.coords t 1) (hJ : J = grid0.coords t 2) :
    iblk m c 0 t (ix3 b r x) = m ((c : Thread nD τ).loc main_arg0) (ix3 B ⟨512 * J.val + r.val, by omega⟩ ⟨H.val * 128 + x.val, by omega⟩) := by
  subst hB hH hJ
  blk_point [iblk, V, idx t]

theorem read1 (t : Fin cfg0.N) (b : Fin 1) (r : Fin 2048) (x : Fin 128) (B : Fin 4) (H : Fin 8)
    (hB : B = grid0.coords t 0) (hH : H = grid0.coords t 1) :
    iblk m c 1 t (ix3 b r x) = m ((c : Thread nD τ).loc main_arg1) (ix3 B r ⟨H.val * 128 + x.val, by omega⟩) := by
  subst hB hH
  blk_point [iblk, V, idx t]

theorem read2 (t : Fin cfg0.N) (b : Fin 1) (r : Fin 2048) (x : Fin 128) (B : Fin 4) (H : Fin 8)
    (hB : B = grid0.coords t 0) (hH : H = grid0.coords t 1) :
    iblk m c 2 t (ix3 b r x) = m ((c : Thread nD τ).loc main_arg2) (ix3 B r ⟨H.val * 128 + x.val, by omega⟩) := by
  subst hB hH
  blk_point [iblk, V, idx t]

theorem read3 (t : Fin cfg0.N) (b b' : Fin 1) (r : Fin 512) (x : Fin 1) (B : Fin 4) (H : Fin 8) (J : Fin 4)
    (hB : B = grid0.coords t 0) (hH : H = grid0.coords t 1) (hJ : J = grid0.coords t 2) :
    iblk m c 3 t (ix4 b b' r x) = m ((c : Thread nD τ).loc main_arg3) (ix3 B ⟨512 * J.val + r.val, by omega⟩ H) := by
  subst hB hH hJ
  blk_simp [iblk]
  entry_read
  pointwise
  blk_ext [idx t]

theorem read4 (t : Fin cfg0.N) (b b' : Fin 1) (k : Fin 4) (b'' : Fin 1) (r : Fin 512) (B : Fin 4) (H : Fin 8)
    (hB : B = grid0.coords t 0) (hH : H = grid0.coords t 1) :
    iblk m c 4 t (ix5 b b' k b'' r) = m ((c : Thread nD τ).loc main_arg3) (ix3 B ⟨512 * k.val + r.val, by omega⟩ H) := by
  subst hB hH
  blk_simp [iblk]
  entry_read
  pointwise
  blk_ext [idx t]

theorem final (h0 : ∀ i, IsReal (m ((c : Thread nD τ).loc main_arg0) i)) (h1 : ∀ i, IsReal (m ((c : Thread nD τ).loc main_arg1) i))
    (h3 : ∀ i, IsReal (m ((c : Thread nD τ).loc main_arg3) i)) :
    (dats m 0 c).arrAt 5 cfg0.N = Cert.ReferenceIdeal.Read.val_main_v31 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 5 _ covers fun t hf y => ?_
  blk_simp
  rw [after0_5]
  unfold outsAt0
  idx_vars y
  refine (out_apply c t _ _ _ _ _ y0 y1 y2 _ rfl).trans ?_
  have hJ : (grid0.coords t 2).val < 4 := (grid0.coords t 2).isLt
  have hS : sc (iblk m c 0 t) (iblk m c 1 t) (iblk m c 3 t) (iblk m c 4 t) (512 * (grid0.coords t 2).val) y1
      = Cert.ReferenceIdeal.Flash.sc (m ((c : Thread nD τ).loc main_arg0)) (m ((c : Thread nD τ).loc main_arg1)) (m ((c : Thread nD τ).loc main_arg3))
          (grid0.coords t 0) (grid0.coords t 1) ⟨512 * (grid0.coords t 2).val + y1.val, by omega⟩ := by
    unfold sc Cert.ReferenceIdeal.Flash.sc
    congr 1
    · funext x
      exact read0 m c t 0 y1 x _ _ _ rfl rfl rfl
    · funext k x
      exact read1 m c t 0 k x _ _ rfl rfl
    · exact read3 m c t 0 0 y1 0 _ _ _ rfl rfl rfl
    · funext k
      refine (read4 m c t 0 0 _ 0 _ _ _ rfl rfl).trans (congrArg _ ?_)
      congr 1
      exact Fin.ext (by show 512 * (k.val / 512) + k.val % 512 = k.val; omega)
  have hV : (fun k : Fin 2048 => iblk m c 2 t (ix3 0 k y2))
      = fun k => m ((c : Thread nD τ).loc main_arg2) (ix3 (grid0.coords t 0) k ⟨(grid0.coords t 1).val * 128 + y2.val, by have : (grid0.coords t 1).val < 8 := (grid0.coords t 1).isLt; omega⟩) := by
    funext k
    exact read2 m c t 0 k y2 _ _ rfl rfl
  rw [hS, hV]
  refine (Cert.ReferenceIdeal.Flash.attention _ _ (m ((c : Thread nD τ).loc main_arg2)) _ h0 h1 h3 _ _ _ y2 _ (by omega) (by show 512 * (grid0.coords t 2).val + y1.val < _; omega)).symm.trans ?_
  congr 1
  blk_ext [idx t]

end Cert.KernelIdeal.Flash

end
-- ==== Proof.FlashPre.lean ====
module

public import proofs.«01_k».proof.Defs
public import proofs.«01_k».proof.Proof.Score
public import Idealize.ShloMosaic.Lib.ReduceAll
public import Idealize.ShloMosaic.Lib.Affine

@[expose] public section

set_option maxRecDepth 16384

/-!
# What the precondition says

`finite_logits` holds when every query, key and cumulated gate is a real number.
-/

noncomputable section

open Idealize.ShloMosaic Idealize.ShloMosaic.TcCoe Idealize.SL.Sem

namespace Cert.Pre_finite_logits

open Cert.Softmax

instance facts : Facts where
  bcast_S_S4x2048x1024 := by decide
  reducesTo_S4x2048x1024_S_d0_1_2 := by decide
  h_S_ := by decide
  bcast_S_S4x2048x8 := by decide
  reducesTo_S4x2048x8_S_d0_1_2 := by decide

instance : Subsingleton S_.Idx := ⟨fun a b => funext fun i => i.elim0⟩

theorem isReal_of_abs_lt (x : EReal) (h : max x (-x) < ⊤) : IsReal x := by
  induction x using EReal.rec with
  | bot => simp at h
  | top => simp at h
  | coe r => exact ⟨r, rfl⟩

theorem read_lt (s : Shape) (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) : IsReal (x i) := by
  refine isReal_of_abs_lt _ ?_
  have e : BitVec.ofBool (decide (max (x i) (-x i) < Ideal.ofBits FTy.f32 0x7F800000#32)) = 1#1 := h
  rw [ofBits_inf] at e
  by_contra hn
  rw [decide_eq_false hn] at e
  exact absurd e (by decide)

theorem read (x0 x1 x2 : FVec Ideal S4x2048x1024 .f32) (x3 : FVec Ideal S4x2048x8 .f32) (h : fn (F := Ideal) x0 x1 x2 x3 = fun _ => 1#1) :
    (∀ i, IsReal (x0 i)) ∧ (∀ i, IsReal (x1 i)) ∧ ∀ i, IsReal (x3 i) := by
  have h := congrFun h (fun i => i.elim0)
  obtain ⟨h, h3⟩ := IntOp.andi_eq_one.1 h
  obtain ⟨h0, h1⟩ := IntOp.andi_eq_one.1 h
  exact ⟨fun i => read_lt _ _ _ i (Host.reduce_andi_all _ _ _ _ _ h0 i), fun i => read_lt _ _ _ i (Host.reduce_andi_all _ _ _ _ _ h1 i),
    fun i => read_lt _ _ _ i (Host.reduce_andi_all _ _ _ _ _ h3 i)⟩

end Cert.Pre_finite_logits

end
-- ==== Proof.Flash.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.FlashValue
public import proofs.«01_k».proof.Proof.FlashPre
public import Idealize.ShloMosaic.Lib.Claim

@[expose] public section

/-! # The attention call's part of the claim -/

noncomputable section

open Idealize.ShloMosaic Idealize.ShloMosaic.TcCoe Idealize.SL.Sem

namespace Cert.Proof.Flash

theorem frame_Kernel : Cert.quiescent_Kernel := fun m ρ _ => Cert.Kernel.Gen.frame m ρ
theorem frame_KernelIdeal : Cert.quiescent_KernelIdeal := fun m ρ _ => Cert.KernelIdeal.Gen.frame m ρ
theorem frame_KernelIdeal_pre : Cert.quiescent_KernelIdeal_pre_finite_logits := fun m ρ _ => Cert.KernelIdeal.Gen.frame m ρ
theorem frame_ReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)
theorem frame_ReferenceIdeal_pre : Cert.quiescent_ReferenceIdeal_pre_finite_logits := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

theorem algebraic : Cert.algebraic_KernelIdeal_ReferenceIdeal_pre_finite_logits := by
  intro m g m' g' hpre hagree
  refine ⟨fun c => (Cert.KernelIdeal.Gen.dats m 0 c).arrAt 5 Cert.KernelIdeal.cfg0.N, Cert.KernelIdeal.Value.run_blocks m g,
    (θ_run Cert.ReferenceIdeal.defs _ _).mono (fun r h c => ⟨(h c).1.trans ?_, (h c).2⟩) (Cert.ReferenceIdeal.Value.run m' g')⟩
  obtain ⟨h0, h1, h3⟩ := Cert.Pre_finite_logits.read _ _ _ _ (hpre c)
  obtain ⟨e0, e1, e2, e3⟩ := hagree c
  refine (Cert.ReferenceIdeal.Read.val_main_v31_eq m' c).trans ?_
  rw [e0, e1, e2, e3]
  exact (Cert.KernelIdeal.Flash.final m c h0 h1 h3).symm

end Cert.Proof.Flash

end
-- ==== Proof.Rows.lean ====
module

public import Idealize.ShloMosaic.Lib.Pipeline.ValueKit

@[expose] public section

set_option maxRecDepth 16384

/-!
# One row of the layer's position-wise parts

The normalised row, the gated product of a feed-forward channel, and a sum read in blocks.
-/

noncomputable section

open Idealize.ShloMosaic Idealize.ShloMosaic.TcCoe Idealize.SL.Sem
open Idealize.ShloMosaic.Pipeline (Dat)

namespace Cert.Rows

/-- Entry `d` of the row `x` after the root-mean-square norm with gain `g`. -/
def normed (x g : Fin 2048 → EReal) (d : Fin 2048) : EReal :=
  x d * Ideal.rsqrt (Ideal.div (∑ e, x e * x e) (Ideal.ofBits FTy.f32 0x45000000#32) + Ideal.ofBits FTy.f32 0x358637BD#32) * g d

/-- The gated product of one feed-forward channel: `silu (h · wg) * (h · wu)`. -/
def gated (h wg wu : Fin 2048 → EReal) : EReal :=
  (∑ e, h e * wg e) * Ideal.div 1 (1 + Ideal.exp (-∑ e, h e * wg e)) * ∑ e, h e * wu e

/-- A family over `Fin n` continued by zero. -/
def ext {n : ℕ} (f : Fin n → EReal) (k : ℕ) : EReal := if h : k < n then f ⟨k, h⟩ else 0

theorem ext_of_lt {n : ℕ} (f : Fin n → EReal) (k : ℕ) (h : k < n) : ext f k = f ⟨k, h⟩ := dif_pos h

theorem sum_ext {n : ℕ} (f : Fin n → EReal) : ∑ k ∈ Finset.range n, ext f k = ∑ k, f k := by
  rw [← Fin.sum_univ_eq_sum_range]
  exact Finset.sum_congr rfl fun k _ => ext_of_lt f k k.isLt

/-- The sum of the first `a + b` terms, its last `b` terms a block read over `Fin b`. -/
theorem sum_block {n b : ℕ} (f : Fin n → EReal) (p : Fin b → EReal) (a : ℕ) (hn : a + b ≤ n)
    (hp : ∀ k : Fin b, p k = f ⟨a + k.val, by omega⟩) :
    ∑ k ∈ Finset.range (a + b), ext f k = ∑ k ∈ Finset.range a, ext f k + ∑ k, p k := by
  rw [Finset.sum_range_add]
  congr 1
  rw [← Fin.sum_univ_eq_sum_range]
  refine Finset.sum_congr rfl fun k _ => ?_
  rw [hp]
  exact ext_of_lt f _ (by omega)

end Cert.Rows

end
-- ==== Proof.FfnBlock.lean ====
module

public import proofs.«01_k».proof.Proof.Rows
public import proofs.«01_k».proof.Proof.Gen.Kernel2Ideal.Skeleton
public import Idealize.ShloMosaic.Lib.Pipeline.ValueKit

@[expose] public section

set_option maxRecDepth 16384

/-!
# The feed-forward kernel's stored values

What each of the kernel's stores writes, at one row and column of the block.
-/

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Rows

theorem pay1_apply (x : FVec Ideal S512x2048 .f32) (g : FVec Ideal S1x2048 .f32) (r : Fin 512) (d : Fin 2048) :
    k0_pay1 (F := Ideal) x g (ix2 r d) = normed (fun e => x (ix2 r e)) (fun e => g (ix2 0 e)) d := by
  unfold normed
  pointwise [k0_pay1]

theorem pay2_apply (r : Fin 512) (d : Fin 2048) : k0_pay2 (F := Ideal) (ix2 r d) = 0 := by
  pointwise [k0_pay2]

theorem pay3_apply (h : FVec Ideal S512x2048 .bf16) (wg wu : FVec Ideal S2048x512 .bf16) (acc : FVec Ideal S512x2048 .f32) (wd : FVec Ideal S512x2048 .bf16) (r : Fin 512) (d : Fin 2048) :
    k0_pay3 (F := Ideal) h wg wu acc wd (ix2 r d)
      = acc (ix2 r d) + ∑ f : Fin 512, gated (fun e => h (ix2 r e)) (fun e => wg (ix2 e f)) (fun e => wu (ix2 e f)) * wd (ix2 f d) := by
  unfold gated
  pointwise [k0_pay3]
  simp only [zero_sub]

theorem pay4_apply (x acc : FVec Ideal S512x2048 .f32) (r : Fin 512) (d : Fin 2048) :
    k0_pay4 (F := Ideal) x acc (ix2 r d) = x (ix2 r d) + Ideal.ofBits FTy.f32 0x3F000000#32 * acc (ix2 r d) := by
  pointwise [k0_pay4]

end Cert.Kernel2Ideal.Ffn

end
-- ==== Proof.FfnRef.lean ====
module

public import proofs.«01_k».proof.Proof.Rows
public import proofs.«01_k».proof.Proof.Gen.Reference2Ideal.Read
public import Idealize.ShloMosaic.Lib.Pipeline.ValueKit

@[expose] public section

set_option maxRecDepth 16384

/-!
# The feed-forward block's reference at one row and column
-/

noncomputable section

open Idealize.ShloMosaic Idealize.ShloMosaic.TcCoe Idealize.SL.Sem
open Idealize.ShloMosaic.Pipeline (Dat)

namespace Cert.Reference2Ideal.Ffn

open Cert.Reference2Ideal Cert.Reference2Ideal.Gen Cert.Reference2Ideal.Read Cert.Rows

variable (x0 : FVec Ideal S8192x2048 .f32) (x1 : FVec Ideal S2048 .f32) (x2 x3 : FVec Ideal S2048x5632 .f32) (x4 : FVec Ideal S5632x2048 .f32)

theorem norm (r : Fin 8192) (d : Fin 2048) :
    val_main_v12 (F := Ideal) x0 x1 (ix2 r d) = normed (fun e => x0 (ix2 r e)) (fun e => x1 (ix1 e)) d := by
  unfold normed
  pointwise [val_main_v12, val_main_v11,val_main_v10,val_main_v9,val_main_v8,val_main_v7,val_main_v6,val_main_v5,val_main_v4,val_main_v3,val_main_v2,val_main_v1,val_main_v0,val_main_cst,val_main_cst_0,val_main_cst_1]

theorem act (r : Fin 8192) (f : Fin 5632) : val_main_v16 (F := Ideal) x0 x1 x2 x3 (ix2 r f)
    = gated (fun e => val_main_v12 (F := Ideal) x0 x1 (ix2 r e)) (fun e => x2 (ix2 e f)) (fun e => x3 (ix2 e f)) := by
  unfold val_main_v16 val_main_v15 val_main_v14 val_main_call0_v5 val_main_call0_v4 val_main_call0_cst_0 val_main_call0_v3 val_main_call0_v2 val_main_call0_cst val_main_call0_v1 val_main_call0_v0 val_main_v13
  generalize val_main_v12 (F := Ideal) x0 x1 = L
  unfold gated
  pointwise

theorem out (r : Fin 8192) (d : Fin 2048) : val_main_v20 (F := Ideal) x0 x1 x2 x3 x4 (ix2 r d)
    = x0 (ix2 r d) + Ideal.ofBits FTy.f32 0x3F000000#32 * ∑ f : Fin 5632, val_main_v16 (F := Ideal) x0 x1 x2 x3 (ix2 r f) * x4 (ix2 f d) := by
  unfold val_main_v20 val_main_v19 val_main_v18 val_main_cst_2 val_main_v17
  generalize val_main_v16 (F := Ideal) x0 x1 x2 x3 = L
  pointwise

/-- Channel `f`'s contribution to entry `d` of row `r`. -/
def chan (r : Fin 8192) (d : Fin 2048) (f : Fin 5632) : EReal :=
  gated (normed (fun e => x0 (ix2 r e)) (fun e => x1 (ix1 e))) (fun e => x2 (ix2 e f)) (fun e => x3 (ix2 e f)) * x4 (ix2 f d)

theorem apply (r : Fin 8192) (d : Fin 2048) : val_main_v20 (F := Ideal) x0 x1 x2 x3 x4 (ix2 r d)
    = x0 (ix2 r d) + Ideal.ofBits FTy.f32 0x3F000000#32 * ∑ f : Fin 5632, chan x0 x1 x2 x3 x4 r d f := by
  rw [out]
  simp only [act, norm]
  rfl

end Cert.Reference2Ideal.Ffn

end
-- ==== Proof.FfnValue.lean ====
module

public import proofs.«01_k».proof.Proof.FfnBlock
public import proofs.«01_k».proof.Proof.FfnRef
public import proofs.«01_k».proof.Proof.Gen.Kernel2Ideal.Value
public import Idealize.ShloMosaic.Lib.Pipeline.ValueKit
public import Idealize.ShloMosaic.Lib.Claim

@[expose] public section

set_option maxRecDepth 16384

/-!
# The feed-forward kernel's output array

Grid point `t` works on the rows `512 * (t / 11) + r` and the channels `512 * (t % 11) + f`. The first scratch holds the
normalised rows, the second the sum over the channels seen so far.
-/

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Rows
open Cert.Reference2Ideal.Ffn (chan)

theorem idx : ∀ t : Fin cfg0.N,
    win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![t.val / 11, 0] ∧ t.val / 11 < 16 :=
  (by decide +kernel : ∀ t : Fin grid0.N, _)

theorem covers : (cfg0.win 5).Covers := by decide +kernel

variable (m : (ℓ : Loc nD τ sig) → Buf (Elt Ideal) ℓ) (c : Dev nD)

theorem read0 (t : Fin cfg0.N) (r : Fin 512) (d : Fin 2048) (i : ℕ) (hi : i = t.val / 11) (h : 512 * i + r.val < 8192) :
    iblk m c 0 t (ix2 r d) = m ((c : Thread nD τ).loc main_arg0) (ix2 ⟨512 * i + r.val, h⟩ d) := by
  subst hi
  blk_point [iblk, V, idx t]

theorem read1 (t : Fin cfg0.N) (r : Fin 1) (d : Fin 2048) :
    iblk m c 1 t (ix2 r d) = m ((c : Thread nD τ).loc main_arg1) (ix1 d) := by
  blk_simp [iblk]
  entry_read
  pointwise
  blk_ext [idx t]

theorem read2 (t : Fin cfg0.N) (e : Fin 2048) (f : Fin 512) (h : 512 * (t.val % 11) + f.val < 5632) :
    iblk m c 2 t (ix2 e f) = m ((c : Thread nD τ).loc main_arg2) (ix2 e ⟨512 * (t.val % 11) + f.val, h⟩) := by
  blk_simp [iblk]
  entry_read
  pointwise
  blk_ext [idx t]

theorem read3 (t : Fin cfg0.N) (e : Fin 2048) (f : Fin 512) (h : 512 * (t.val % 11) + f.val < 5632) :
    iblk m c 3 t (ix2 e f) = m ((c : Thread nD τ).loc main_arg3) (ix2 e ⟨512 * (t.val % 11) + f.val, h⟩) := by
  blk_simp [iblk]
  entry_read
  pointwise
  blk_ext [idx t]

theorem read4 (t : Fin cfg0.N) (f : Fin 512) (d : Fin 2048) (h : 512 * (t.val % 11) + f.val < 5632) :
    iblk m c 4 t (ix2 f d) = m ((c : Thread nD τ).loc main_arg4) (ix2 ⟨512 * (t.val % 11) + f.val, h⟩ d) := by
  blk_simp [iblk]
  entry_read
  pointwise
  blk_ext [idx t]

/-- The normalised row `r` of the array. -/
abbrev hrow (r : Fin 8192) : Fin 2048 → EReal :=
  normed (fun e => m ((c : Thread nD τ).loc main_arg0) (ix2 r e)) (fun e => m ((c : Thread nD τ).loc main_arg1) (ix1 e))

/-- Channel `f`'s contribution to entry `(r, d)`. -/
abbrev part (r : Fin 8192) (d : Fin 2048) : Fin 5632 → EReal :=
  chan (m ((c : Thread nD τ).loc main_arg0)) (m ((c : Thread nD τ).loc main_arg1)) (m ((c : Thread nD τ).loc main_arg2))
    (m ((c : Thread nD τ).loc main_arg3)) (m ((c : Thread nD τ).loc main_arg4)) r d

/-- The step of the second scratch: the block's channels added. -/
theorem step (t : Fin cfg0.N) (h : FVec Ideal S512x2048 .bf16) (acc : FVec Ideal S512x2048 .f32) (r : Fin 512) (d : Fin 2048)
    (hr : 512 * (t.val / 11) + r.val < 8192)
    (hh : ∀ e, h (ix2 r e) = hrow m c ⟨512 * (t.val / 11) + r.val, hr⟩ e)
    (ha : acc (ix2 r d) = ∑ k ∈ Finset.range (512 * (t.val % 11)), ext (part m c ⟨512 * (t.val / 11) + r.val, hr⟩ d) k) :
    k0_pay3 (F := Ideal) h (iblk m c 2 t) (iblk m c 3 t) acc (iblk m c 4 t) (ix2 r d)
      = ∑ k ∈ Finset.range (512 * (t.val % 11) + 512), ext (part m c ⟨512 * (t.val / 11) + r.val, hr⟩ d) k := by
  refine (pay3_apply h (iblk m c 2 t) (iblk m c 3 t) acc (iblk m c 4 t) r d).trans ?_
  have hm : t.val % 11 < 11 := Nat.mod_lt _ (by omega)
  rw [ha]
  refine (sum_block _ _ _ (by omega) fun f => ?_).symm
  show gated _ _ _ * _ = gated _ _ _ * _
  rw [read4 m c t f d (by omega)]
  congr 2
  · funext e; exact hh e
  · funext e; exact read2 m c t e f (by omega)
  · funext e; exact read3 m c t e f (by omega)

theorem lt16 (n : ℕ) (h : n < cfg0.N) : n / 11 < 16 := (idx ⟨n, h⟩).2.2.2.2.2.2

theorem carryA (t : Fin cfg0.N) (h0 : t.val % 11 = 0) (h1 : ¬t.val % 11 = 10) :
    (outsAt0 m c t.val t.isLt).2.1 = k0_pay1 (F := Ideal) (iblk m c 0 t) (iblk m c 1 t)
    ∧ (outsAt0 m c t.val t.isLt).2.2 = k0_pay3 (F := Ideal) (k0_pay1 (F := Ideal) (iblk m c 0 t) (iblk m c 1 t)) (iblk m c 2 t) (iblk m c 3 t) (k0_pay2 (F := Ideal)) (iblk m c 4 t) := by
  rw [outsAt0_A m c t h0 h1]
  constructor
  · dsimp only
    frame_out
  · dsimp only
    frame_out

theorem carryB (t : Fin cfg0.N) (h0 : ¬t.val % 11 = 0) (h1 : ¬t.val % 11 = 10) :
    (outsAt0 m c t.val t.isLt).2.1 = (outsAt0 m c (t.val - 1) (Nat.lt_of_le_of_lt (Nat.sub_le _ _) t.isLt)).2.1
    ∧ (outsAt0 m c t.val t.isLt).2.2 = k0_pay3 (F := Ideal) (outsAt0 m c (t.val - 1) (Nat.lt_of_le_of_lt (Nat.sub_le _ _) t.isLt)).2.1 (iblk m c 2 t) (iblk m c 3 t) (outsAt0 m c (t.val - 1) (Nat.lt_of_le_of_lt (Nat.sub_le _ _) t.isLt)).2.2 (iblk m c 4 t) := by
  rw [outsAt0_B m c t h0 h1]
  constructor
  · rfl
  · dsimp only
    frame_out
    congr 1
    · exact (Memref.isWhole_whole cc0_scratch0).read_unread _
    · exact (Memref.isWhole_whole cc0_scratch1).read_unread _

theorem carryC (t : Fin cfg0.N) (h0 : ¬t.val % 11 = 0) (h1 : t.val % 11 = 10) :
    (outsAt0 m c t.val t.isLt).1 = k0_pay4 (F := Ideal) (iblk m c 0 t) (outsAt0 m c t.val t.isLt).2.2
    ∧ (outsAt0 m c t.val t.isLt).2.1 = (outsAt0 m c (t.val - 1) (Nat.lt_of_le_of_lt (Nat.sub_le _ _) t.isLt)).2.1
    ∧ (outsAt0 m c t.val t.isLt).2.2 = k0_pay3 (F := Ideal) (outsAt0 m c (t.val - 1) (Nat.lt_of_le_of_lt (Nat.sub_le _ _) t.isLt)).2.1 (iblk m c 2 t) (iblk m c 3 t) (outsAt0 m c (t.val - 1) (Nat.lt_of_le_of_lt (Nat.sub_le _ _) t.isLt)).2.2 (iblk m c 4 t) := by
  rw [outsAt0_C m c t h0 h1]
  refine ⟨?_, ?_, ?_⟩
  · dsimp only
    frame_out
  · rfl
  · dsimp only
    frame_out
    congr 1
    · exact (Memref.isWhole_whole cc0_scratch0).read_unread _
    · exact (Memref.isWhole_whole cc0_scratch1).read_unread _

/-- What the two scratches hold after a grid point that starts a row of blocks. -/
theorem carried_start (t : Fin cfg0.N) (h0 : t.val % 11 = 0) (r : Fin 512) (hr : 512 * (t.val / 11) + r.val < 8192) :
    (∀ d, (outsAt0 m c t.val t.isLt).2.1 (ix2 r d) = hrow m c ⟨512 * (t.val / 11) + r.val, hr⟩ d)
    ∧ ∀ d, (outsAt0 m c t.val t.isLt).2.2 (ix2 r d)
        = ∑ k ∈ Finset.range (512 * (t.val % 11) + 512), ext (part m c ⟨512 * (t.val / 11) + r.val, hr⟩ d) k := by
  obtain ⟨e1, e2⟩ := carryA m c t h0 (by omega)
  have hh : ∀ d, k0_pay1 (F := Ideal) (iblk m c 0 t) (iblk m c 1 t) (ix2 r d) = hrow m c ⟨512 * (t.val / 11) + r.val, hr⟩ d := by
    intro d
    refine (pay1_apply (iblk m c 0 t) (iblk m c 1 t) r d).trans ?_
    congr 1
    · funext e; exact read0 m c t r e _ rfl hr
    · funext e; exact read1 m c t 0 e
  rw [e1, e2]
  refine ⟨hh, fun d => step m c t _ _ r d hr hh ?_⟩
  rw [h0, pay2_apply]
  exact Finset.sum_range_zero _ |>.symm

/-- What the two scratches hold after a later grid point. -/
theorem carried_next (t : Fin cfg0.N) (h0 : ¬t.val % 11 = 0) (r : Fin 512) (hr : 512 * (t.val / 11) + r.val < 8192)
    (ih1 : ∀ d, (outsAt0 m c (t.val - 1) (Nat.lt_of_le_of_lt (Nat.sub_le _ _) t.isLt)).2.1 (ix2 r d) = hrow m c ⟨512 * (t.val / 11) + r.val, hr⟩ d)
    (ih2 : ∀ d, (outsAt0 m c (t.val - 1) (Nat.lt_of_le_of_lt (Nat.sub_le _ _) t.isLt)).2.2 (ix2 r d) = ∑ k ∈ Finset.range (512 * (t.val % 11)), ext (part m c ⟨512 * (t.val / 11) + r.val, hr⟩ d) k) :
    (∀ d, (outsAt0 m c t.val t.isLt).2.1 (ix2 r d) = hrow m c ⟨512 * (t.val / 11) + r.val, hr⟩ d)
    ∧ ∀ d, (outsAt0 m c t.val t.isLt).2.2 (ix2 r d)
        = ∑ k ∈ Finset.range (512 * (t.val % 11) + 512), ext (part m c ⟨512 * (t.val / 11) + r.val, hr⟩ d) k := by
  have e : (outsAt0 m c t.val t.isLt).2.1 = (outsAt0 m c (t.val - 1) (Nat.lt_of_le_of_lt (Nat.sub_le _ _) t.isLt)).2.1
      ∧ (outsAt0 m c t.val t.isLt).2.2 = k0_pay3 (F := Ideal) (outsAt0 m c (t.val - 1) (Nat.lt_of_le_of_lt (Nat.sub_le _ _) t.isLt)).2.1 (iblk m c 2 t) (iblk m c 3 t) (outsAt0 m c (t.val - 1) (Nat.lt_of_le_of_lt (Nat.sub_le _ _) t.isLt)).2.2 (iblk m c 4 t) := by
    by_cases h1 : t.val % 11 = 10
    · exact (carryC m c t h0 h1).2
    · exact carryB m c t h0 h1
  rw [e.1, e.2]
  exact ⟨ih1, fun d => step m c t _ _ r d hr ih1 (ih2 d)⟩

theorem carried (n : ℕ) (h : n < cfg0.N) (r : Fin 512) (i : ℕ) (hi : i = n / 11) (hr : 512 * i + r.val < 8192) :
    (∀ d, (outsAt0 m c n h).2.1 (ix2 r d) = hrow m c ⟨512 * i + r.val, hr⟩ d)
    ∧ ∀ d, (outsAt0 m c n h).2.2 (ix2 r d)
        = ∑ k ∈ Finset.range (512 * (n % 11) + 512), ext (part m c ⟨512 * i + r.val, hr⟩ d) k := by
  induction n with
  | zero => subst hi; exact carried_start m c ⟨0, h⟩ (Nat.zero_mod _) r hr
  | succ n ih =>
    by_cases h0 : (n + 1) % 11 = 0
    · subst hi; exact carried_start m c ⟨n + 1, h⟩ h0 r hr
    · obtain ⟨i1, i2⟩ := ih (Nat.lt_of_succ_lt h) (by omega)
      subst hi
      have hm : 512 * (n % 11) + 512 = 512 * ((n + 1) % 11) := by omega
      rw [hm] at i2
      exact carried_next m c ⟨n + 1, h⟩ h0 r hr i1 i2

/-- The output array is the reference's result, of the same arrays. -/
theorem final : (dats m 0 c).arrAt 5 cfg0.N
    = Cert.Reference2Ideal.Read.val_main_v20 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ covers fun t hf y => ?_
  blk_simp
  rw [after0_5]
  idx_vars y
  have h1 : t.val % 11 = 10 := (by decide +kernel : ∀ t : Fin grid0.N, (cfg0.win 5).flush t = true → t.val % 11 = 10) t hf
  have hr : 512 * (t.val / 11) + y0.val < 8192 := by have := lt16 t.val t.isLt; omega
  rw [(carryC m c t (by omega) h1).1]
  refine (pay4_apply _ _ y0 y1).trans ?_
  rw [(carried m c t.val t.isLt y0 _ rfl hr).2 y1, read0 m c t y0 y1 _ rfl hr, h1]
  rw [show ∑ k ∈ Finset.range (512 * 10 + 512), ext (part m c ⟨512 * (t.val / 11) + y0.val, hr⟩ y1) k
      = ∑ k, part m c ⟨512 * (t.val / 11) + y0.val, hr⟩ y1 k from sum_ext _]
  refine (Cert.Reference2Ideal.Ffn.apply (m ((c : Thread nD τ).loc main_arg0)) (m ((c : Thread nD τ).loc main_arg1)) (m ((c : Thread nD τ).loc main_arg2))
    (m ((c : Thread nD τ).loc main_arg3)) (m ((c : Thread nD τ).loc main_arg4)) ⟨512 * (t.val / 11) + y0.val, hr⟩ y1).symm.trans ?_
  congr 1
  blk_ext [idx t]

end Cert.Kernel2Ideal.Ffn

end
-- ==== Proof.Part2.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.FfnValue
public import Idealize.ShloMosaic.Lib.Claim

@[expose] public section

/-! # The feed-forward call's part of the claim -/

noncomputable section

open Idealize.ShloMosaic Idealize.ShloMosaic.TcCoe Idealize.SL.Sem

namespace Cert.Proof.Ffn

theorem frame_Kernel : Cert.quiescent_Kernel2 := fun m ρ _ => Cert.Kernel2.Gen.frame m ρ
theorem frame_KernelIdeal : Cert.quiescent_Kernel2Ideal := fun m ρ _ => Cert.Kernel2Ideal.Gen.frame m ρ
theorem frame_ReferenceIdeal : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run m ρ)

theorem algebraic : Cert.algebraic_Kernel2Ideal_Reference2Ideal := by
  intro m g m' g' hpre hagree
  refine ⟨fun c => (Cert.Kernel2Ideal.Gen.dats m 0 c).arrAt 5 Cert.Kernel2Ideal.cfg0.N, Cert.Kernel2Ideal.Value.run_blocks m g,
    (θ_run Cert.Reference2Ideal.defs _ _).mono (fun r h c => ⟨(h c).1.trans ?_, (h c).2⟩) (Cert.Reference2Ideal.Value.run m' g')⟩
  obtain ⟨e0, e1, e2, e3, e4⟩ := hagree c
  refine (Cert.Reference2Ideal.Read.val_main_v20_eq _ _ _ _ _).trans ?_
  rw [e0, e1, e2, e3, e4]
  exact (Cert.Kernel2Ideal.Ffn.final m c).symm

end Cert.Proof.Ffn

end
-- ==== Proof.ProjRef.lean ====
module

public import proofs.«01_k».proof.Proof.Rows
public import proofs.«01_k».proof.Proof.Gen.Reference3Ideal.Read
public import Idealize.ShloMosaic.Lib.Pipeline.ValueKit

@[expose] public section

set_option maxRecDepth 16384

/-!
# The input projection's reference at one row and column
-/

noncomputable section

open Idealize.ShloMosaic Idealize.ShloMosaic.TcCoe Idealize.SL.Sem
open Idealize.ShloMosaic.Pipeline (Dat)

namespace Cert.Reference3Ideal.Proj

open Cert.Reference3Ideal Cert.Reference3Ideal.Gen Cert.Reference3Ideal.Read Cert.Rows

variable (x0 : FVec Ideal S8192x2048 .f32) (x1 : FVec Ideal S2048 .f32) (x2 : FVec Ideal S2048x6912 .f32)

theorem norm (r : Fin 8192) (d : Fin 2048) :
    val_main_v12 (F := Ideal) x0 x1 (ix2 r d) = normed (fun e => x0 (ix2 r e)) (fun e => x1 (ix1 e)) d := by
  unfold normed
  pointwise [val_main_v12, val_main_v11,val_main_v10,val_main_v9,val_main_v8,val_main_v7,val_main_v6,val_main_v5,val_main_v4,val_main_v3,val_main_v2,val_main_v1,val_main_v0,val_main_cst,val_main_cst_0,val_main_cst_1]

theorem apply (r : Fin 8192) (f : Fin 6912) : val_main_v13 (F := Ideal) x0 x1 x2 (ix2 r f)
    = ∑ e, normed (fun e => x0 (ix2 r e)) (fun e => x1 (ix1 e)) e * x2 (ix2 e f) := by
  simp only [← norm]
  unfold val_main_v13
  generalize val_main_v12 (F := Ideal) x0 x1 = L
  pointwise

end Cert.Reference3Ideal.Proj

end
-- ==== Proof.ProjValue.lean ====
module

public import proofs.«01_k».proof.Proof.ProjRef
public import proofs.«01_k».proof.Proof.Gen.Kernel3Ideal.Value
public import Idealize.ShloMosaic.Lib.Pipeline.ValueKit
public import Idealize.ShloMosaic.Lib.Claim

@[expose] public section

set_option maxRecDepth 16384

/-!
# The input projection's output array

Grid point `t` multiplies the normalised rows `1024 * (t / 9) + r`, kept in the scratch, by the columns `768 * (t % 9) + f`.
-/

noncomputable section

open Idealize.ShloMosaic Idealize.ShloMosaic.TcCoe Idealize.SL.Sem
open Idealize.ShloMosaic.Pipeline (Dat)

namespace Cert.Kernel3Ideal.Proj

open Cert.Kernel3Ideal Cert.Kernel3Ideal.Gen Cert.Rows

theorem pay1_apply (x : FVec Ideal S1024x2048 .f32) (g : FVec Ideal S1x2048 .f32) (r : Fin 1024) (d : Fin 2048) :
    k0_pay1 (F := Ideal) x g (ix2 r d) = normed (fun e => x (ix2 r e)) (fun e => g (ix2 0 e)) d := by
  unfold normed
  pointwise [k0_pay1]

theorem pay2_apply (h : FVec Ideal S1024x2048 .bf16) (w : FVec Ideal S2048x768 .bf16) (r : Fin 1024) (f : Fin 768) :
    k0_pay2 (F := Ideal) h w (ix2 r f) = ∑ e, h (ix2 r e) * w (ix2 e f) := by
  pointwise [k0_pay2]

theorem idx : ∀ t : Fin cfg0.N,
    win0_0.index t = ![t.val / 9, 0] ∧ win0_1.index t = ![0, 0] ∧ win0_2.index t = ![0, t.val % 9]
    ∧ win0_3.index t = ![t.val / 9, t.val % 9] ∧ t.val / 9 < 8 :=
  (by decide +kernel : ∀ t : Fin grid0.N, _)

theorem covers : (cfg0.win 3).Covers := by decide +kernel

variable (m : (ℓ : Loc nD τ sig) → Buf (Elt Ideal) ℓ) (c : Dev nD)

theorem read0 (t : Fin cfg0.N) (r : Fin 1024) (d : Fin 2048) (h : 1024 * (t.val / 9) + r.val < 8192) :
    iblk m c 0 t (ix2 r d) = m ((c : Thread nD τ).loc main_arg0) (ix2 ⟨1024 * (t.val / 9) + r.val, h⟩ d) := by
  blk_point [iblk, V, idx t]

theorem read1 (t : Fin cfg0.N) (r : Fin 1) (d : Fin 2048) :
    iblk m c 1 t (ix2 r d) = m ((c : Thread nD τ).loc main_arg1) (ix1 d) := by
  blk_simp [iblk]
  entry_read
  pointwise
  blk_ext [idx t]

theorem read2 (t : Fin cfg0.N) (e : Fin 2048) (f : Fin 768) (h : 768 * (t.val % 9) + f.val < 6912) :
    iblk m c 2 t (ix2 e f) = m ((c : Thread nD τ).loc main_arg2) (ix2 e ⟨768 * (t.val % 9) + f.val, h⟩) := by
  blk_simp [iblk]
  entry_read
  pointwise
  blk_ext [idx t]

/-- The normalised row `r` of the array. -/
abbrev hrow (r : Fin 8192) : Fin 2048 → EReal :=
  normed (fun e => m ((c : Thread nD τ).loc main_arg0) (ix2 r e)) (fun e => m ((c : Thread nD τ).loc main_arg1) (ix1 e))

theorem carryA (t : Fin cfg0.N) (h0 : t.val % 9 = 0) :
    (outsAt0 m c t.val t.isLt).1 = k0_pay2 (F := Ideal) (outsAt0 m c t.val t.isLt).2 (iblk m c 2 t)
    ∧ (outsAt0 m c t.val t.isLt).2 = k0_pay1 (F := Ideal) (iblk m c 0 t) (iblk m c 1 t) := by
  rw [outsAt0_A m c t h0]
  constructor
  · dsimp only
    frame_out
  · dsimp only
    frame_out

theorem carryB (t : Fin cfg0.N) (h0 : ¬t.val % 9 = 0) :
    (outsAt0 m c t.val t.isLt).1 = k0_pay2 (F := Ideal) (outsAt0 m c t.val t.isLt).2 (iblk m c 2 t)
    ∧ (outsAt0 m c t.val t.isLt).2 = (outsAt0 m c (t.val - 1) (Nat.lt_of_le_of_lt (Nat.sub_le _ _) t.isLt)).2 := by
  rw [outsAt0_B m c t h0]
  constructor
  · dsimp only
    frame_out
    congr 1
    exact (Memref.isWhole_whole cc0_scratch0).read_unread _
  · rfl

theorem carried_start (t : Fin cfg0.N) (h0 : t.val % 9 = 0) (r : Fin 1024) (hr : 1024 * (t.val / 9) + r.val < 8192) (d : Fin 2048) :
    (outsAt0 m c t.val t.isLt).2 (ix2 r d) = hrow m c ⟨1024 * (t.val / 9) + r.val, hr⟩ d := by
  rw [(carryA m c t h0).2]
  refine (pay1_apply (iblk m c 0 t) (iblk m c 1 t) r d).trans ?_
  congr 1
  · funext e; exact read0 m c t r e hr
  · funext e; exact read1 m c t 0 e

/-- The scratch holds the normalised rows of the point's row block. -/
theorem carried (n : ℕ) (h : n < cfg0.N) (r : Fin 1024) (i : ℕ) (hi : i = n / 9) (hr : 1024 * i + r.val < 8192) (d : Fin 2048) :
    (outsAt0 m c n h).2 (ix2 r d) = hrow m c ⟨1024 * i + r.val, hr⟩ d := by
  induction n with
  | zero => subst hi; exact carried_start m c ⟨0, h⟩ (Nat.zero_mod _) r hr d
  | succ n ih =>
    by_cases h0 : (n + 1) % 9 = 0
    · subst hi; exact carried_start m c ⟨n + 1, h⟩ h0 r hr d
    · rw [(carryB m c ⟨n + 1, h⟩ h0).2]
      exact ih (Nat.lt_of_succ_lt h) (by omega)

/-- The output array is the reference's result, of the same arrays. -/
theorem final : (dats m 0 c).arrAt 3 cfg0.N
    = Cert.Reference3Ideal.Read.val_main_v13 (F := Ideal) (m ((c : Thread nD τ).loc main_arg0)) (m ((c : Thread nD τ).loc main_arg1))
        (m ((c : Thread nD τ).loc main_arg2)) := by
  refine (dats m 0 c).arrAt_eq_of_covers 3 _ covers fun t hf y => ?_
  blk_simp
  rw [after0_3]
  idx_vars y
  have hr : 1024 * (t.val / 9) + y0.val < 8192 := by have := (idx t).2.2.2.2; omega
  have hc : 768 * (t.val % 9) + y1.val < 6912 := by have : t.val % 9 < 9 := Nat.mod_lt _ (by omega); omega
  have e : (outsAt0 m c t.val t.isLt).1 = k0_pay2 (F := Ideal) (outsAt0 m c t.val t.isLt).2 (iblk m c 2 t) := by
    by_cases h0 : t.val % 9 = 0
    · exact (carryA m c t h0).1
    · exact (carryB m c t h0).1
  rw [e]
  refine (pay2_apply _ (iblk m c 2 t) y0 y1).trans ?_
  refine (Finset.sum_congr rfl fun k _ => congrArg₂ (· * ·) (carried m c t.val t.isLt y0 _ rfl hr k) (read2 m c t k y1 hc)).trans ?_
  refine (Cert.Reference3Ideal.Proj.apply (m ((c : Thread nD τ).loc main_arg0)) (m ((c : Thread nD τ).loc main_arg1)) (m ((c : Thread nD τ).loc main_arg2))
    ⟨1024 * (t.val / 9) + y0.val, hr⟩ ⟨768 * (t.val % 9) + y1.val, hc⟩).symm.trans ?_
  congr 1
  blk_ext [idx t]

end Cert.Kernel3Ideal.Proj

end
-- ==== Proof.Part3.lean ====
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.ProjValue
public import Idealize.ShloMosaic.Lib.Claim

@[expose] public section

/-! # The input projection call's part of the claim -/

noncomputable section

open Idealize.ShloMosaic Idealize.ShloMosaic.TcCoe Idealize.SL.Sem

namespace Cert.Proof.Proj

theorem frame_Kernel : Cert.quiescent_Kernel3 := fun m ρ _ => Cert.Kernel3.Gen.frame m ρ
theorem frame_KernelIdeal : Cert.quiescent_Kernel3Ideal := fun m ρ _ => Cert.Kernel3Ideal.Gen.frame m ρ
theorem frame_ReferenceIdeal : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run m ρ)

theorem algebraic : Cert.algebraic_Kernel3Ideal_Reference3Ideal := by
  intro m g m' g' hpre hagree
  refine ⟨fun c => (Cert.Kernel3Ideal.Gen.dats m 0 c).arrAt 3 Cert.Kernel3Ideal.cfg0.N, Cert.Kernel3Ideal.Value.run_blocks m g,
    (θ_run Cert.Reference3Ideal.defs _ _).mono (fun r h c => ⟨(h c).1.trans ?_, (h c).2⟩) (Cert.Reference3Ideal.Value.run m' g')⟩
  obtain ⟨e0, e1, e2⟩ := hagree c
  refine (Cert.Reference3Ideal.Read.val_main_v13_eq _ _ _).trans ?_
  rw [e0, e1, e2]
  exact (Cert.Kernel3Ideal.Proj.final m c).symm

end Cert.Proof.Proj

end
-- ==== Proof.OutValue.lean ====
module

public import proofs.«01_k».proof.Proof.Gen.Reference4Ideal.Read
public import proofs.«01_k».proof.Proof.Gen.Kernel4Ideal.Value
public import Idealize.ShloMosaic.Lib.Pipeline.ValueKit
public import Idealize.ShloMosaic.Lib.Claim

@[expose] public section

set_option maxRecDepth 16384

/-!
# The output projection's output array

The product with the joined array is the sum of the three products over its parts.
-/

noncomputable section

open Idealize.ShloMosaic Idealize.ShloMosaic.TcCoe Idealize.SL.Sem
open Idealize.ShloMosaic.Pipeline (Dat)

namespace Cert.Kernel4Ideal.Out

open Cert.Kernel4Ideal Cert.Kernel4Ideal.Gen

/-- A sum over 2048 terms in the three parts 512, 512 and 1024. -/
theorem sum_parts (f : Fin 2048 → EReal) :
    ∑ k, f k = (∑ k : Fin 512, f ⟨k.val, by omega⟩) + (∑ k : Fin 512, f ⟨512 + k.val, by omega⟩) + ∑ k : Fin 1024, f ⟨1024 + k.val, by omega⟩ := by
  have h1 := Fin.sum_univ_add (a := 1024) (b := 1024) f
  have h2 := Fin.sum_univ_add (a := 512) (b := 512) fun k => f (Fin.castAdd 1024 k)
  exact h1.trans (congrArg (· + _) h2)

theorem pay1_apply (a b : FVec Ideal S512x512 .f32) (wa wb : FVec Ideal S512x2048 .bf16) (o : FVec Ideal S512x1024 .f32) (wo : FVec Ideal S1024x2048 .bf16)
    (x : FVec Ideal S512x2048 .f32) (r : Fin 512) (d : Fin 2048) :
    k0_pay1 (F := Ideal) a wa b wb o wo x (ix2 r d)
      = x (ix2 r d) + ((∑ e, a (ix2 r e) * wa (ix2 e d)) + (∑ e, b (ix2 r e) * wb (ix2 e d)) + ∑ e, o (ix2 r e) * wo (ix2 e d)) := by
  pointwise [k0_pay1]

theorem out_apply (x0 : FVec Ideal S512x2048 .f32) (x1 x2 : FVec Ideal S512x512 .f32) (x3 : FVec Ideal S512x1024 .f32) (x4 : FVec Ideal S2048x2048 .bf16)
    (r : Fin 512) (d : Fin 2048) :
    out0_5 (F := Ideal) x0 x1 x2 x3 x4 (ix2 r d)
      = x0 (ix2 r d) + ((∑ e : Fin 512, x1 (ix2 r e) * x4 (ix2 ⟨e.val, by omega⟩ d)) + (∑ e : Fin 512, x2 (ix2 r e) * x4 (ix2 ⟨512 + e.val, by omega⟩ d))
          + ∑ e : Fin 1024, x3 (ix2 r e) * x4 (ix2 ⟨1024 + e.val, by omega⟩ d)) := by
  frame_out
  refine (pay1_apply _ _ _ _ _ _ _ r d).trans ?_
  pointwise

theorem join_a (x1 x2 : FVec Ideal S8192x512 .f32) (x3 : FVec Ideal S8192x1024 .f32) (r : Fin 8192) (k : Fin 512) :
    Cert.Reference4Ideal.Read.val_main_v0 (F := Ideal) x1 x2 x3 (ix2 r ⟨k.val, by omega⟩) = x1 (ix2 r k) := by
  pointwise [Cert.Reference4Ideal.Read.val_main_v0]

theorem join_b (x1 x2 : FVec Ideal S8192x512 .f32) (x3 : FVec Ideal S8192x1024 .f32) (r : Fin 8192) (k : Fin 512) :
    Cert.Reference4Ideal.Read.val_main_v0 (F := Ideal) x1 x2 x3 (ix2 r ⟨512 + k.val, by omega⟩) = x2 (ix2 r k) := by
  pointwise [Cert.Reference4Ideal.Read.val_main_v0]

theorem join_c (x1 x2 : FVec Ideal S8192x512 .f32) (x3 : FVec Ideal S8192x1024 .f32) (r : Fin 8192) (k : Fin 1024) :
    Cert.Reference4Ideal.Read.val_main_v0 (F := Ideal) x1 x2 x3 (ix2 r ⟨1024 + k.val, by omega⟩) = x3 (ix2 r k) := by
  pointwise [Cert.Reference4Ideal.Read.val_main_v0]
  rw [dif_neg (by omega), dif_neg (by omega)]
  exact congrArg x3 (congrArg (ix2 r) (Fin.ext (by show 1024 + k.val - 512 - 512 = k.val; omega)))

theorem ref_apply (x0 : FVec Ideal S8192x2048 .f32) (x1 x2 : FVec Ideal S8192x512 .f32) (x3 : FVec Ideal S8192x1024 .f32) (x4 : FVec Ideal S2048x2048 .f32)
    (r : Fin 8192) (d : Fin 2048) :
    Cert.Reference4Ideal.Read.val_main_v2 (F := Ideal) x0 x1 x2 x3 x4 (ix2 r d)
      = x0 (ix2 r d) + ((∑ e : Fin 512, x1 (ix2 r e) * x4 (ix2 ⟨e.val, by omega⟩ d)) + (∑ e : Fin 512, x2 (ix2 r e) * x4 (ix2 ⟨512 + e.val, by omega⟩ d))
          + ∑ e : Fin 1024, x3 (ix2 r e) * x4 (ix2 ⟨1024 + e.val, by omega⟩ d)) := by
  have h : Cert.Reference4Ideal.Read.val_main_v2 (F := Ideal) x0 x1 x2 x3 x4 (ix2 r d)
      = x0 (ix2 r d) + ∑ e, Cert.Reference4Ideal.Read.val_main_v0 (F := Ideal) x1 x2 x3 (ix2 r e) * x4 (ix2 e d) := by
    unfold Cert.Reference4Ideal.Read.val_main_v2 Cert.Reference4Ideal.Read.val_main_v1
    generalize Cert.Reference4Ideal.Read.val_main_v0 (F := Ideal) x1 x2 x3 = L
    pointwise
  rw [h, sum_parts]
  simp only [join_a, join_b, join_c]

theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![t.val, 0] ∧ t.val < 16 :=
  (by decide +kernel : ∀ t : Fin grid0.N, _)

theorem covers : (cfg0.win 5).Covers := by decide +kernel

variable (m : (ℓ : Loc nD τ sig) → Buf (Elt Ideal) ℓ) (c : Dev nD)

theorem read0 (t : Fin cfg0.N) (r : Fin 512) (d : Fin 2048) (h : 512 * t.val + r.val < 8192) :
    iblk m c 0 t (ix2 r d) = m ((c : Thread nD τ).loc main_arg0) (ix2 ⟨512 * t.val + r.val, h⟩ d) := by
  blk_point [iblk, V, idx t]

theorem read1 (t : Fin cfg0.N) (r : Fin 512) (d : Fin 512) (h : 512 * t.val + r.val < 8192) :
    iblk m c 1 t (ix2 r d) = m ((c : Thread nD τ).loc main_arg1) (ix2 ⟨512 * t.val + r.val, h⟩ d) := by
  blk_point [iblk, V, idx t]

theorem read2 (t : Fin cfg0.N) (r : Fin 512) (d : Fin 512) (h : 512 * t.val + r.val < 8192) :
    iblk m c 2 t (ix2 r d) = m ((c : Thread nD τ).loc main_arg2) (ix2 ⟨512 * t.val + r.val, h⟩ d) := by
  blk_point [iblk, V, idx t]

theorem read3 (t : Fin cfg0.N) (r : Fin 512) (d : Fin 1024) (h : 512 * t.val + r.val < 8192) :
    iblk m c 3 t (ix2 r d) = m ((c : Thread nD τ).loc main_arg3) (ix2 ⟨512 * t.val + r.val, h⟩ d) := by
  blk_point [iblk, V, idx t]

theorem read4 (t : Fin cfg0.N) (e : Fin 2048) (d : Fin 2048) :
    iblk m c 4 t (ix2 e d) = m ((c : Thread nD τ).loc main_arg4) (ix2 e d) := by
  blk_simp [iblk]
  entry_read
  pointwise
  blk_ext [idx t]

/-- The output array is the reference's result, of the same arrays. -/
theorem final : (dats m 0 c).arrAt 5 cfg0.N
    = Cert.Reference4Ideal.Read.val_main_v2 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ covers fun t hf y => ?_
  blk_simp
  rw [after0_5]
  idx_vars y
  have hr : 512 * t.val + y0.val < 8192 := by have := (idx t).2.2.2.2.2.2; omega
  refine (out_apply (iblk m c 0 t) (iblk m c 1 t) (iblk m c 2 t) (iblk m c 3 t) (iblk m c 4 t) y0 y1).trans ?_
  refine Eq.trans ?_ ((ref_apply (m ((c : Thread nD τ).loc main_arg0)) (m ((c : Thread nD τ).loc main_arg1)) (m ((c : Thread nD τ).loc main_arg2))
    (m ((c : Thread nD τ).loc main_arg3)) (m ((c : Thread nD τ).loc main_arg4)) ⟨512 * t.val + y0.val, hr⟩ y1).symm.trans ?_)
  · congr 1
    · exact read0 m c t y0 y1 hr
    · congr 1
      · congr 1
        · exact Finset.sum_congr rfl fun e _ => congrArg₂ (· * ·) (read1 m c t y0 e hr) (read4 m c t _ y1)
        · exact Finset.sum_congr rfl fun e _ => congrArg₂ (· * ·) (read2 m c t y0 e hr) (read4 m c t _ y1)
      · exact Finset.sum_congr rfl fun e _ => congrArg₂ (· * ·) (read3 m c t y0 e hr) (read4 m c t _ y1)
  · congr 1
    blk_ext [idx t]

end Cert.Kernel4Ideal.Out

end
-- ==== Proof.Part4.lean ====
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.OutValue
public import Idealize.ShloMosaic.Lib.Claim

@[expose] public section

/-! # The output projection call's part of the claim -/

noncomputable section

open Idealize.ShloMosaic Idealize.ShloMosaic.TcCoe Idealize.SL.Sem

namespace Cert.Proof.Out

theorem frame_Kernel : Cert.quiescent_Kernel4 := fun m ρ _ => Cert.Kernel4.Gen.frame m ρ
theorem frame_KernelIdeal : Cert.quiescent_Kernel4Ideal := fun m ρ _ => Cert.Kernel4Ideal.Gen.frame m ρ
theorem frame_ReferenceIdeal : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run m ρ)

theorem algebraic : Cert.algebraic_Kernel4Ideal_Reference4Ideal := by
  intro m g m' g' hpre hagree
  refine ⟨fun c => (Cert.Kernel4Ideal.Gen.dats m 0 c).arrAt 5 Cert.Kernel4Ideal.cfg0.N, Cert.Kernel4Ideal.Value.run_blocks m g,
    (θ_run Cert.Reference4Ideal.defs _ _).mono (fun r h c => ⟨(h c).1.trans ?_, (h c).2⟩) (Cert.Reference4Ideal.Value.run m' g')⟩
  obtain ⟨e0, e1, e2, e3, e4⟩ := hagree c
  refine (Cert.Reference4Ideal.Read.val_main_v2_eq _ _ _ _ _).trans ?_
  rw [e0, e1, e2, e3, e4]
  exact (Cert.Kernel4Ideal.Out.final m c).symm

end Cert.Proof.Out

end
-- ==== Proof.FoxRows.lean ====
module

public import Idealize.ShloMosaic.Lib.Pipeline.ValueKit

@[expose] public section

set_option maxRecDepth 16384

/-!
# Rows of the forgetting attention's preparation

The normalised head row and the logarithm of the sigmoid.
-/

noncomputable section

open Idealize.ShloMosaic Idealize.ShloMosaic.TcCoe Idealize.SL.Sem
open Idealize.ShloMosaic.Pipeline (Dat)

namespace Cert.FoxRows

/-- Entry `d` of the head row `x` after the root-mean-square norm with gain `g`. -/
def headNorm (x g : Fin 128 → EReal) (d : Fin 128) : EReal :=
  x d * Ideal.rsqrt (Ideal.div (∑ e, x e * x e) (Ideal.ofBits FTy.f32 0x43000000#32) + Ideal.ofBits FTy.f32 0x358637BD#32) * g d

/-- The logarithm of the sigmoid of `x`. -/
def logSig (x : EReal) : EReal :=
  -(max (-x) 0 + Ideal.log1p (Ideal.exp (-FloatOps.absf (F := Ideal) (φ := .f32) (-x))))

end Cert.FoxRows

end
-- ==== Proof.FoxBlock.lean ====
module

public import proofs.«01_k».proof.Proof.FoxRows
public import proofs.«01_k».proof.Proof.Gen.Kernel5Ideal.Skeleton
public import Idealize.ShloMosaic.Lib.Pipeline.ValueKit

@[expose] public section

set_option maxRecDepth 16384

/-!
# The prompt preparation's stores, entry by entry
-/

noncomputable section

open Idealize.ShloMosaic Idealize.ShloMosaic.TcCoe Idealize.SL.Sem
open Idealize.ShloMosaic.Pipeline (Dat)

namespace Cert.Kernel5Ideal.Fox

open Cert.Kernel5Ideal Cert.Kernel5Ideal.Gen Cert.FoxRows

/-- Entry (`r`, `j`) of the normalised heads of a block. -/
def heads (X : FVec Ideal S1x256x1024 .f32) (g : FVec Ideal S1x128 .f32) (r : Fin 256) (j : Fin 1024) : EReal :=
  headNorm (fun e => X (ix3 0 r ⟨128 * (j.val / 128) + e.val, by omega⟩)) (fun e => g (ix2 0 e)) ⟨j.val % 128, by omega⟩

theorem heads_at (X : FVec Ideal S1x256x1024 .f32) (g : FVec Ideal S1x128 .f32) (r : Fin 256) (o : ℕ) (k : ℕ) (ho : o = 128 * k) (d : Fin 128) (hd : o + d.val < 1024) :
    heads X g r ⟨o + d.val, hd⟩ = headNorm (fun e => X (ix3 0 r ⟨o + e.val, by omega⟩)) (fun e => g (ix2 0 e)) d := by
  subst ho
  have e1 : (128 * k + d.val) / 128 = k := by omega
  have e2 : (128 * k + d.val) % 128 = d.val := by omega
  unfold heads
  simp only [e1, e2, Fin.eta]

theorem q0 (X : FVec Ideal S1x256x1024 .f32) (g : FVec Ideal S1x128 .f32) (inb) (r : Fin 256) (d : Fin 128) :
    k0_pay3 (F := Ideal) (View.ld (Val := Elt Ideal) (S := S1x256x1024) (e' := .f32) X (Rect.unit (s := S1x256x1024) ![0, 0, 0] ![1, 256, 128] inb)) g (ix3 0 r d) = heads X g r ⟨0 + d.val, by omega⟩ * Ideal.ofBits FTy.f32 0x3DB504F3#32 := by
  rw [heads_at X g r 0 0 rfl]
  unfold headNorm
  pointwise [k0_pay3]

theorem q1 (X : FVec Ideal S1x256x1024 .f32) (g : FVec Ideal S1x128 .f32) (inb) (r : Fin 256) (d : Fin 128) :
    k0_pay6 (F := Ideal) (View.ld (Val := Elt Ideal) (S := S1x256x1024) (e' := .f32) X (Rect.unit (s := S1x256x1024) ![0, 0, 128] ![1, 256, 128] inb)) g (ix3 0 r d) = heads X g r ⟨128 + d.val, by omega⟩ * Ideal.ofBits FTy.f32 0x3DB504F3#32 := by
  rw [heads_at X g r 128 1 rfl]
  unfold headNorm
  pointwise [k0_pay6]

theorem q2 (X : FVec Ideal S1x256x1024 .f32) (g : FVec Ideal S1x128 .f32) (inb) (r : Fin 256) (d : Fin 128) :
    k0_pay10 (F := Ideal) (View.ld (Val := Elt Ideal) (S := S1x256x1024) (e' := .f32) X (Rect.unit (s := S1x256x1024) ![0, 0, 256] ![1, 256, 128] inb)) g (ix3 0 r d) = heads X g r ⟨256 + d.val, by omega⟩ * Ideal.ofBits FTy.f32 0x3DB504F3#32 := by
  rw [heads_at X g r 256 2 rfl]
  unfold headNorm
  pointwise [k0_pay10]

theorem q3 (X : FVec Ideal S1x256x1024 .f32) (g : FVec Ideal S1x128 .f32) (inb) (r : Fin 256) (d : Fin 128) :
    k0_pay14 (F := Ideal) (View.ld (Val := Elt Ideal) (S := S1x256x1024) (e' := .f32) X (Rect.unit (s := S1x256x1024) ![0, 0, 384] ![1, 256, 128] inb)) g (ix3 0 r d) = heads X g r ⟨384 + d.val, by omega⟩ * Ideal.ofBits FTy.f32 0x3DB504F3#32 := by
  rw [heads_at X g r 384 3 rfl]
  unfold headNorm
  pointwise [k0_pay14]

theorem q4 (X : FVec Ideal S1x256x1024 .f32) (g : FVec Ideal S1x128 .f32) (inb) (r : Fin 256) (d : Fin 128) :
    k0_pay17 (F := Ideal) (k0_pay16 (F := Ideal) (View.ld (Val := Elt Ideal) (S := S1x256x1024) (e' := .f32) X (Rect.unit (s := S1x256x1024) ![0, 0, 512] ![1, 256, 128] inb)) g) (ix3 0 r d) = heads X g r ⟨512 + d.val, by omega⟩ * Ideal.ofBits FTy.f32 0x3DB504F3#32 := by
  rw [heads_at X g r 512 4 rfl]
  unfold headNorm
  pointwise [k0_pay16, k0_pay17]

theorem q5 (X : FVec Ideal S1x256x1024 .f32) (g : FVec Ideal S1x128 .f32) (inb) (r : Fin 256) (d : Fin 128) :
    k0_pay20 (F := Ideal) (k0_pay19 (F := Ideal) (View.ld (Val := Elt Ideal) (S := S1x256x1024) (e' := .f32) X (Rect.unit (s := S1x256x1024) ![0, 0, 640] ![1, 256, 128] inb)) g) (ix3 0 r d) = heads X g r ⟨640 + d.val, by omega⟩ * Ideal.ofBits FTy.f32 0x3DB504F3#32 := by
  rw [heads_at X g r 640 5 rfl]
  unfold headNorm
  pointwise [k0_pay19, k0_pay20]

theorem q6 (X : FVec Ideal S1x256x1024 .f32) (g : FVec Ideal S1x128 .f32) (inb) (r : Fin 256) (d : Fin 128) :
    k0_pay24 (F := Ideal) (k0_pay22 (F := Ideal) (View.ld (Val := Elt Ideal) (S := S1x256x1024) (e' := .f32) X (Rect.unit (s := S1x256x1024) ![0, 0, 768] ![1, 256, 128] inb))) (k0_pay23 (F := Ideal) g) (ix3 0 r d) = heads X g r ⟨768 + d.val, by omega⟩ * Ideal.ofBits FTy.f32 0x3DB504F3#32 := by
  rw [heads_at X g r 768 6 rfl]
  unfold headNorm
  pointwise [k0_pay22, k0_pay23, k0_pay24]

theorem q7 (X : FVec Ideal S1x256x1024 .f32) (g : FVec Ideal S1x128 .f32) (inb) (r : Fin 256) (d : Fin 128) :
    k0_pay28 (F := Ideal) (k0_pay26 (F := Ideal) (View.ld (Val := Elt Ideal) (S := S1x256x1024) (e' := .f32) X (Rect.unit (s := S1x256x1024) ![0, 0, 896] ![1, 256, 128] inb))) (k0_pay27 (F := Ideal) (View.ld (Val := Elt Ideal) (S := S1x256x1024) (e' := .f32) X (Rect.unit (s := S1x256x1024) ![0, 0, 896] ![1, 256, 128] inb))) g (ix3 0 r d) = heads X g r ⟨896 + d.val, by omega⟩ * Ideal.ofBits FTy.f32 0x3DB504F3#32 := by
  rw [heads_at X g r 896 7 rfl]
  unfold headNorm
  pointwise [k0_pay26, k0_pay27, k0_pay28]

theorem k0 (X : FVec Ideal S1x256x1024 .f32) (g : FVec Ideal S1x128 .f32) (inb) (r : Fin 256) (d : Fin 128) :
    k0_pay5 (F := Ideal) (k0_pay4 (F := Ideal) (View.ld (Val := Elt Ideal) (S := S1x256x1024) (e' := .f32) X (Rect.unit (s := S1x256x1024) ![0, 0, 0] ![1, 256, 128] inb))) g (ix3 0 r d) = heads X g r ⟨0 + d.val, by omega⟩ := by
  rw [heads_at X g r 0 0 rfl]
  unfold headNorm
  pointwise [k0_pay4, k0_pay5]

theorem k1 (X : FVec Ideal S1x256x1024 .f32) (g : FVec Ideal S1x128 .f32) (inb) (r : Fin 256) (d : Fin 128) :
    k0_pay9 (F := Ideal) (k0_pay7 (F := Ideal) (View.ld (Val := Elt Ideal) (S := S1x256x1024) (e' := .f32) X (Rect.unit (s := S1x256x1024) ![0, 0, 128] ![1, 256, 128] inb))) (k0_pay8 (F := Ideal) (View.ld (Val := Elt Ideal) (S := S1x256x1024) (e' := .f32) X (Rect.unit (s := S1x256x1024) ![0, 0, 128] ![1, 256, 128] inb))) (Scalar.ofBits .f32 0x358637BD#32) g (ix3 0 r d) = heads X g r ⟨128 + d.val, by omega⟩ := by
  rw [heads_at X g r 128 1 rfl]
  unfold headNorm
  pointwise [k0_pay7, k0_pay8, k0_pay9]

theorem k2 (X : FVec Ideal S1x256x1024 .f32) (g : FVec Ideal S1x128 .f32) (inb) (r : Fin 256) (d : Fin 128) :
    k0_pay13 (F := Ideal) (k0_pay11 (F := Ideal) (View.ld (Val := Elt Ideal) (S := S1x256x1024) (e' := .f32) X (Rect.unit (s := S1x256x1024) ![0, 0, 256] ![1, 256, 128] inb))) (k0_pay12 (F := Ideal) (View.ld (Val := Elt Ideal) (S := S1x256x1024) (e' := .f32) X (Rect.unit (s := S1x256x1024) ![0, 0, 256] ![1, 256, 128] inb))) g (ix3 0 r d) = heads X g r ⟨256 + d.val, by omega⟩ := by
  rw [heads_at X g r 256 2 rfl]
  unfold headNorm
  pointwise [k0_pay11, k0_pay12, k0_pay13]

theorem k3 (X : FVec Ideal S1x256x1024 .f32) (g : FVec Ideal S1x128 .f32) (inb) (r : Fin 256) (d : Fin 128) :
    k0_pay15 (F := Ideal) (View.ld (Val := Elt Ideal) (S := S1x256x1024) (e' := .f32) X (Rect.unit (s := S1x256x1024) ![0, 0, 384] ![1, 256, 128] inb)) g (ix3 0 r d) = heads X g r ⟨384 + d.val, by omega⟩ := by
  rw [heads_at X g r 384 3 rfl]
  unfold headNorm
  pointwise [k0_pay15]

theorem k4 (X : FVec Ideal S1x256x1024 .f32) (g : FVec Ideal S1x128 .f32) (inb) (r : Fin 256) (d : Fin 128) :
    k0_pay18 (F := Ideal) (View.ld (Val := Elt Ideal) (S := S1x256x1024) (e' := .f32) X (Rect.unit (s := S1x256x1024) ![0, 0, 512] ![1, 256, 128] inb)) g (ix3 0 r d) = heads X g r ⟨512 + d.val, by omega⟩ := by
  rw [heads_at X g r 512 4 rfl]
  unfold headNorm
  pointwise [k0_pay18]

theorem k5 (X : FVec Ideal S1x256x1024 .f32) (g : FVec Ideal S1x128 .f32) (inb) (r : Fin 256) (d : Fin 128) :
    k0_pay21 (F := Ideal) (View.ld (Val := Elt Ideal) (S := S1x256x1024) (e' := .f32) X (Rect.unit (s := S1x256x1024) ![0, 0, 640] ![1, 256, 128] inb)) g (ix3 0 r d) = heads X g r ⟨640 + d.val, by omega⟩ := by
  rw [heads_at X g r 640 5 rfl]
  unfold headNorm
  pointwise [k0_pay21]

theorem k6 (X : FVec Ideal S1x256x1024 .f32) (g : FVec Ideal S1x128 .f32) (inb) (r : Fin 256) (d : Fin 128) :
    k0_pay25 (F := Ideal) (View.ld (Val := Elt Ideal) (S := S1x256x1024) (e' := .f32) X (Rect.unit (s := S1x256x1024) ![0, 0, 768] ![1, 256, 128] inb)) g (ix3 0 r d) = heads X g r ⟨768 + d.val, by omega⟩ := by
  rw [heads_at X g r 768 6 rfl]
  unfold headNorm
  pointwise [k0_pay25]

theorem k7 (X : FVec Ideal S1x256x1024 .f32) (g : FVec Ideal S1x128 .f32) (inb) (r : Fin 256) (d : Fin 128) :
    k0_pay29 (F := Ideal) (View.ld (Val := Elt Ideal) (S := S1x256x1024) (e' := .f32) X (Rect.unit (s := S1x256x1024) ![0, 0, 896] ![1, 256, 128] inb)) g (ix3 0 r d) = heads X g r ⟨896 + d.val, by omega⟩ := by
  rw [heads_at X g r 896 7 rfl]
  unfold headNorm
  pointwise [k0_pay29]

theorem v_apply (x : FVec Ideal S1x256x1024 .f32) (r : Fin 256) (j : Fin 1024) : k0_pay30 (F := Ideal) x (ix3 0 r j) = x (ix3 0 r j) := by
  pointwise [k0_pay30]

theorem f_apply (x : FVec Ideal S1x256x128 .f32) (b : FVec Ideal S1x128 .f32) (r : Fin 256) (h : Fin 8) :
    k0_pay32 (F := Ideal) x b (ix3 0 r h) = logSig (x (ix3 0 r ⟨h.val, by omega⟩) + b (ix2 0 ⟨h.val, by omega⟩)) := by
  unfold logSig
  pointwise [k0_pay32, k0_pay31]
  simp only [zero_sub]

end Cert.Kernel5Ideal.Fox

end
-- ==== Proof.FoxRef.lean ====
module

public import proofs.«01_k».proof.Proof.FoxRows
public import proofs.«01_k».proof.Proof.Gen.Reference5Ideal.Read
public import Idealize.ShloMosaic.Lib.Pipeline.ValueKit

@[expose] public section

set_option maxRecDepth 16384

/-!
# The prompt's preparation's reference, entry by entry
-/

noncomputable section

open Idealize.ShloMosaic Idealize.ShloMosaic.TcCoe Idealize.SL.Sem
open Idealize.ShloMosaic.Pipeline (Dat)

namespace Cert.Reference5Ideal.Fox

open Cert.Reference5Ideal Cert.Reference5Ideal.Gen Cert.Reference5Ideal.Read Cert.FoxRows

variable (x0 : FVec Ideal S4x2048x6912 .f32) (x1 x2 : FVec Ideal S128 .f32) (x3 : FVec Ideal S8 .f32)

theorem heads_q (b : Fin 4) (r : Fin 2048) (h : Fin 8) (d : Fin 128) :
    val_main_v18 (F := Ideal) x0 x1 (ix4 b r h d)
      = headNorm (fun e => x0 (ix3 b r ⟨h.val * 128 + e.val, by omega⟩)) (fun e => x1 (ix1 e)) d * Ideal.ofBits FTy.f32 0x3DB504F3#32 := by
  have hv : ∀ e : Fin 128, val_main_v1 (F := Ideal) x0 (ix4 b r h e) = x0 (ix3 b r ⟨h.val * 128 + e.val, by omega⟩) := by
    intro e
    pointwise [val_main_v1, val_main_v0]
  unfold headNorm
  simp only [← hv]
  unfold val_main_v18 val_main_v17 val_main_cst_2 val_main_v16 val_main_v15 val_main_v14 val_main_v13 val_main_v12 val_main_v11 val_main_v10 val_main_v9 val_main_cst_1 val_main_v8 val_main_v7 val_main_cst_0 val_main_v6 val_main_v5 val_main_cst val_main_v4
  generalize val_main_v1 (F := Ideal) x0 = L
  pointwise

theorem heads_k (b : Fin 4) (r : Fin 2048) (h : Fin 8) (d : Fin 128) :
    val_main_v31 (F := Ideal) x0 x2 (ix4 b r h d)
      = headNorm (fun e => x0 (ix3 b r ⟨1024 + (h.val * 128 + e.val), by omega⟩)) (fun e => x2 (ix1 e)) d := by
  have hv : ∀ e : Fin 128, val_main_v3 (F := Ideal) x0 (ix4 b r h e) = x0 (ix3 b r ⟨1024 + (h.val * 128 + e.val), by omega⟩) := by
    intro e
    pointwise [val_main_v3, val_main_v2]
  unfold headNorm
  simp only [← hv]
  unfold val_main_v31 val_main_v30 val_main_v29 val_main_v28 val_main_v27 val_main_v26 val_main_v25 val_main_v24 val_main_cst_5 val_main_v23 val_main_v22 val_main_cst_4 val_main_v21 val_main_v20 val_main_cst_3 val_main_v19
  generalize val_main_v3 (F := Ideal) x0 = L
  pointwise

theorem q_apply (b : Fin 4) (r : Fin 2048) (j : Fin 1024) :
    val_main_v37 (F := Ideal) x0 x1 (ix3 b r j)
      = headNorm (fun e => x0 (ix3 b r ⟨j.val / 128 * 128 + e.val, by omega⟩)) (fun e => x1 (ix1 e)) ⟨j.val % 128, by omega⟩ * Ideal.ofBits FTy.f32 0x3DB504F3#32 := by
  refine Eq.trans ?_ (heads_q x0 x1 b r ⟨j.val / 128, by omega⟩ ⟨j.val % 128, by omega⟩)
  unfold val_main_v37
  generalize val_main_v18 (F := Ideal) x0 x1 = L
  pointwise

theorem k_apply (b : Fin 4) (r : Fin 2048) (j : Fin 1024) :
    val_main_v38 (F := Ideal) x0 x2 (ix3 b r j)
      = headNorm (fun e => x0 (ix3 b r ⟨1024 + (j.val / 128 * 128 + e.val), by omega⟩)) (fun e => x2 (ix1 e)) ⟨j.val % 128, by omega⟩ := by
  refine Eq.trans ?_ (heads_k x0 x2 b r ⟨j.val / 128, by omega⟩ ⟨j.val % 128, by omega⟩)
  unfold val_main_v38
  generalize val_main_v31 (F := Ideal) x0 x2 = L
  pointwise

theorem v_apply (b : Fin 4) (r : Fin 2048) (j : Fin 1024) :
    val_main_v39 (F := Ideal) x0 (ix3 b r j) = x0 (ix3 b r ⟨2048 + j.val, by omega⟩) := by
  pointwise [val_main_v39]

theorem f_apply (b : Fin 4) (r : Fin 2048) (h : Fin 8) :
    val_main_v36 (F := Ideal) x0 x3 (ix3 b r h) = logSig (x0 (ix3 b r ⟨6656 + h.val, by omega⟩) + x3 (ix1 h)) := by
  unfold logSig
  pointwise [val_main_v36, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v35, val_main_v34, val_main_v33, val_main_v32]
  exact congrArg Neg.neg (if_neg (not_not_intro rfl))

end Cert.Reference5Ideal.Fox

end
-- ==== Proof.FoxValue.lean ====
module

public import proofs.«01_k».proof.Proof.FoxBlock
public import proofs.«01_k».proof.Proof.FoxRef
public import proofs.«01_k».proof.Proof.Gen.Kernel5Ideal.Value
public import Idealize.ShloMosaic.Lib.Pipeline.ValueKit
public import Idealize.ShloMosaic.Lib.Claim
public import Idealize.ShloMosaic.Lib.StableHlo.ReadAt

@[expose] public section

set_option maxRecDepth 16384

/-!
# The prompt preparation's output arrays
-/

noncomputable section

open Idealize.ShloMosaic Idealize.ShloMosaic.TcCoe Idealize.SL.Sem
open Idealize.ShloMosaic.Pipeline (Dat)

namespace Cert.Kernel5Ideal.Fox

open Cert.Kernel5Ideal Cert.Kernel5Ideal.Gen Cert.FoxRows

theorem idx : ∀ t : Fin cfg0.N,
    win0_0.index t = ![t.val / 8, t.val % 8, 0] ∧ win0_1.index t = ![t.val / 8, t.val % 8, 1] ∧ win0_2.index t = ![t.val / 8, t.val % 8, 2] ∧ win0_3.index t = ![t.val / 8, t.val % 8, 52]
    ∧ win0_4.index t = ![0, 0] ∧ win0_5.index t = ![0, 0] ∧ win0_6.index t = ![0, 0] ∧ win0_7.index t = ![t.val / 8, t.val % 8, 0]
    ∧ win0_8.index t = ![t.val / 8, t.val % 8, 0] ∧ win0_9.index t = ![t.val / 8, t.val % 8, 0] ∧ win0_10.index t = ![t.val / 8, t.val % 8, 0] ∧ t.val / 8 < 4 :=
  (by decide +kernel : ∀ t : Fin grid0.N, _)

theorem covers7 : (cfg0.win 7).Covers := by decide +kernel
theorem covers8 : (cfg0.win 8).Covers := by decide +kernel
theorem covers9 : (cfg0.win 9).Covers := by decide +kernel
theorem covers10 : (cfg0.win 10).Covers := by decide +kernel

variable (m : (ℓ : Loc nD τ sig) → Buf (Elt Ideal) ℓ) (c : Dev nD)

theorem read0 (t : Fin cfg0.N) (r : Fin 256) (d : Fin 1024) (hb : t.val / 8 < 4) (hr : 256 * (t.val % 8) + r.val < 2048) :
    X0_0 m c t (ix3 0 r d) = m ((c : Thread nD τ).loc main_arg0) (ix3 ⟨t.val / 8, hb⟩ ⟨256 * (t.val % 8) + r.val, hr⟩ ⟨d.val, by omega⟩) := by
  unfold X0_0 Pipeline.Window.fill
  rw [dif_pos (moved0_0 t _)]
  blk_point [iblk, V, idx t]

theorem read1 (t : Fin cfg0.N) (r : Fin 256) (d : Fin 1024) (hb : t.val / 8 < 4) (hr : 256 * (t.val % 8) + r.val < 2048) :
    X0_1 m c t (ix3 0 r d) = m ((c : Thread nD τ).loc main_arg0) (ix3 ⟨t.val / 8, hb⟩ ⟨256 * (t.val % 8) + r.val, hr⟩ ⟨1024 + d.val, by omega⟩) := by
  unfold X0_1 Pipeline.Window.fill
  rw [dif_pos (moved0_1 t _)]
  blk_point [iblk, V, idx t]

theorem read2 (t : Fin cfg0.N) (r : Fin 256) (d : Fin 1024) (hb : t.val / 8 < 4) (hr : 256 * (t.val % 8) + r.val < 2048) :
    X0_2 m c t (ix3 0 r d) = m ((c : Thread nD τ).loc main_arg0) (ix3 ⟨t.val / 8, hb⟩ ⟨256 * (t.val % 8) + r.val, hr⟩ ⟨2048 + d.val, by omega⟩) := by
  unfold X0_2 Pipeline.Window.fill
  rw [dif_pos (moved0_2 t _)]
  blk_point [iblk, V, idx t]

theorem read3 (t : Fin cfg0.N) (r : Fin 256) (d : Fin 128) (hb : t.val / 8 < 4) (hr : 256 * (t.val % 8) + r.val < 2048) (h : 6656 + d.val < 6912) :
    iblk m c 3 t (ix3 0 r d) = m ((c : Thread nD τ).loc main_arg0) (ix3 ⟨t.val / 8, hb⟩ ⟨256 * (t.val % 8) + r.val, hr⟩ ⟨6656 + d.val, h⟩) := by
  blk_point [iblk, V, idx t]

theorem V_v2 (b : Fin 1) (d : Fin 128) : V m c main_v2 (ix2 b d) = m ((c : Thread nD τ).loc main_arg1) (ix1 d) := by
  unfold V
  simp only [List.flatten_cons, List.flatten_nil, List.append_nil, List.cons_append, List.nil_append, hostOps0, hostOps0_1, hostOps0_2]
  after_reads_at

theorem V_v3 (b : Fin 1) (d : Fin 128) : V m c main_v3 (ix2 b d) = m ((c : Thread nD τ).loc main_arg2) (ix1 d) := by
  unfold V
  simp only [List.flatten_cons, List.flatten_nil, List.append_nil, List.cons_append, List.nil_append, hostOps0, hostOps0_1, hostOps0_2]
  after_reads_at

theorem V_v1 (b : Fin 1) (d : Fin 8) : V m c main_v1 (ix2 b ⟨d.val, by omega⟩) = m ((c : Thread nD τ).loc main_arg3) (ix1 d) := by
  unfold V
  simp only [List.flatten_cons, List.flatten_nil, List.append_nil, List.cons_append, List.nil_append, hostOps0, hostOps0_1, hostOps0_2]
  after_reads_at

theorem read4 (t : Fin cfg0.N) (b : Fin 1) (d : Fin 128) : iblk m c 4 t (ix2 b d) = m ((c : Thread nD τ).loc main_arg1) (ix1 d) := by
  refine Eq.trans ?_ (V_v2 m c b d)
  blk_point [iblk, idx t]

theorem read5 (t : Fin cfg0.N) (b : Fin 1) (d : Fin 128) : iblk m c 5 t (ix2 b d) = m ((c : Thread nD τ).loc main_arg2) (ix1 d) := by
  refine Eq.trans ?_ (V_v3 m c b d)
  blk_point [iblk, idx t]

theorem read6 (t : Fin cfg0.N) (b : Fin 1) (d : Fin 8) : iblk m c 6 t (ix2 b ⟨d.val, by omega⟩) = m ((c : Thread nD τ).loc main_arg3) (ix1 d) := by
  refine Eq.trans ?_ (V_v1 m c b d)
  blk_point [iblk, idx t]

theorem out7 (t : Fin cfg0.N) (r : Fin 256) (j : Fin 1024) :
    (outsAt0 m c t.val t.isLt).1 (ix3 0 r j) = heads (X0_0 m c t) (iblk m c 4 t) r j * Ideal.ofBits FTy.f32 0x3DB504F3#32 := by
  by_cases h0 : t.val % 8 = 0
  · rw [outsAt0_A m c t h0]
    dsimp only
    frame_out
    refine (View.canon_apply_of_pieces (fun y : S1x256x1024.Idx => heads (X0_0 m c t) (iblk m c 4 t) (y 1) (y 2) * Ideal.ofBits FTy.f32 0x3DB504F3#32) _ ?_ _ ?_).trans rfl
    · simp only [List.forall_mem_cons, List.not_mem_nil, false_imp_iff, implies_true, and_true]
      refine ⟨?_, ?_, ?_, ?_, ?_, ?_, ?_, ?_⟩
      · intro x
        idx_vars x
        obtain rfl : x0 = 0 := Subsingleton.elim _ _
        refine (q7 (X0_0 m c t) (iblk m c 4 t) _ x1 x2).trans ?_
        exact congrArg₂ (fun a b => heads (X0_0 m c t) (iblk m c 4 t) a b * Ideal.ofBits FTy.f32 0x3DB504F3#32) (Fin.ext (by show x1.val = 0 + 1 * x1.val; omega)) (Fin.ext (by show 896 + x2.val = 896 + 1 * x2.val; omega))
      · intro x
        idx_vars x
        obtain rfl : x0 = 0 := Subsingleton.elim _ _
        refine (q6 (X0_0 m c t) (iblk m c 4 t) _ x1 x2).trans ?_
        exact congrArg₂ (fun a b => heads (X0_0 m c t) (iblk m c 4 t) a b * Ideal.ofBits FTy.f32 0x3DB504F3#32) (Fin.ext (by show x1.val = 0 + 1 * x1.val; omega)) (Fin.ext (by show 768 + x2.val = 768 + 1 * x2.val; omega))
      · intro x
        idx_vars x
        obtain rfl : x0 = 0 := Subsingleton.elim _ _
        refine (q5 (X0_0 m c t) (iblk m c 4 t) _ x1 x2).trans ?_
        exact congrArg₂ (fun a b => heads (X0_0 m c t) (iblk m c 4 t) a b * Ideal.ofBits FTy.f32 0x3DB504F3#32) (Fin.ext (by show x1.val = 0 + 1 * x1.val; omega)) (Fin.ext (by show 640 + x2.val = 640 + 1 * x2.val; omega))
      · intro x
        idx_vars x
        obtain rfl : x0 = 0 := Subsingleton.elim _ _
        refine (q4 (X0_0 m c t) (iblk m c 4 t) _ x1 x2).trans ?_
        exact congrArg₂ (fun a b => heads (X0_0 m c t) (iblk m c 4 t) a b * Ideal.ofBits FTy.f32 0x3DB504F3#32) (Fin.ext (by show x1.val = 0 + 1 * x1.val; omega)) (Fin.ext (by show 512 + x2.val = 512 + 1 * x2.val; omega))
      · intro x
        idx_vars x
        obtain rfl : x0 = 0 := Subsingleton.elim _ _
        refine (q3 (X0_0 m c t) (iblk m c 4 t) _ x1 x2).trans ?_
        exact congrArg₂ (fun a b => heads (X0_0 m c t) (iblk m c 4 t) a b * Ideal.ofBits FTy.f32 0x3DB504F3#32) (Fin.ext (by show x1.val = 0 + 1 * x1.val; omega)) (Fin.ext (by show 384 + x2.val = 384 + 1 * x2.val; omega))
      · intro x
        idx_vars x
        obtain rfl : x0 = 0 := Subsingleton.elim _ _
        refine (q2 (X0_0 m c t) (iblk m c 4 t) _ x1 x2).trans ?_
        exact congrArg₂ (fun a b => heads (X0_0 m c t) (iblk m c 4 t) a b * Ideal.ofBits FTy.f32 0x3DB504F3#32) (Fin.ext (by show x1.val = 0 + 1 * x1.val; omega)) (Fin.ext (by show 256 + x2.val = 256 + 1 * x2.val; omega))
      · intro x
        idx_vars x
        obtain rfl : x0 = 0 := Subsingleton.elim _ _
        refine (q1 (X0_0 m c t) (iblk m c 4 t) _ x1 x2).trans ?_
        exact congrArg₂ (fun a b => heads (X0_0 m c t) (iblk m c 4 t) a b * Ideal.ofBits FTy.f32 0x3DB504F3#32) (Fin.ext (by show x1.val = 0 + 1 * x1.val; omega)) (Fin.ext (by show 128 + x2.val = 128 + 1 * x2.val; omega))
      · intro x
        idx_vars x
        obtain rfl : x0 = 0 := Subsingleton.elim _ _
        refine (q0 (X0_0 m c t) (iblk m c 4 t) _ x1 x2).trans ?_
        exact congrArg₂ (fun a b => heads (X0_0 m c t) (iblk m c 4 t) a b * Ideal.ofBits FTy.f32 0x3DB504F3#32) (Fin.ext (by show x1.val = 0 + 1 * x1.val; omega)) (Fin.ext (by show 0 + x2.val = 0 + 1 * x2.val; omega))
    · refine View.cover_of_tiledL (Val := Elt Ideal) (s := S1x256x1024) (e := .f32) _ ![1, 256, 128] ?_ _
      sl_kernel_rfl
  · rw [outsAt0_B m c t h0]
    dsimp only
    frame_out
    refine (View.canon_apply_of_pieces (fun y : S1x256x1024.Idx => heads (X0_0 m c t) (iblk m c 4 t) (y 1) (y 2) * Ideal.ofBits FTy.f32 0x3DB504F3#32) _ ?_ _ ?_).trans rfl
    · simp only [List.forall_mem_cons, List.not_mem_nil, false_imp_iff, implies_true, and_true]
      refine ⟨?_, ?_, ?_, ?_, ?_, ?_, ?_, ?_⟩
      · intro x
        idx_vars x
        obtain rfl : x0 = 0 := Subsingleton.elim _ _
        refine (q7 (X0_0 m c t) (iblk m c 4 t) _ x1 x2).trans ?_
        exact congrArg₂ (fun a b => heads (X0_0 m c t) (iblk m c 4 t) a b * Ideal.ofBits FTy.f32 0x3DB504F3#32) (Fin.ext (by show x1.val = 0 + 1 * x1.val; omega)) (Fin.ext (by show 896 + x2.val = 896 + 1 * x2.val; omega))
      · intro x
        idx_vars x
        obtain rfl : x0 = 0 := Subsingleton.elim _ _
        refine (q6 (X0_0 m c t) (iblk m c 4 t) _ x1 x2).trans ?_
        exact congrArg₂ (fun a b => heads (X0_0 m c t) (iblk m c 4 t) a b * Ideal.ofBits FTy.f32 0x3DB504F3#32) (Fin.ext (by show x1.val = 0 + 1 * x1.val; omega)) (Fin.ext (by show 768 + x2.val = 768 + 1 * x2.val; omega))
      · intro x
        idx_vars x
        obtain rfl : x0 = 0 := Subsingleton.elim _ _
        refine (q5 (X0_0 m c t) (iblk m c 4 t) _ x1 x2).trans ?_
        exact congrArg₂ (fun a b => heads (X0_0 m c t) (iblk m c 4 t) a b * Ideal.ofBits FTy.f32 0x3DB504F3#32) (Fin.ext (by show x1.val = 0 + 1 * x1.val; omega)) (Fin.ext (by show 640 + x2.val = 640 + 1 * x2.val; omega))
      · intro x
        idx_vars x
        obtain rfl : x0 = 0 := Subsingleton.elim _ _
        refine (q4 (X0_0 m c t) (iblk m c 4 t) _ x1 x2).trans ?_
        exact congrArg₂ (fun a b => heads (X0_0 m c t) (iblk m c 4 t) a b * Ideal.ofBits FTy.f32 0x3DB504F3#32) (Fin.ext (by show x1.val = 0 + 1 * x1.val; omega)) (Fin.ext (by show 512 + x2.val = 512 + 1 * x2.val; omega))
      · intro x
        idx_vars x
        obtain rfl : x0 = 0 := Subsingleton.elim _ _
        refine (q3 (X0_0 m c t) (iblk m c 4 t) _ x1 x2).trans ?_
        exact congrArg₂ (fun a b => heads (X0_0 m c t) (iblk m c 4 t) a b * Ideal.ofBits FTy.f32 0x3DB504F3#32) (Fin.ext (by show x1.val = 0 + 1 * x1.val; omega)) (Fin.ext (by show 384 + x2.val = 384 + 1 * x2.val; omega))
      · intro x
        idx_vars x
        obtain rfl : x0 = 0 := Subsingleton.elim _ _
        refine (q2 (X0_0 m c t) (iblk m c 4 t) _ x1 x2).trans ?_
        exact congrArg₂ (fun a b => heads (X0_0 m c t) (iblk m c 4 t) a b * Ideal.ofBits FTy.f32 0x3DB504F3#32) (Fin.ext (by show x1.val = 0 + 1 * x1.val; omega)) (Fin.ext (by show 256 + x2.val = 256 + 1 * x2.val; omega))
      · intro x
        idx_vars x
        obtain rfl : x0 = 0 := Subsingleton.elim _ _
        refine (q1 (X0_0 m c t) (iblk m c 4 t) _ x1 x2).trans ?_
        exact congrArg₂ (fun a b => heads (X0_0 m c t) (iblk m c 4 t) a b * Ideal.ofBits FTy.f32 0x3DB504F3#32) (Fin.ext (by show x1.val = 0 + 1 * x1.val; omega)) (Fin.ext (by show 128 + x2.val = 128 + 1 * x2.val; omega))
      · intro x
        idx_vars x
        obtain rfl : x0 = 0 := Subsingleton.elim _ _
        refine (q0 (X0_0 m c t) (iblk m c 4 t) _ x1 x2).trans ?_
        exact congrArg₂ (fun a b => heads (X0_0 m c t) (iblk m c 4 t) a b * Ideal.ofBits FTy.f32 0x3DB504F3#32) (Fin.ext (by show x1.val = 0 + 1 * x1.val; omega)) (Fin.ext (by show 0 + x2.val = 0 + 1 * x2.val; omega))
    · refine View.cover_of_tiledL (Val := Elt Ideal) (s := S1x256x1024) (e := .f32) _ ![1, 256, 128] ?_ _
      sl_kernel_rfl

theorem out8 (t : Fin cfg0.N) (r : Fin 256) (j : Fin 1024) :
    (outsAt0 m c t.val t.isLt).2.1 (ix3 0 r j) = heads (X0_1 m c t) (iblk m c 5 t) r j := by
  by_cases h0 : t.val % 8 = 0
  · rw [outsAt0_A m c t h0]
    dsimp only
    frame_out
    refine (View.canon_apply_of_pieces (fun y : S1x256x1024.Idx => heads (X0_1 m c t) (iblk m c 5 t) (y 1) (y 2)) _ ?_ _ ?_).trans rfl
    · simp only [List.forall_mem_cons, List.not_mem_nil, false_imp_iff, implies_true, and_true]
      refine ⟨?_, ?_, ?_, ?_, ?_, ?_, ?_, ?_⟩
      · intro x
        idx_vars x
        obtain rfl : x0 = 0 := Subsingleton.elim _ _
        refine (k7 (X0_1 m c t) (iblk m c 5 t) _ x1 x2).trans ?_
        exact congrArg₂ (fun a b => heads (X0_1 m c t) (iblk m c 5 t) a b) (Fin.ext (by show x1.val = 0 + 1 * x1.val; omega)) (Fin.ext (by show 896 + x2.val = 896 + 1 * x2.val; omega))
      · intro x
        idx_vars x
        obtain rfl : x0 = 0 := Subsingleton.elim _ _
        refine (k6 (X0_1 m c t) (iblk m c 5 t) _ x1 x2).trans ?_
        exact congrArg₂ (fun a b => heads (X0_1 m c t) (iblk m c 5 t) a b) (Fin.ext (by show x1.val = 0 + 1 * x1.val; omega)) (Fin.ext (by show 768 + x2.val = 768 + 1 * x2.val; omega))
      · intro x
        idx_vars x
        obtain rfl : x0 = 0 := Subsingleton.elim _ _
        refine (k5 (X0_1 m c t) (iblk m c 5 t) _ x1 x2).trans ?_
        exact congrArg₂ (fun a b => heads (X0_1 m c t) (iblk m c 5 t) a b) (Fin.ext (by show x1.val = 0 + 1 * x1.val; omega)) (Fin.ext (by show 640 + x2.val = 640 + 1 * x2.val; omega))
      · intro x
        idx_vars x
        obtain rfl : x0 = 0 := Subsingleton.elim _ _
        refine (k4 (X0_1 m c t) (iblk m c 5 t) _ x1 x2).trans ?_
        exact congrArg₂ (fun a b => heads (X0_1 m c t) (iblk m c 5 t) a b) (Fin.ext (by show x1.val = 0 + 1 * x1.val; omega)) (Fin.ext (by show 512 + x2.val = 512 + 1 * x2.val; omega))
      · intro x
        idx_vars x
        obtain rfl : x0 = 0 := Subsingleton.elim _ _
        refine (k3 (X0_1 m c t) (iblk m c 5 t) _ x1 x2).trans ?_
        exact congrArg₂ (fun a b => heads (X0_1 m c t) (iblk m c 5 t) a b) (Fin.ext (by show x1.val = 0 + 1 * x1.val; omega)) (Fin.ext (by show 384 + x2.val = 384 + 1 * x2.val; omega))
      · intro x
        idx_vars x
        obtain rfl : x0 = 0 := Subsingleton.elim _ _
        refine (k2 (X0_1 m c t) (iblk m c 5 t) _ x1 x2).trans ?_
        exact congrArg₂ (fun a b => heads (X0_1 m c t) (iblk m c 5 t) a b) (Fin.ext (by show x1.val = 0 + 1 * x1.val; omega)) (Fin.ext (by show 256 + x2.val = 256 + 1 * x2.val; omega))
      · intro x
        idx_vars x
        obtain rfl : x0 = 0 := Subsingleton.elim _ _
        refine (k1 (X0_1 m c t) (iblk m c 5 t) _ x1 x2).trans ?_
        exact congrArg₂ (fun a b => heads (X0_1 m c t) (iblk m c 5 t) a b) (Fin.ext (by show x1.val = 0 + 1 * x1.val; omega)) (Fin.ext (by show 128 + x2.val = 128 + 1 * x2.val; omega))
      · intro x
        idx_vars x
        obtain rfl : x0 = 0 := Subsingleton.elim _ _
        refine (k0 (X0_1 m c t) (iblk m c 5 t) _ x1 x2).trans ?_
        exact congrArg₂ (fun a b => heads (X0_1 m c t) (iblk m c 5 t) a b) (Fin.ext (by show x1.val = 0 + 1 * x1.val; omega)) (Fin.ext (by show 0 + x2.val = 0 + 1 * x2.val; omega))
    · refine View.cover_of_tiledL (Val := Elt Ideal) (s := S1x256x1024) (e := .f32) _ ![1, 256, 128] ?_ _
      sl_kernel_rfl
  · rw [outsAt0_B m c t h0]
    dsimp only
    frame_out
    refine (View.canon_apply_of_pieces (fun y : S1x256x1024.Idx => heads (X0_1 m c t) (iblk m c 5 t) (y 1) (y 2)) _ ?_ _ ?_).trans rfl
    · simp only [List.forall_mem_cons, List.not_mem_nil, false_imp_iff, implies_true, and_true]
      refine ⟨?_, ?_, ?_, ?_, ?_, ?_, ?_, ?_⟩
      · intro x
        idx_vars x
        obtain rfl : x0 = 0 := Subsingleton.elim _ _
        refine (k7 (X0_1 m c t) (iblk m c 5 t) _ x1 x2).trans ?_
        exact congrArg₂ (fun a b => heads (X0_1 m c t) (iblk m c 5 t) a b) (Fin.ext (by show x1.val = 0 + 1 * x1.val; omega)) (Fin.ext (by show 896 + x2.val = 896 + 1 * x2.val; omega))
      · intro x
        idx_vars x
        obtain rfl : x0 = 0 := Subsingleton.elim _ _
        refine (k6 (X0_1 m c t) (iblk m c 5 t) _ x1 x2).trans ?_
        exact congrArg₂ (fun a b => heads (X0_1 m c t) (iblk m c 5 t) a b) (Fin.ext (by show x1.val = 0 + 1 * x1.val; omega)) (Fin.ext (by show 768 + x2.val = 768 + 1 * x2.val; omega))
      · intro x
        idx_vars x
        obtain rfl : x0 = 0 := Subsingleton.elim _ _
        refine (k5 (X0_1 m c t) (iblk m c 5 t) _ x1 x2).trans ?_
        exact congrArg₂ (fun a b => heads (X0_1 m c t) (iblk m c 5 t) a b) (Fin.ext (by show x1.val = 0 + 1 * x1.val; omega)) (Fin.ext (by show 640 + x2.val = 640 + 1 * x2.val; omega))
      · intro x
        idx_vars x
        obtain rfl : x0 = 0 := Subsingleton.elim _ _
        refine (k4 (X0_1 m c t) (iblk m c 5 t) _ x1 x2).trans ?_
        exact congrArg₂ (fun a b => heads (X0_1 m c t) (iblk m c 5 t) a b) (Fin.ext (by show x1.val = 0 + 1 * x1.val; omega)) (Fin.ext (by show 512 + x2.val = 512 + 1 * x2.val; omega))
      · intro x
        idx_vars x
        obtain rfl : x0 = 0 := Subsingleton.elim _ _
        refine (k3 (X0_1 m c t) (iblk m c 5 t) _ x1 x2).trans ?_
        exact congrArg₂ (fun a b => heads (X0_1 m c t) (iblk m c 5 t) a b) (Fin.ext (by show x1.val = 0 + 1 * x1.val; omega)) (Fin.ext (by show 384 + x2.val = 384 + 1 * x2.val; omega))
      · intro x
        idx_vars x
        obtain rfl : x0 = 0 := Subsingleton.elim _ _
        refine (k2 (X0_1 m c t) (iblk m c 5 t) _ x1 x2).trans ?_
        exact congrArg₂ (fun a b => heads (X0_1 m c t) (iblk m c 5 t) a b) (Fin.ext (by show x1.val = 0 + 1 * x1.val; omega)) (Fin.ext (by show 256 + x2.val = 256 + 1 * x2.val; omega))
      · intro x
        idx_vars x
        obtain rfl : x0 = 0 := Subsingleton.elim _ _
        refine (k1 (X0_1 m c t) (iblk m c 5 t) _ x1 x2).trans ?_
        exact congrArg₂ (fun a b => heads (X0_1 m c t) (iblk m c 5 t) a b) (Fin.ext (by show x1.val = 0 + 1 * x1.val; omega)) (Fin.ext (by show 128 + x2.val = 128 + 1 * x2.val; omega))
      · intro x
        idx_vars x
        obtain rfl : x0 = 0 := Subsingleton.elim _ _
        refine (k0 (X0_1 m c t) (iblk m c 5 t) _ x1 x2).trans ?_
        exact congrArg₂ (fun a b => heads (X0_1 m c t) (iblk m c 5 t) a b) (Fin.ext (by show x1.val = 0 + 1 * x1.val; omega)) (Fin.ext (by show 0 + x2.val = 0 + 1 * x2.val; omega))
    · refine View.cover_of_tiledL (Val := Elt Ideal) (s := S1x256x1024) (e := .f32) _ ![1, 256, 128] ?_ _
      sl_kernel_rfl

theorem out9 (t : Fin cfg0.N) (r : Fin 256) (j : Fin 1024) :
    (outsAt0 m c t.val t.isLt).2.2.1 (ix3 0 r j) = X0_2 m c t (ix3 0 r j) := by
  by_cases h0 : t.val % 8 = 0
  · rw [outsAt0_A m c t h0]
    dsimp only
    frame_out
    exact v_apply (X0_2 m c t) r j
  · rw [outsAt0_B m c t h0]
    dsimp only
    frame_out
    exact v_apply (X0_2 m c t) r j

theorem out10 (t : Fin cfg0.N) (r : Fin 256) (h : Fin 8) :
    (outsAt0 m c t.val t.isLt).2.2.2.1 (ix3 0 r h)
      = k0_pay32 (F := Ideal) (iblk m c 3 t) (iblk m c 6 t) (ix3 0 r h) := by
  by_cases h0 : t.val % 8 = 0
  · rw [outsAt0_A m c t h0]
    dsimp only
    frame_out
  · rw [outsAt0_B m c t h0]
    dsimp only
    frame_out

theorem final7 : (dats m 0 c).arrAt 7 cfg0.N
    = Cert.Reference5Ideal.Read.val_main_v37 (F := Ideal) (m ((c : Thread nD τ).loc main_arg0)) (m ((c : Thread nD τ).loc main_arg1)) := by
  refine (dats m 0 c).arrAt_eq_of_covers 7 _ covers7 fun t hf y => ?_
  blk_simp
  rw [after0_7]
  idx_vars y
  obtain rfl : y0 = 0 := Subsingleton.elim _ _
  have hb : t.val / 8 < 4 := (idx t).2.2.2.2.2.2.2.2.2.2.2
  have hr : 256 * (t.val % 8) + y1.val < 2048 := by have : t.val % 8 < 8 := Nat.mod_lt _ (by omega); omega
  refine (out7 m c t y1 y2).trans ?_
  refine Eq.trans ?_ ((Cert.Reference5Ideal.Fox.q_apply (m ((c : Thread nD τ).loc main_arg0)) (m ((c : Thread nD τ).loc main_arg1)) ⟨t.val / 8, hb⟩ ⟨256 * (t.val % 8) + y1.val, hr⟩ y2).symm.trans ?_)
  · unfold heads
    refine congrArg (· * _) ?_
    refine congrArg₂ (fun a b => headNorm a b _) (funext fun e => ?_) (funext fun e => read4 m c t 0 e)
    refine (read0 m c t y1 _ hb hr).trans ?_
    congr 2
    exact Fin.ext (by show 128 * (y2.val / 128) + e.val = y2.val / 128 * 128 + e.val; omega)
  · congr 1
    blk_ext [idx t]

theorem final8 : (dats m 0 c).arrAt 8 cfg0.N
    = Cert.Reference5Ideal.Read.val_main_v38 (F := Ideal) (m ((c : Thread nD τ).loc main_arg0)) (m ((c : Thread nD τ).loc main_arg2)) := by
  refine (dats m 0 c).arrAt_eq_of_covers 8 _ covers8 fun t hf y => ?_
  blk_simp
  rw [after0_8]
  idx_vars y
  obtain rfl : y0 = 0 := Subsingleton.elim _ _
  have hb : t.val / 8 < 4 := (idx t).2.2.2.2.2.2.2.2.2.2.2
  have hr : 256 * (t.val % 8) + y1.val < 2048 := by have : t.val % 8 < 8 := Nat.mod_lt _ (by omega); omega
  refine (out8 m c t y1 y2).trans ?_
  refine Eq.trans ?_ ((Cert.Reference5Ideal.Fox.k_apply (m ((c : Thread nD τ).loc main_arg0)) (m ((c : Thread nD τ).loc main_arg2)) ⟨t.val / 8, hb⟩ ⟨256 * (t.val % 8) + y1.val, hr⟩ y2).symm.trans ?_)
  · unfold heads
    skip
    refine congrArg₂ (fun a b => headNorm a b _) (funext fun e => ?_) (funext fun e => read5 m c t 0 e)
    refine (read1 m c t y1 _ hb hr).trans ?_
    congr 2
    exact Fin.ext (by show 1024 + (128 * (y2.val / 128) + e.val) = 1024 + (y2.val / 128 * 128 + e.val); omega)
  · congr 1
    blk_ext [idx t]

theorem final9 : (dats m 0 c).arrAt 9 cfg0.N = Cert.Reference5Ideal.Read.val_main_v39 (F := Ideal) (m ((c : Thread nD τ).loc main_arg0)) := by
  refine (dats m 0 c).arrAt_eq_of_covers 9 _ covers9 fun t hf y => ?_
  blk_simp
  rw [after0_9]
  idx_vars y
  obtain rfl : y0 = 0 := Subsingleton.elim _ _
  have hb : t.val / 8 < 4 := (idx t).2.2.2.2.2.2.2.2.2.2.2
  have hr : 256 * (t.val % 8) + y1.val < 2048 := by have : t.val % 8 < 8 := Nat.mod_lt _ (by omega); omega
  refine (out9 m c t y1 y2).trans ?_
  refine (read2 m c t y1 y2 hb hr).trans ?_
  refine (Cert.Reference5Ideal.Fox.v_apply (m ((c : Thread nD τ).loc main_arg0)) ⟨t.val / 8, hb⟩ ⟨256 * (t.val % 8) + y1.val, hr⟩ y2).symm.trans ?_
  congr 1
  blk_ext [idx t]

theorem final10 : (dats m 0 c).arrAt 10 cfg0.N = Cert.Reference5Ideal.Read.val_main_v36 (F := Ideal) (m ((c : Thread nD τ).loc main_arg0)) (m ((c : Thread nD τ).loc main_arg3)) := by
  refine (dats m 0 c).arrAt_eq_of_covers 10 _ covers10 fun t hf y => ?_
  blk_simp
  rw [after0_10]
  idx_vars y
  obtain rfl : y0 = 0 := Subsingleton.elim _ _
  have hb : t.val / 8 < 4 := (idx t).2.2.2.2.2.2.2.2.2.2.2
  have hr : 256 * (t.val % 8) + y1.val < 2048 := by have : t.val % 8 < 8 := Nat.mod_lt _ (by omega); omega
  refine (out10 m c t y1 y2).trans ((f_apply (iblk m c 3 t) (iblk m c 6 t) y1 y2).trans ?_)
  refine Eq.trans ?_ ((Cert.Reference5Ideal.Fox.f_apply (m ((c : Thread nD τ).loc main_arg0)) (m ((c : Thread nD τ).loc main_arg3)) ⟨t.val / 8, hb⟩ ⟨256 * (t.val % 8) + y1.val, hr⟩ y2).symm.trans ?_)
  · exact congrArg₂ (fun a b => logSig (a + b)) (read3 m c t y1 ⟨y2.val, by omega⟩ hb hr (by show 6656 + y2.val < 6912; omega)) (read6 m c t 0 y2)
  · congr 1
    blk_ext [idx t]

end Cert.Kernel5Ideal.Fox

end
-- ==== Proof.Part5.lean ====
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.FoxValue
public import Idealize.ShloMosaic.Lib.Claim

@[expose] public section

/-! # The prompt preparation call's part of the claim -/

noncomputable section

open Idealize.ShloMosaic Idealize.ShloMosaic.TcCoe Idealize.SL.Sem

namespace Cert.Proof.Fox

theorem frame_Kernel : Cert.quiescent_Kernel5 := fun m ρ _ => Cert.Kernel5.Gen.frame m ρ
theorem frame_KernelIdeal : Cert.quiescent_Kernel5Ideal := fun m ρ _ => Cert.Kernel5Ideal.Gen.frame m ρ
theorem frame_ReferenceIdeal : Cert.quiescent_Reference5Ideal := fun m ρ _ =>
  (θ_run Cert.Reference5Ideal.defs _ _).mono (fun r h => ⟨fun c => (h c).2.2.2.2, Idealize.ShloMosaic.sem_eq_zero_of_no_sems (by decide) r.2⟩)
    (Cert.Reference5Ideal.Value.run m ρ)

theorem algebraic : Cert.algebraic_Kernel5Ideal_Reference5Ideal := by
  intro m g m' g' hpre hagree
  refine ⟨fun c => (Cert.Kernel5Ideal.Gen.dats m 0 c).arrAt 7 Cert.Kernel5Ideal.cfg0.N, fun c => (Cert.Kernel5Ideal.Gen.dats m 0 c).arrAt 8 Cert.Kernel5Ideal.cfg0.N,
    fun c => (Cert.Kernel5Ideal.Gen.dats m 0 c).arrAt 9 Cert.Kernel5Ideal.cfg0.N, fun c => (Cert.Kernel5Ideal.Gen.dats m 0 c).arrAt 10 Cert.Kernel5Ideal.cfg0.N,
    (θ_run Cert.Kernel5Ideal.defs _ _).mono (fun r h c => ⟨(h c).1, (h c).2.1, (h c).2.2.1, (h c).2.2.2.1, (h c).2.2.2.2.2⟩) (Cert.Kernel5Ideal.Value.run_blocks m g),
    (θ_run Cert.Reference5Ideal.defs _ _).mono (fun r h c => ⟨(h c).1.trans ?_, (h c).2.1.trans ?_, (h c).2.2.1.trans ?_, (h c).2.2.2.1.trans ?_, (h c).2.2.2.2⟩)
      (Cert.Reference5Ideal.Value.run m' g')⟩
  · obtain ⟨e0, e1, e2, e3⟩ := hagree c
    refine (Cert.Reference5Ideal.Read.val_main_v37_eq _ _).trans ?_
    rw [e0, e1]
    exact (Cert.Kernel5Ideal.Fox.final7 m c).symm
  · obtain ⟨e0, e1, e2, e3⟩ := hagree c
    refine (Cert.Reference5Ideal.Read.val_main_v38_eq _ _).trans ?_
    rw [e0, e2]
    exact (Cert.Kernel5Ideal.Fox.final8 m c).symm
  · obtain ⟨e0, e1, e2, e3⟩ := hagree c
    refine (Cert.Reference5Ideal.Read.val_main_v39_eq _).trans ?_
    rw [e0]
    exact (Cert.Kernel5Ideal.Fox.final9 m c).symm
  · obtain ⟨e0, e1, e2, e3⟩ := hagree c
    refine (Cert.Reference5Ideal.Read.val_main_v36_eq _ _).trans ?_
    rw [e0, e3]
    exact (Cert.Kernel5Ideal.Fox.final10 m c).symm

end Cert.Proof.Fox

end
-- ==== Proof.SmallFfnBlock.lean ====
module

public import proofs.«01_k».proof.Proof.Rows
public import proofs.«01_k».proof.Proof.Gen.Kernel6Ideal.Skeleton
public import Idealize.ShloMosaic.Lib.Pipeline.ValueKit

@[expose] public section

set_option maxRecDepth 16384

/-!
# The eight-row feed-forward kernel's stored values

What each of the kernel's stores writes, at one row and column of the block.
-/

noncomputable section

open Idealize.ShloMosaic Idealize.ShloMosaic.TcCoe Idealize.SL.Sem
open Idealize.ShloMosaic.Pipeline (Dat)

namespace Cert.Kernel6Ideal.Ffn

open Cert.Kernel6Ideal Cert.Kernel6Ideal.Gen Cert.Rows

theorem pay1_apply (x : FVec Ideal S8x2048 .f32) (g : FVec Ideal S1x2048 .f32) (r : Fin 8) (d : Fin 2048) :
    k0_pay1 (F := Ideal) x g (ix2 r d) = normed (fun e => x (ix2 r e)) (fun e => g (ix2 0 e)) d := by
  unfold normed
  pointwise [k0_pay1]

theorem pay2_apply (r : Fin 8) (d : Fin 2048) : k0_pay2 (F := Ideal) (ix2 r d) = 0 := by
  pointwise [k0_pay2]

theorem pay3_apply (h : FVec Ideal S8x2048 .bf16) (wg wu : FVec Ideal S2048x512 .bf16) (acc : FVec Ideal S8x2048 .f32) (wd : FVec Ideal S512x2048 .bf16) (r : Fin 8) (d : Fin 2048) :
    k0_pay3 (F := Ideal) h wg wu acc wd (ix2 r d)
      = acc (ix2 r d) + ∑ f : Fin 512, gated (fun e => h (ix2 r e)) (fun e => wg (ix2 e f)) (fun e => wu (ix2 e f)) * wd (ix2 f d) := by
  unfold gated
  pointwise [k0_pay3]
  simp only [zero_sub]

theorem pay4_apply (x acc : FVec Ideal S8x2048 .f32) (r : Fin 8) (d : Fin 2048) :
    k0_pay4 (F := Ideal) x acc (ix2 r d) = x (ix2 r d) + Ideal.ofBits FTy.f32 0x3F000000#32 * acc (ix2 r d) := by
  pointwise [k0_pay4]

end Cert.Kernel6Ideal.Ffn

end
-- ==== Proof.SmallFfnRef.lean ====
module

public import proofs.«01_k».proof.Proof.Rows
public import proofs.«01_k».proof.Proof.Gen.Reference6Ideal.Read
public import Idealize.ShloMosaic.Lib.Pipeline.ValueKit

@[expose] public section

set_option maxRecDepth 16384

/-!
# The eight-row feed-forward block's reference at one row and column
-/

noncomputable section

open Idealize.ShloMosaic Idealize.ShloMosaic.TcCoe Idealize.SL.Sem
open Idealize.ShloMosaic.Pipeline (Dat)

namespace Cert.Reference6Ideal.Ffn

open Cert.Reference6Ideal Cert.Reference6Ideal.Gen Cert.Reference6Ideal.Read Cert.Rows

variable (x0 : FVec Ideal S8x2048 .f32) (x1 : FVec Ideal S2048 .f32) (x2 x3 : FVec Ideal S2048x5632 .f32) (x4 : FVec Ideal S5632x2048 .f32)

theorem norm (r : Fin 8) (d : Fin 2048) :
    val_main_v12 (F := Ideal) x0 x1 (ix2 r d) = normed (fun e => x0 (ix2 r e)) (fun e => x1 (ix1 e)) d := by
  unfold normed
  pointwise [val_main_v12, val_main_v11,val_main_v10,val_main_v9,val_main_v8,val_main_v7,val_main_v6,val_main_v5,val_main_v4,val_main_v3,val_main_v2,val_main_v1,val_main_v0,val_main_cst,val_main_cst_0,val_main_cst_1]

theorem act (r : Fin 8) (f : Fin 5632) : val_main_v16 (F := Ideal) x0 x1 x2 x3 (ix2 r f)
    = gated (fun e => val_main_v12 (F := Ideal) x0 x1 (ix2 r e)) (fun e => x2 (ix2 e f)) (fun e => x3 (ix2 e f)) := by
  unfold val_main_v16 val_main_v15 val_main_v14 val_main_call0_v5 val_main_call0_v4 val_main_call0_cst_0 val_main_call0_v3 val_main_call0_v2 val_main_call0_cst val_main_call0_v1 val_main_call0_v0 val_main_v13
  generalize val_main_v12 (F := Ideal) x0 x1 = L
  unfold gated
  pointwise

theorem out (r : Fin 8) (d : Fin 2048) : val_main_v20 (F := Ideal) x0 x1 x2 x3 x4 (ix2 r d)
    = x0 (ix2 r d) + Ideal.ofBits FTy.f32 0x3F000000#32 * ∑ f : Fin 5632, val_main_v16 (F := Ideal) x0 x1 x2 x3 (ix2 r f) * x4 (ix2 f d) := by
  unfold val_main_v20 val_main_v19 val_main_v18 val_main_cst_2 val_main_v17
  generalize val_main_v16 (F := Ideal) x0 x1 x2 x3 = L
  pointwise

/-- Channel `f`'s contribution to entry `d` of row `r`. -/
def chan (r : Fin 8) (d : Fin 2048) (f : Fin 5632) : EReal :=
  gated (normed (fun e => x0 (ix2 r e)) (fun e => x1 (ix1 e))) (fun e => x2 (ix2 e f)) (fun e => x3 (ix2 e f)) * x4 (ix2 f d)

theorem apply (r : Fin 8) (d : Fin 2048) : val_main_v20 (F := Ideal) x0 x1 x2 x3 x4 (ix2 r d)
    = x0 (ix2 r d) + Ideal.ofBits FTy.f32 0x3F000000#32 * ∑ f : Fin 5632, chan x0 x1 x2 x3 x4 r d f := by
  rw [out]
  simp only [act, norm]
  rfl

end Cert.Reference6Ideal.Ffn

end
-- ==== Proof.SmallFfnValue.lean ====
module

public import proofs.«01_k».proof.Proof.SmallFfnBlock
public import proofs.«01_k».proof.Proof.SmallFfnRef
public import proofs.«01_k».proof.Proof.Gen.Kernel6Ideal.Value
public import Idealize.ShloMosaic.Lib.Pipeline.ValueKit
public import Idealize.ShloMosaic.Lib.Claim

@[expose] public section

set_option maxRecDepth 16384

/-!
# The eight-row feed-forward kernel's output array

Grid point `t` works on the rows `512 * (t / 11) + r` and the channels `512 * (t % 11) + f`. The first scratch holds the
normalised rows, the second the sum over the channels seen so far.
-/

noncomputable section

open Idealize.ShloMosaic Idealize.ShloMosaic.TcCoe Idealize.SL.Sem
open Idealize.ShloMosaic.Pipeline (Dat)

namespace Cert.Kernel6Ideal.Ffn

open Cert.Kernel6Ideal Cert.Kernel6Ideal.Gen Cert.Rows
open Cert.Reference6Ideal.Ffn (chan)

theorem idx : ∀ t : Fin cfg0.N,
    win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![t.val / 11, 0] ∧ t.val / 11 < 1 :=
  (by decide +kernel : ∀ t : Fin grid0.N, _)

theorem covers : (cfg0.win 5).Covers := by decide +kernel

variable (m : (ℓ : Loc nD τ sig) → Buf (Elt Ideal) ℓ) (c : Dev nD)

theorem read0 (t : Fin cfg0.N) (r : Fin 8) (d : Fin 2048) (i : ℕ) (hi : i = t.val / 11) (h : 8 * i + r.val < 8) :
    iblk m c 0 t (ix2 r d) = m ((c : Thread nD τ).loc main_arg0) (ix2 ⟨8 * i + r.val, h⟩ d) := by
  subst hi
  blk_point [iblk, V, idx t]

theorem read1 (t : Fin cfg0.N) (r : Fin 1) (d : Fin 2048) :
    iblk m c 1 t (ix2 r d) = m ((c : Thread nD τ).loc main_arg1) (ix1 d) := by
  blk_simp [iblk]
  entry_read
  pointwise
  blk_ext [idx t]

theorem read2 (t : Fin cfg0.N) (e : Fin 2048) (f : Fin 512) (h : 512 * (t.val % 11) + f.val < 5632) :
    iblk m c 2 t (ix2 e f) = m ((c : Thread nD τ).loc main_arg2) (ix2 e ⟨512 * (t.val % 11) + f.val, h⟩) := by
  blk_simp [iblk]
  entry_read
  pointwise
  blk_ext [idx t]

theorem read3 (t : Fin cfg0.N) (e : Fin 2048) (f : Fin 512) (h : 512 * (t.val % 11) + f.val < 5632) :
    iblk m c 3 t (ix2 e f) = m ((c : Thread nD τ).loc main_arg3) (ix2 e ⟨512 * (t.val % 11) + f.val, h⟩) := by
  blk_simp [iblk]
  entry_read
  pointwise
  blk_ext [idx t]

theorem read4 (t : Fin cfg0.N) (f : Fin 512) (d : Fin 2048) (h : 512 * (t.val % 11) + f.val < 5632) :
    iblk m c 4 t (ix2 f d) = m ((c : Thread nD τ).loc main_arg4) (ix2 ⟨512 * (t.val % 11) + f.val, h⟩ d) := by
  blk_simp [iblk]
  entry_read
  pointwise
  blk_ext [idx t]

/-- The normalised row `r` of the array. -/
abbrev hrow (r : Fin 8) : Fin 2048 → EReal :=
  normed (fun e => m ((c : Thread nD τ).loc main_arg0) (ix2 r e)) (fun e => m ((c : Thread nD τ).loc main_arg1) (ix1 e))

/-- Channel `f`'s contribution to entry `(r, d)`. -/
abbrev part (r : Fin 8) (d : Fin 2048) : Fin 5632 → EReal :=
  chan (m ((c : Thread nD τ).loc main_arg0)) (m ((c : Thread nD τ).loc main_arg1)) (m ((c : Thread nD τ).loc main_arg2))
    (m ((c : Thread nD τ).loc main_arg3)) (m ((c : Thread nD τ).loc main_arg4)) r d

/-- The step of the second scratch: the block's channels added. -/
theorem step (t : Fin cfg0.N) (h : FVec Ideal S8x2048 .bf16) (acc : FVec Ideal S8x2048 .f32) (r : Fin 8) (d : Fin 2048)
    (hr : 8 * (t.val / 11) + r.val < 8)
    (hh : ∀ e, h (ix2 r e) = hrow m c ⟨8 * (t.val / 11) + r.val, hr⟩ e)
    (ha : acc (ix2 r d) = ∑ k ∈ Finset.range (512 * (t.val % 11)), ext (part m c ⟨8 * (t.val / 11) + r.val, hr⟩ d) k) :
    k0_pay3 (F := Ideal) h (iblk m c 2 t) (iblk m c 3 t) acc (iblk m c 4 t) (ix2 r d)
      = ∑ k ∈ Finset.range (512 * (t.val % 11) + 512), ext (part m c ⟨8 * (t.val / 11) + r.val, hr⟩ d) k := by
  refine (pay3_apply h (iblk m c 2 t) (iblk m c 3 t) acc (iblk m c 4 t) r d).trans ?_
  have hm : t.val % 11 < 11 := Nat.mod_lt _ (by omega)
  rw [ha]
  refine (sum_block _ _ _ (by omega) fun f => ?_).symm
  show gated _ _ _ * _ = gated _ _ _ * _
  rw [read4 m c t f d (by omega)]
  congr 2
  · funext e; exact hh e
  · funext e; exact read2 m c t e f (by omega)
  · funext e; exact read3 m c t e f (by omega)

theorem lt1 (n : ℕ) (h : n < cfg0.N) : n / 11 < 1 := (idx ⟨n, h⟩).2.2.2.2.2.2

theorem carryA (t : Fin cfg0.N) (h0 : t.val % 11 = 0) (h1 : ¬t.val % 11 = 10) :
    (outsAt0 m c t.val t.isLt).2.1 = k0_pay1 (F := Ideal) (iblk m c 0 t) (iblk m c 1 t)
    ∧ (outsAt0 m c t.val t.isLt).2.2 = k0_pay3 (F := Ideal) (k0_pay1 (F := Ideal) (iblk m c 0 t) (iblk m c 1 t)) (iblk m c 2 t) (iblk m c 3 t) (k0_pay2 (F := Ideal)) (iblk m c 4 t) := by
  rw [outsAt0_A m c t h0 h1]
  constructor
  · dsimp only
    frame_out
  · dsimp only
    frame_out

theorem carryB (t : Fin cfg0.N) (h0 : ¬t.val % 11 = 0) (h1 : ¬t.val % 11 = 10) :
    (outsAt0 m c t.val t.isLt).2.1 = (outsAt0 m c (t.val - 1) (Nat.lt_of_le_of_lt (Nat.sub_le _ _) t.isLt)).2.1
    ∧ (outsAt0 m c t.val t.isLt).2.2 = k0_pay3 (F := Ideal) (outsAt0 m c (t.val - 1) (Nat.lt_of_le_of_lt (Nat.sub_le _ _) t.isLt)).2.1 (iblk m c 2 t) (iblk m c 3 t) (outsAt0 m c (t.val - 1) (Nat.lt_of_le_of_lt (Nat.sub_le _ _) t.isLt)).2.2 (iblk m c 4 t) := by
  rw [outsAt0_B m c t h0 h1]
  constructor
  · rfl
  · dsimp only
    frame_out
    congr 1
    · exact (Memref.isWhole_whole cc0_scratch0).read_unread _
    · exact (Memref.isWhole_whole cc0_scratch1).read_unread _

theorem carryC (t : Fin cfg0.N) (h0 : ¬t.val % 11 = 0) (h1 : t.val % 11 = 10) :
    (outsAt0 m c t.val t.isLt).1 = k0_pay4 (F := Ideal) (iblk m c 0 t) (outsAt0 m c t.val t.isLt).2.2
    ∧ (outsAt0 m c t.val t.isLt).2.1 = (outsAt0 m c (t.val - 1) (Nat.lt_of_le_of_lt (Nat.sub_le _ _) t.isLt)).2.1
    ∧ (outsAt0 m c t.val t.isLt).2.2 = k0_pay3 (F := Ideal) (outsAt0 m c (t.val - 1) (Nat.lt_of_le_of_lt (Nat.sub_le _ _) t.isLt)).2.1 (iblk m c 2 t) (iblk m c 3 t) (outsAt0 m c (t.val - 1) (Nat.lt_of_le_of_lt (Nat.sub_le _ _) t.isLt)).2.2 (iblk m c 4 t) := by
  rw [outsAt0_C m c t h0 h1]
  refine ⟨?_, ?_, ?_⟩
  · dsimp only
    frame_out
  · rfl
  · dsimp only
    frame_out
    congr 1
    · exact (Memref.isWhole_whole cc0_scratch0).read_unread _
    · exact (Memref.isWhole_whole cc0_scratch1).read_unread _

/-- What the two scratches hold after a grid point that starts a row of blocks. -/
theorem carried_start (t : Fin cfg0.N) (h0 : t.val % 11 = 0) (r : Fin 8) (hr : 8 * (t.val / 11) + r.val < 8) :
    (∀ d, (outsAt0 m c t.val t.isLt).2.1 (ix2 r d) = hrow m c ⟨8 * (t.val / 11) + r.val, hr⟩ d)
    ∧ ∀ d, (outsAt0 m c t.val t.isLt).2.2 (ix2 r d)
        = ∑ k ∈ Finset.range (512 * (t.val % 11) + 512), ext (part m c ⟨8 * (t.val / 11) + r.val, hr⟩ d) k := by
  obtain ⟨e1, e2⟩ := carryA m c t h0 (by omega)
  have hh : ∀ d, k0_pay1 (F := Ideal) (iblk m c 0 t) (iblk m c 1 t) (ix2 r d) = hrow m c ⟨8 * (t.val / 11) + r.val, hr⟩ d := by
    intro d
    refine (pay1_apply (iblk m c 0 t) (iblk m c 1 t) r d).trans ?_
    congr 1
    · funext e; exact read0 m c t r e _ rfl hr
    · funext e; exact read1 m c t 0 e
  rw [e1, e2]
  refine ⟨hh, fun d => step m c t _ _ r d hr hh ?_⟩
  rw [h0, pay2_apply]
  exact Finset.sum_range_zero _ |>.symm

/-- What the two scratches hold after a later grid point. -/
theorem carried_next (t : Fin cfg0.N) (h0 : ¬t.val % 11 = 0) (r : Fin 8) (hr : 8 * (t.val / 11) + r.val < 8)
    (ih1 : ∀ d, (outsAt0 m c (t.val - 1) (Nat.lt_of_le_of_lt (Nat.sub_le _ _) t.isLt)).2.1 (ix2 r d) = hrow m c ⟨8 * (t.val / 11) + r.val, hr⟩ d)
    (ih2 : ∀ d, (outsAt0 m c (t.val - 1) (Nat.lt_of_le_of_lt (Nat.sub_le _ _) t.isLt)).2.2 (ix2 r d) = ∑ k ∈ Finset.range (512 * (t.val % 11)), ext (part m c ⟨8 * (t.val / 11) + r.val, hr⟩ d) k) :
    (∀ d, (outsAt0 m c t.val t.isLt).2.1 (ix2 r d) = hrow m c ⟨8 * (t.val / 11) + r.val, hr⟩ d)
    ∧ ∀ d, (outsAt0 m c t.val t.isLt).2.2 (ix2 r d)
        = ∑ k ∈ Finset.range (512 * (t.val % 11) + 512), ext (part m c ⟨8 * (t.val / 11) + r.val, hr⟩ d) k := by
  have e : (outsAt0 m c t.val t.isLt).2.1 = (outsAt0 m c (t.val - 1) (Nat.lt_of_le_of_lt (Nat.sub_le _ _) t.isLt)).2.1
      ∧ (outsAt0 m c t.val t.isLt).2.2 = k0_pay3 (F := Ideal) (outsAt0 m c (t.val - 1) (Nat.lt_of_le_of_lt (Nat.sub_le _ _) t.isLt)).2.1 (iblk m c 2 t) (iblk m c 3 t) (outsAt0 m c (t.val - 1) (Nat.lt_of_le_of_lt (Nat.sub_le _ _) t.isLt)).2.2 (iblk m c 4 t) := by
    by_cases h1 : t.val % 11 = 10
    · exact (carryC m c t h0 h1).2
    · exact carryB m c t h0 h1
  rw [e.1, e.2]
  exact ⟨ih1, fun d => step m c t _ _ r d hr ih1 (ih2 d)⟩

theorem carried (n : ℕ) (h : n < cfg0.N) (r : Fin 8) (i : ℕ) (hi : i = n / 11) (hr : 8 * i + r.val < 8) :
    (∀ d, (outsAt0 m c n h).2.1 (ix2 r d) = hrow m c ⟨8 * i + r.val, hr⟩ d)
    ∧ ∀ d, (outsAt0 m c n h).2.2 (ix2 r d)
        = ∑ k ∈ Finset.range (512 * (n % 11) + 512), ext (part m c ⟨8 * i + r.val, hr⟩ d) k := by
  induction n with
  | zero => subst hi; exact carried_start m c ⟨0, h⟩ (Nat.zero_mod _) r hr
  | succ n ih =>
    by_cases h0 : (n + 1) % 11 = 0
    · subst hi; exact carried_start m c ⟨n + 1, h⟩ h0 r hr
    · obtain ⟨i1, i2⟩ := ih (Nat.lt_of_succ_lt h) (by omega)
      subst hi
      have hm : 512 * (n % 11) + 512 = 512 * ((n + 1) % 11) := by omega
      rw [hm] at i2
      exact carried_next m c ⟨n + 1, h⟩ h0 r hr i1 i2

/-- The output array is the reference's result, of the same arrays. -/
theorem final : (dats m 0 c).arrAt 5 cfg0.N
    = Cert.Reference6Ideal.Read.val_main_v20 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ covers fun t hf y => ?_
  blk_simp
  rw [after0_5]
  idx_vars y
  have h1 : t.val % 11 = 10 := (by decide +kernel : ∀ t : Fin grid0.N, (cfg0.win 5).flush t = true → t.val % 11 = 10) t hf
  have hr : 8 * (t.val / 11) + y0.val < 8 := by have := lt1 t.val t.isLt; omega
  rw [(carryC m c t (by omega) h1).1]
  refine (pay4_apply _ _ y0 y1).trans ?_
  rw [(carried m c t.val t.isLt y0 _ rfl hr).2 y1, read0 m c t y0 y1 _ rfl hr, h1]
  rw [show ∑ k ∈ Finset.range (512 * 10 + 512), ext (part m c ⟨8 * (t.val / 11) + y0.val, hr⟩ y1) k
      = ∑ k, part m c ⟨8 * (t.val / 11) + y0.val, hr⟩ y1 k from sum_ext _]
  refine (Cert.Reference6Ideal.Ffn.apply (m ((c : Thread nD τ).loc main_arg0)) (m ((c : Thread nD τ).loc main_arg1)) (m ((c : Thread nD τ).loc main_arg2))
    (m ((c : Thread nD τ).loc main_arg3)) (m ((c : Thread nD τ).loc main_arg4)) ⟨8 * (t.val / 11) + y0.val, hr⟩ y1).symm.trans ?_
  congr 1
  blk_ext [idx t]

end Cert.Kernel6Ideal.Ffn

end
-- ==== Proof.Part6.lean ====
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.SmallFfnValue
public import Idealize.ShloMosaic.Lib.Claim

@[expose] public section

/-! # The eight-row feed-forward call's part of the claim -/

noncomputable section

open Idealize.ShloMosaic Idealize.ShloMosaic.TcCoe Idealize.SL.Sem

namespace Cert.Proof.SmallFfn

theorem frame_Kernel : Cert.quiescent_Kernel6 := fun m ρ _ => Cert.Kernel6.Gen.frame m ρ
theorem frame_KernelIdeal : Cert.quiescent_Kernel6Ideal := fun m ρ _ => Cert.Kernel6Ideal.Gen.frame m ρ
theorem frame_ReferenceIdeal : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run m ρ)

theorem algebraic : Cert.algebraic_Kernel6Ideal_Reference6Ideal := by
  intro m g m' g' hpre hagree
  refine ⟨fun c => (Cert.Kernel6Ideal.Gen.dats m 0 c).arrAt 5 Cert.Kernel6Ideal.cfg0.N, Cert.Kernel6Ideal.Value.run_blocks m g,
    (θ_run Cert.Reference6Ideal.defs _ _).mono (fun r h c => ⟨(h c).1.trans ?_, (h c).2⟩) (Cert.Reference6Ideal.Value.run m' g')⟩
  obtain ⟨e0, e1, e2, e3, e4⟩ := hagree c
  refine (Cert.Reference6Ideal.Read.val_main_v20_eq _ _ _ _ _).trans ?_
  rw [e0, e1, e2, e3, e4]
  exact (Cert.Kernel6Ideal.Ffn.final m c).symm

end Cert.Proof.SmallFfn

end
-- ==== Proof.SmallFoxBlock.lean ====
module

public import proofs.«01_k».proof.Proof.FoxRows
public import proofs.«01_k».proof.Proof.Gen.Kernel7Ideal.Skeleton
public import Idealize.ShloMosaic.Lib.Pipeline.ValueKit

@[expose] public section

set_option maxRecDepth 16384

/-!
# The eight-row preparation's stores, entry by entry
-/

noncomputable section

open Idealize.ShloMosaic Idealize.ShloMosaic.TcCoe Idealize.SL.Sem
open Idealize.ShloMosaic.Pipeline (Dat)

namespace Cert.Kernel7Ideal.Fox

open Cert.Kernel7Ideal Cert.Kernel7Ideal.Gen Cert.FoxRows

/-- Entry (`r`, `j`) of the normalised heads of a block. -/
def heads (X : FVec Ideal S1x8x1024 .f32) (g : FVec Ideal S1x128 .f32) (r : Fin 8) (j : Fin 1024) : EReal :=
  headNorm (fun e => X (ix3 0 r ⟨128 * (j.val / 128) + e.val, by omega⟩)) (fun e => g (ix2 0 e)) ⟨j.val % 128, by omega⟩

theorem heads_at (X : FVec Ideal S1x8x1024 .f32) (g : FVec Ideal S1x128 .f32) (r : Fin 8) (o : ℕ) (k : ℕ) (ho : o = 128 * k) (d : Fin 128) (hd : o + d.val < 1024) :
    heads X g r ⟨o + d.val, hd⟩ = headNorm (fun e => X (ix3 0 r ⟨o + e.val, by omega⟩)) (fun e => g (ix2 0 e)) d := by
  subst ho
  have e1 : (128 * k + d.val) / 128 = k := by omega
  have e2 : (128 * k + d.val) % 128 = d.val := by omega
  unfold heads
  simp only [e1, e2, Fin.eta]

theorem q0 (X : FVec Ideal S1x8x1024 .f32) (g : FVec Ideal S1x128 .f32) (inb) (r : Fin 8) (d : Fin 128) :
    k0_pay3 (F := Ideal) (View.ld (Val := Elt Ideal) (S := S1x8x1024) (e' := .f32) X (Rect.unit (s := S1x8x1024) ![0, 0, 0] ![1, 8, 128] inb)) g (ix3 0 r d) = heads X g r ⟨0 + d.val, by omega⟩ * Ideal.ofBits FTy.f32 0x3DB504F3#32 := by
  rw [heads_at X g r 0 0 rfl]
  unfold headNorm
  pointwise [k0_pay3]

theorem q1 (X : FVec Ideal S1x8x1024 .f32) (g : FVec Ideal S1x128 .f32) (inb) (r : Fin 8) (d : Fin 128) :
    k0_pay6 (F := Ideal) (View.ld (Val := Elt Ideal) (S := S1x8x1024) (e' := .f32) X (Rect.unit (s := S1x8x1024) ![0, 0, 128] ![1, 8, 128] inb)) g (ix3 0 r d) = heads X g r ⟨128 + d.val, by omega⟩ * Ideal.ofBits FTy.f32 0x3DB504F3#32 := by
  rw [heads_at X g r 128 1 rfl]
  unfold headNorm
  pointwise [k0_pay6]

theorem q2 (X : FVec Ideal S1x8x1024 .f32) (g : FVec Ideal S1x128 .f32) (inb) (r : Fin 8) (d : Fin 128) :
    k0_pay10 (F := Ideal) (View.ld (Val := Elt Ideal) (S := S1x8x1024) (e' := .f32) X (Rect.unit (s := S1x8x1024) ![0, 0, 256] ![1, 8, 128] inb)) g (ix3 0 r d) = heads X g r ⟨256 + d.val, by omega⟩ * Ideal.ofBits FTy.f32 0x3DB504F3#32 := by
  rw [heads_at X g r 256 2 rfl]
  unfold headNorm
  pointwise [k0_pay10]

theorem q3 (X : FVec Ideal S1x8x1024 .f32) (g : FVec Ideal S1x128 .f32) (inb) (r : Fin 8) (d : Fin 128) :
    k0_pay14 (F := Ideal) (View.ld (Val := Elt Ideal) (S := S1x8x1024) (e' := .f32) X (Rect.unit (s := S1x8x1024) ![0, 0, 384] ![1, 8, 128] inb)) g (ix3 0 r d) = heads X g r ⟨384 + d.val, by omega⟩ * Ideal.ofBits FTy.f32 0x3DB504F3#32 := by
  rw [heads_at X g r 384 3 rfl]
  unfold headNorm
  pointwise [k0_pay14]

theorem q4 (X : FVec Ideal S1x8x1024 .f32) (g : FVec Ideal S1x128 .f32) (inb) (r : Fin 8) (d : Fin 128) :
    k0_pay17 (F := Ideal) (k0_pay16 (F := Ideal) (View.ld (Val := Elt Ideal) (S := S1x8x1024) (e' := .f32) X (Rect.unit (s := S1x8x1024) ![0, 0, 512] ![1, 8, 128] inb)) g) (ix3 0 r d) = heads X g r ⟨512 + d.val, by omega⟩ * Ideal.ofBits FTy.f32 0x3DB504F3#32 := by
  rw [heads_at X g r 512 4 rfl]
  unfold headNorm
  pointwise [k0_pay16, k0_pay17]

theorem q5 (X : FVec Ideal S1x8x1024 .f32) (g : FVec Ideal S1x128 .f32) (inb) (r : Fin 8) (d : Fin 128) :
    k0_pay20 (F := Ideal) (k0_pay19 (F := Ideal) (View.ld (Val := Elt Ideal) (S := S1x8x1024) (e' := .f32) X (Rect.unit (s := S1x8x1024) ![0, 0, 640] ![1, 8, 128] inb)) g) (ix3 0 r d) = heads X g r ⟨640 + d.val, by omega⟩ * Ideal.ofBits FTy.f32 0x3DB504F3#32 := by
  rw [heads_at X g r 640 5 rfl]
  unfold headNorm
  pointwise [k0_pay19, k0_pay20]

theorem q6 (X : FVec Ideal S1x8x1024 .f32) (g : FVec Ideal S1x128 .f32) (inb) (r : Fin 8) (d : Fin 128) :
    k0_pay24 (F := Ideal) (k0_pay22 (F := Ideal) (View.ld (Val := Elt Ideal) (S := S1x8x1024) (e' := .f32) X (Rect.unit (s := S1x8x1024) ![0, 0, 768] ![1, 8, 128] inb))) (k0_pay23 (F := Ideal) g) (ix3 0 r d) = heads X g r ⟨768 + d.val, by omega⟩ * Ideal.ofBits FTy.f32 0x3DB504F3#32 := by
  rw [heads_at X g r 768 6 rfl]
  unfold headNorm
  pointwise [k0_pay22, k0_pay23, k0_pay24]

theorem q7 (X : FVec Ideal S1x8x1024 .f32) (g : FVec Ideal S1x128 .f32) (inb) (r : Fin 8) (d : Fin 128) :
    k0_pay28 (F := Ideal) (k0_pay26 (F := Ideal) (View.ld (Val := Elt Ideal) (S := S1x8x1024) (e' := .f32) X (Rect.unit (s := S1x8x1024) ![0, 0, 896] ![1, 8, 128] inb))) (k0_pay27 (F := Ideal) (View.ld (Val := Elt Ideal) (S := S1x8x1024) (e' := .f32) X (Rect.unit (s := S1x8x1024) ![0, 0, 896] ![1, 8, 128] inb))) g (ix3 0 r d) = heads X g r ⟨896 + d.val, by omega⟩ * Ideal.ofBits FTy.f32 0x3DB504F3#32 := by
  rw [heads_at X g r 896 7 rfl]
  unfold headNorm
  pointwise [k0_pay26, k0_pay27, k0_pay28]

theorem k0 (X : FVec Ideal S1x8x1024 .f32) (g : FVec Ideal S1x128 .f32) (inb) (r : Fin 8) (d : Fin 128) :
    k0_pay5 (F := Ideal) (k0_pay4 (F := Ideal) (View.ld (Val := Elt Ideal) (S := S1x8x1024) (e' := .f32) X (Rect.unit (s := S1x8x1024) ![0, 0, 0] ![1, 8, 128] inb))) g (ix3 0 r d) = heads X g r ⟨0 + d.val, by omega⟩ := by
  rw [heads_at X g r 0 0 rfl]
  unfold headNorm
  pointwise [k0_pay4, k0_pay5]

theorem k1 (X : FVec Ideal S1x8x1024 .f32) (g : FVec Ideal S1x128 .f32) (inb) (r : Fin 8) (d : Fin 128) :
    k0_pay9 (F := Ideal) (k0_pay7 (F := Ideal) (View.ld (Val := Elt Ideal) (S := S1x8x1024) (e' := .f32) X (Rect.unit (s := S1x8x1024) ![0, 0, 128] ![1, 8, 128] inb))) (k0_pay8 (F := Ideal) (View.ld (Val := Elt Ideal) (S := S1x8x1024) (e' := .f32) X (Rect.unit (s := S1x8x1024) ![0, 0, 128] ![1, 8, 128] inb))) (Scalar.ofBits .f32 0x358637BD#32) g (ix3 0 r d) = heads X g r ⟨128 + d.val, by omega⟩ := by
  rw [heads_at X g r 128 1 rfl]
  unfold headNorm
  pointwise [k0_pay7, k0_pay8, k0_pay9]

theorem k2 (X : FVec Ideal S1x8x1024 .f32) (g : FVec Ideal S1x128 .f32) (inb) (r : Fin 8) (d : Fin 128) :
    k0_pay13 (F := Ideal) (k0_pay11 (F := Ideal) (View.ld (Val := Elt Ideal) (S := S1x8x1024) (e' := .f32) X (Rect.unit (s := S1x8x1024) ![0, 0, 256] ![1, 8, 128] inb))) (k0_pay12 (F := Ideal) (View.ld (Val := Elt Ideal) (S := S1x8x1024) (e' := .f32) X (Rect.unit (s := S1x8x1024) ![0, 0, 256] ![1, 8, 128] inb))) g (ix3 0 r d) = heads X g r ⟨256 + d.val, by omega⟩ := by
  rw [heads_at X g r 256 2 rfl]
  unfold headNorm
  pointwise [k0_pay11, k0_pay12, k0_pay13]

theorem k3 (X : FVec Ideal S1x8x1024 .f32) (g : FVec Ideal S1x128 .f32) (inb) (r : Fin 8) (d : Fin 128) :
    k0_pay15 (F := Ideal) (View.ld (Val := Elt Ideal) (S := S1x8x1024) (e' := .f32) X (Rect.unit (s := S1x8x1024) ![0, 0, 384] ![1, 8, 128] inb)) g (ix3 0 r d) = heads X g r ⟨384 + d.val, by omega⟩ := by
  rw [heads_at X g r 384 3 rfl]
  unfold headNorm
  pointwise [k0_pay15]

theorem k4 (X : FVec Ideal S1x8x1024 .f32) (g : FVec Ideal S1x128 .f32) (inb) (r : Fin 8) (d : Fin 128) :
    k0_pay18 (F := Ideal) (View.ld (Val := Elt Ideal) (S := S1x8x1024) (e' := .f32) X (Rect.unit (s := S1x8x1024) ![0, 0, 512] ![1, 8, 128] inb)) g (ix3 0 r d) = heads X g r ⟨512 + d.val, by omega⟩ := by
  rw [heads_at X g r 512 4 rfl]
  unfold headNorm
  pointwise [k0_pay18]

theorem k5 (X : FVec Ideal S1x8x1024 .f32) (g : FVec Ideal S1x128 .f32) (inb) (r : Fin 8) (d : Fin 128) :
    k0_pay21 (F := Ideal) (View.ld (Val := Elt Ideal) (S := S1x8x1024) (e' := .f32) X (Rect.unit (s := S1x8x1024) ![0, 0, 640] ![1, 8, 128] inb)) g (ix3 0 r d) = heads X g r ⟨640 + d.val, by omega⟩ := by
  rw [heads_at X g r 640 5 rfl]
  unfold headNorm
  pointwise [k0_pay21]

theorem k6 (X : FVec Ideal S1x8x1024 .f32) (g : FVec Ideal S1x128 .f32) (inb) (r : Fin 8) (d : Fin 128) :
    k0_pay25 (F := Ideal) (View.ld (Val := Elt Ideal) (S := S1x8x1024) (e' := .f32) X (Rect.unit (s := S1x8x1024) ![0, 0, 768] ![1, 8, 128] inb)) g (ix3 0 r d) = heads X g r ⟨768 + d.val, by omega⟩ := by
  rw [heads_at X g r 768 6 rfl]
  unfold headNorm
  pointwise [k0_pay25]

theorem k7 (X : FVec Ideal S1x8x1024 .f32) (g : FVec Ideal S1x128 .f32) (inb) (r : Fin 8) (d : Fin 128) :
    k0_pay29 (F := Ideal) (View.ld (Val := Elt Ideal) (S := S1x8x1024) (e' := .f32) X (Rect.unit (s := S1x8x1024) ![0, 0, 896] ![1, 8, 128] inb)) g (ix3 0 r d) = heads X g r ⟨896 + d.val, by omega⟩ := by
  rw [heads_at X g r 896 7 rfl]
  unfold headNorm
  pointwise [k0_pay29]

theorem v_apply (x : FVec Ideal S1x8x1024 .f32) (r : Fin 8) (j : Fin 1024) : k0_pay30 (F := Ideal) x (ix3 0 r j) = x (ix3 0 r j) := by
  pointwise [k0_pay30]

theorem f_apply (x : FVec Ideal S1x8x128 .f32) (b : FVec Ideal S1x128 .f32) (r : Fin 8) (h : Fin 8) :
    k0_pay32 (F := Ideal) x b (ix3 0 r h) = logSig (x (ix3 0 r ⟨h.val, by omega⟩) + b (ix2 0 ⟨h.val, by omega⟩)) := by
  unfold logSig
  pointwise [k0_pay32, k0_pay31]
  simp only [zero_sub]

end Cert.Kernel7Ideal.Fox

end
-- ==== Proof.SmallFoxRef.lean ====
module

public import proofs.«01_k».proof.Proof.FoxRows
public import proofs.«01_k».proof.Proof.Gen.Reference7Ideal.Read
public import Idealize.ShloMosaic.Lib.Pipeline.ValueKit

@[expose] public section

set_option maxRecDepth 16384

/-!
# The eight-row preparation's reference, entry by entry
-/

noncomputable section

open Idealize.ShloMosaic Idealize.ShloMosaic.TcCoe Idealize.SL.Sem
open Idealize.ShloMosaic.Pipeline (Dat)

namespace Cert.Reference7Ideal.Fox

open Cert.Reference7Ideal Cert.Reference7Ideal.Gen Cert.Reference7Ideal.Read Cert.FoxRows

variable (x0 : FVec Ideal S1x8x6912 .f32) (x1 x2 : FVec Ideal S128 .f32) (x3 : FVec Ideal S8 .f32)

theorem heads_q (b : Fin 1) (r : Fin 8) (h : Fin 8) (d : Fin 128) :
    val_main_v18 (F := Ideal) x0 x1 (ix4 b r h d)
      = headNorm (fun e => x0 (ix3 b r ⟨h.val * 128 + e.val, by omega⟩)) (fun e => x1 (ix1 e)) d * Ideal.ofBits FTy.f32 0x3DB504F3#32 := by
  obtain rfl : b = 0 := Subsingleton.elim _ _
  have hv : ∀ e : Fin 128, val_main_v1 (F := Ideal) x0 (ix4 0 r h e) = x0 (ix3 0 r ⟨h.val * 128 + e.val, by omega⟩) := by
    intro e
    pointwise [val_main_v1, val_main_v0]
  unfold headNorm
  simp only [← hv]
  unfold val_main_v18 val_main_v17 val_main_cst_2 val_main_v16 val_main_v15 val_main_v14 val_main_v13 val_main_v12 val_main_v11 val_main_v10 val_main_v9 val_main_cst_1 val_main_v8 val_main_v7 val_main_cst_0 val_main_v6 val_main_v5 val_main_cst val_main_v4
  generalize val_main_v1 (F := Ideal) x0 = L
  pointwise

theorem heads_k (b : Fin 1) (r : Fin 8) (h : Fin 8) (d : Fin 128) :
    val_main_v31 (F := Ideal) x0 x2 (ix4 b r h d)
      = headNorm (fun e => x0 (ix3 b r ⟨1024 + (h.val * 128 + e.val), by omega⟩)) (fun e => x2 (ix1 e)) d := by
  obtain rfl : b = 0 := Subsingleton.elim _ _
  have hv : ∀ e : Fin 128, val_main_v3 (F := Ideal) x0 (ix4 0 r h e) = x0 (ix3 0 r ⟨1024 + (h.val * 128 + e.val), by omega⟩) := by
    intro e
    pointwise [val_main_v3, val_main_v2]
  unfold headNorm
  simp only [← hv]
  unfold val_main_v31 val_main_v30 val_main_v29 val_main_v28 val_main_v27 val_main_v26 val_main_v25 val_main_v24 val_main_cst_5 val_main_v23 val_main_v22 val_main_cst_4 val_main_v21 val_main_v20 val_main_cst_3 val_main_v19
  generalize val_main_v3 (F := Ideal) x0 = L
  pointwise

theorem q_apply (b : Fin 1) (r : Fin 8) (j : Fin 1024) :
    val_main_v37 (F := Ideal) x0 x1 (ix3 b r j)
      = headNorm (fun e => x0 (ix3 b r ⟨j.val / 128 * 128 + e.val, by omega⟩)) (fun e => x1 (ix1 e)) ⟨j.val % 128, by omega⟩ * Ideal.ofBits FTy.f32 0x3DB504F3#32 := by
  refine Eq.trans ?_ (heads_q x0 x1 b r ⟨j.val / 128, by omega⟩ ⟨j.val % 128, by omega⟩)
  obtain rfl : b = 0 := Subsingleton.elim _ _
  unfold val_main_v37
  generalize val_main_v18 (F := Ideal) x0 x1 = L
  pointwise

theorem k_apply (b : Fin 1) (r : Fin 8) (j : Fin 1024) :
    val_main_v38 (F := Ideal) x0 x2 (ix3 b r j)
      = headNorm (fun e => x0 (ix3 b r ⟨1024 + (j.val / 128 * 128 + e.val), by omega⟩)) (fun e => x2 (ix1 e)) ⟨j.val % 128, by omega⟩ := by
  refine Eq.trans ?_ (heads_k x0 x2 b r ⟨j.val / 128, by omega⟩ ⟨j.val % 128, by omega⟩)
  obtain rfl : b = 0 := Subsingleton.elim _ _
  unfold val_main_v38
  generalize val_main_v31 (F := Ideal) x0 x2 = L
  pointwise

theorem v_apply (b : Fin 1) (r : Fin 8) (j : Fin 1024) :
    val_main_v39 (F := Ideal) x0 (ix3 b r j) = x0 (ix3 b r ⟨2048 + j.val, by omega⟩) := by
  obtain rfl : b = 0 := Subsingleton.elim _ _
  pointwise [val_main_v39]

theorem f_apply (b : Fin 1) (r : Fin 8) (h : Fin 8) :
    val_main_v36 (F := Ideal) x0 x3 (ix3 b r h) = logSig (x0 (ix3 b r ⟨6656 + h.val, by omega⟩) + x3 (ix1 h)) := by
  obtain rfl : b = 0 := Subsingleton.elim _ _
  unfold logSig
  pointwise [val_main_v36, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v35, val_main_v34, val_main_v33, val_main_v32]
  exact congrArg Neg.neg (if_neg (not_not_intro rfl))

end Cert.Reference7Ideal.Fox

end
-- ==== Proof.SmallFoxValue.lean ====
module

public import proofs.«01_k».proof.Proof.SmallFoxBlock
public import proofs.«01_k».proof.Proof.SmallFoxRef
public import proofs.«01_k».proof.Proof.Gen.Kernel7Ideal.Value
public import Idealize.ShloMosaic.Lib.Pipeline.ValueKit
public import Idealize.ShloMosaic.Lib.Claim
public import Idealize.ShloMosaic.Lib.StableHlo.ReadAt

@[expose] public section

set_option maxRecDepth 16384

/-!
# The eight-row preparation's output arrays
-/

noncomputable section

open Idealize.ShloMosaic Idealize.ShloMosaic.TcCoe Idealize.SL.Sem
open Idealize.ShloMosaic.Pipeline (Dat)

namespace Cert.Kernel7Ideal.Fox

open Cert.Kernel7Ideal Cert.Kernel7Ideal.Gen Cert.FoxRows

theorem idx : ∀ t : Fin cfg0.N,
    win0_0.index t = ![0, t.val, 0] ∧ win0_1.index t = ![0, t.val, 1] ∧ win0_2.index t = ![0, t.val, 2] ∧ win0_3.index t = ![0, t.val, 52]
    ∧ win0_4.index t = ![0, 0] ∧ win0_5.index t = ![0, 0] ∧ win0_6.index t = ![0, 0] ∧ win0_7.index t = ![0, t.val, 0]
    ∧ win0_8.index t = ![0, t.val, 0] ∧ win0_9.index t = ![0, t.val, 0] ∧ win0_10.index t = ![0, t.val, 0] ∧ t.val = 0 :=
  (by decide +kernel : ∀ t : Fin grid0.N, _)

theorem covers7 : (cfg0.win 7).Covers := by decide +kernel
theorem covers8 : (cfg0.win 8).Covers := by decide +kernel
theorem covers9 : (cfg0.win 9).Covers := by decide +kernel
theorem covers10 : (cfg0.win 10).Covers := by decide +kernel

variable (m : (ℓ : Loc nD τ sig) → Buf (Elt Ideal) ℓ) (c : Dev nD)

theorem read0 (t : Fin cfg0.N) (b : Fin 1) (r : Fin 8) (d : Fin 1024) :
    X0_0 m c t (ix3 b r d) = m ((c : Thread nD τ).loc main_arg0) (ix3 b r ⟨d.val, by omega⟩) := by
  unfold X0_0 Pipeline.Window.fill
  rw [dif_pos (moved0_0 t _)]
  blk_point [iblk, V, idx t]

theorem read1 (t : Fin cfg0.N) (b : Fin 1) (r : Fin 8) (d : Fin 1024) :
    X0_1 m c t (ix3 b r d) = m ((c : Thread nD τ).loc main_arg0) (ix3 b r ⟨1024 + d.val, by omega⟩) := by
  unfold X0_1 Pipeline.Window.fill
  rw [dif_pos (moved0_1 t _)]
  blk_point [iblk, V, idx t]

theorem read2 (t : Fin cfg0.N) (b : Fin 1) (r : Fin 8) (d : Fin 1024) :
    X0_2 m c t (ix3 b r d) = m ((c : Thread nD τ).loc main_arg0) (ix3 b r ⟨2048 + d.val, by omega⟩) := by
  unfold X0_2 Pipeline.Window.fill
  rw [dif_pos (moved0_2 t _)]
  blk_point [iblk, V, idx t]

theorem read3 (t : Fin cfg0.N) (b : Fin 1) (r : Fin 8) (d : Fin 128) (h : 6656 + d.val < 6912) :
    iblk m c 3 t (ix3 b r d) = m ((c : Thread nD τ).loc main_arg0) (ix3 b r ⟨6656 + d.val, h⟩) := by
  blk_point [iblk, V, idx t]

theorem V_v2 (b : Fin 1) (d : Fin 128) : V m c main_v2 (ix2 b d) = m ((c : Thread nD τ).loc main_arg1) (ix1 d) := by
  unfold V
  simp only [List.flatten_cons, List.flatten_nil, List.append_nil, List.cons_append, List.nil_append, hostOps0, hostOps0_1, hostOps0_2]
  after_reads_at

theorem V_v3 (b : Fin 1) (d : Fin 128) : V m c main_v3 (ix2 b d) = m ((c : Thread nD τ).loc main_arg2) (ix1 d) := by
  unfold V
  simp only [List.flatten_cons, List.flatten_nil, List.append_nil, List.cons_append, List.nil_append, hostOps0, hostOps0_1, hostOps0_2]
  after_reads_at

theorem V_v1 (b : Fin 1) (d : Fin 8) : V m c main_v1 (ix2 b ⟨d.val, by omega⟩) = m ((c : Thread nD τ).loc main_arg3) (ix1 d) := by
  unfold V
  simp only [List.flatten_cons, List.flatten_nil, List.append_nil, List.cons_append, List.nil_append, hostOps0, hostOps0_1, hostOps0_2]
  after_reads_at

theorem read4 (t : Fin cfg0.N) (b : Fin 1) (d : Fin 128) : iblk m c 4 t (ix2 b d) = m ((c : Thread nD τ).loc main_arg1) (ix1 d) := by
  refine Eq.trans ?_ (V_v2 m c b d)
  blk_point [iblk, idx t]

theorem read5 (t : Fin cfg0.N) (b : Fin 1) (d : Fin 128) : iblk m c 5 t (ix2 b d) = m ((c : Thread nD τ).loc main_arg2) (ix1 d) := by
  refine Eq.trans ?_ (V_v3 m c b d)
  blk_point [iblk, idx t]

theorem read6 (t : Fin cfg0.N) (b : Fin 1) (d : Fin 8) : iblk m c 6 t (ix2 b ⟨d.val, by omega⟩) = m ((c : Thread nD τ).loc main_arg3) (ix1 d) := by
  refine Eq.trans ?_ (V_v1 m c b d)
  blk_point [iblk, idx t]

theorem out7 (t : Fin cfg0.N) (r : Fin 8) (j : Fin 1024) :
    (outsAt0 m c t).1 (ix3 0 r j) = heads (X0_0 m c t) (iblk m c 4 t) r j * Ideal.ofBits FTy.f32 0x3DB504F3#32 := by
  unfold outsAt0
  dsimp only
  frame_out
  refine (View.canon_apply_of_pieces (fun y : S1x8x1024.Idx => heads (X0_0 m c t) (iblk m c 4 t) (y 1) (y 2) * Ideal.ofBits FTy.f32 0x3DB504F3#32) _ ?_ _ ?_).trans rfl
  · simp only [List.forall_mem_cons, List.not_mem_nil, false_imp_iff, implies_true, and_true]
    refine ⟨?_, ?_, ?_, ?_, ?_, ?_, ?_, ?_⟩
    · intro x
      idx_vars x
      obtain rfl : x0 = 0 := Subsingleton.elim _ _
      refine (q7 (X0_0 m c t) (iblk m c 4 t) _ x1 x2).trans ?_
      exact congrArg₂ (fun a b => heads (X0_0 m c t) (iblk m c 4 t) a b * Ideal.ofBits FTy.f32 0x3DB504F3#32) (Fin.ext (by show x1.val = 0 + 1 * x1.val; omega)) (Fin.ext (by show 896 + x2.val = 896 + 1 * x2.val; omega))
    · intro x
      idx_vars x
      obtain rfl : x0 = 0 := Subsingleton.elim _ _
      refine (q6 (X0_0 m c t) (iblk m c 4 t) _ x1 x2).trans ?_
      exact congrArg₂ (fun a b => heads (X0_0 m c t) (iblk m c 4 t) a b * Ideal.ofBits FTy.f32 0x3DB504F3#32) (Fin.ext (by show x1.val = 0 + 1 * x1.val; omega)) (Fin.ext (by show 768 + x2.val = 768 + 1 * x2.val; omega))
    · intro x
      idx_vars x
      obtain rfl : x0 = 0 := Subsingleton.elim _ _
      refine (q5 (X0_0 m c t) (iblk m c 4 t) _ x1 x2).trans ?_
      exact congrArg₂ (fun a b => heads (X0_0 m c t) (iblk m c 4 t) a b * Ideal.ofBits FTy.f32 0x3DB504F3#32) (Fin.ext (by show x1.val = 0 + 1 * x1.val; omega)) (Fin.ext (by show 640 + x2.val = 640 + 1 * x2.val; omega))
    · intro x
      idx_vars x
      obtain rfl : x0 = 0 := Subsingleton.elim _ _
      refine (q4 (X0_0 m c t) (iblk m c 4 t) _ x1 x2).trans ?_
      exact congrArg₂ (fun a b => heads (X0_0 m c t) (iblk m c 4 t) a b * Ideal.ofBits FTy.f32 0x3DB504F3#32) (Fin.ext (by show x1.val = 0 + 1 * x1.val; omega)) (Fin.ext (by show 512 + x2.val = 512 + 1 * x2.val; omega))
    · intro x
      idx_vars x
      obtain rfl : x0 = 0 := Subsingleton.elim _ _
      refine (q3 (X0_0 m c t) (iblk m c 4 t) _ x1 x2).trans ?_
      exact congrArg₂ (fun a b => heads (X0_0 m c t) (iblk m c 4 t) a b * Ideal.ofBits FTy.f32 0x3DB504F3#32) (Fin.ext (by show x1.val = 0 + 1 * x1.val; omega)) (Fin.ext (by show 384 + x2.val = 384 + 1 * x2.val; omega))
    · intro x
      idx_vars x
      obtain rfl : x0 = 0 := Subsingleton.elim _ _
      refine (q2 (X0_0 m c t) (iblk m c 4 t) _ x1 x2).trans ?_
      exact congrArg₂ (fun a b => heads (X0_0 m c t) (iblk m c 4 t) a b * Ideal.ofBits FTy.f32 0x3DB504F3#32) (Fin.ext (by show x1.val = 0 + 1 * x1.val; omega)) (Fin.ext (by show 256 + x2.val = 256 + 1 * x2.val; omega))
    · intro x
      idx_vars x
      obtain rfl : x0 = 0 := Subsingleton.elim _ _
      refine (q1 (X0_0 m c t) (iblk m c 4 t) _ x1 x2).trans ?_
      exact congrArg₂ (fun a b => heads (X0_0 m c t) (iblk m c 4 t) a b * Ideal.ofBits FTy.f32 0x3DB504F3#32) (Fin.ext (by show x1.val = 0 + 1 * x1.val; omega)) (Fin.ext (by show 128 + x2.val = 128 + 1 * x2.val; omega))
    · intro x
      idx_vars x
      obtain rfl : x0 = 0 := Subsingleton.elim _ _
      refine (q0 (X0_0 m c t) (iblk m c 4 t) _ x1 x2).trans ?_
      exact congrArg₂ (fun a b => heads (X0_0 m c t) (iblk m c 4 t) a b * Ideal.ofBits FTy.f32 0x3DB504F3#32) (Fin.ext (by show x1.val = 0 + 1 * x1.val; omega)) (Fin.ext (by show 0 + x2.val = 0 + 1 * x2.val; omega))
  · refine View.cover_of_tiledL (Val := Elt Ideal) (s := S1x8x1024) (e := .f32) _ ![1, 8, 128] ?_ _
    sl_kernel_rfl

theorem out8 (t : Fin cfg0.N) (r : Fin 8) (j : Fin 1024) :
    (outsAt0 m c t).2.1 (ix3 0 r j) = heads (X0_1 m c t) (iblk m c 5 t) r j := by
  unfold outsAt0
  dsimp only
  frame_out
  refine (View.canon_apply_of_pieces (fun y : S1x8x1024.Idx => heads (X0_1 m c t) (iblk m c 5 t) (y 1) (y 2)) _ ?_ _ ?_).trans rfl
  · simp only [List.forall_mem_cons, List.not_mem_nil, false_imp_iff, implies_true, and_true]
    refine ⟨?_, ?_, ?_, ?_, ?_, ?_, ?_, ?_⟩
    · intro x
      idx_vars x
      obtain rfl : x0 = 0 := Subsingleton.elim _ _
      refine (k7 (X0_1 m c t) (iblk m c 5 t) _ x1 x2).trans ?_
      exact congrArg₂ (fun a b => heads (X0_1 m c t) (iblk m c 5 t) a b) (Fin.ext (by show x1.val = 0 + 1 * x1.val; omega)) (Fin.ext (by show 896 + x2.val = 896 + 1 * x2.val; omega))
    · intro x
      idx_vars x
      obtain rfl : x0 = 0 := Subsingleton.elim _ _
      refine (k6 (X0_1 m c t) (iblk m c 5 t) _ x1 x2).trans ?_
      exact congrArg₂ (fun a b => heads (X0_1 m c t) (iblk m c 5 t) a b) (Fin.ext (by show x1.val = 0 + 1 * x1.val; omega)) (Fin.ext (by show 768 + x2.val = 768 + 1 * x2.val; omega))
    · intro x
      idx_vars x
      obtain rfl : x0 = 0 := Subsingleton.elim _ _
      refine (k5 (X0_1 m c t) (iblk m c 5 t) _ x1 x2).trans ?_
      exact congrArg₂ (fun a b => heads (X0_1 m c t) (iblk m c 5 t) a b) (Fin.ext (by show x1.val = 0 + 1 * x1.val; omega)) (Fin.ext (by show 640 + x2.val = 640 + 1 * x2.val; omega))
    · intro x
      idx_vars x
      obtain rfl : x0 = 0 := Subsingleton.elim _ _
      refine (k4 (X0_1 m c t) (iblk m c 5 t) _ x1 x2).trans ?_
      exact congrArg₂ (fun a b => heads (X0_1 m c t) (iblk m c 5 t) a b) (Fin.ext (by show x1.val = 0 + 1 * x1.val; omega)) (Fin.ext (by show 512 + x2.val = 512 + 1 * x2.val; omega))
    · intro x
      idx_vars x
      obtain rfl : x0 = 0 := Subsingleton.elim _ _
      refine (k3 (X0_1 m c t) (iblk m c 5 t) _ x1 x2).trans ?_
      exact congrArg₂ (fun a b => heads (X0_1 m c t) (iblk m c 5 t) a b) (Fin.ext (by show x1.val = 0 + 1 * x1.val; omega)) (Fin.ext (by show 384 + x2.val = 384 + 1 * x2.val; omega))
    · intro x
      idx_vars x
      obtain rfl : x0 = 0 := Subsingleton.elim _ _
      refine (k2 (X0_1 m c t) (iblk m c 5 t) _ x1 x2).trans ?_
      exact congrArg₂ (fun a b => heads (X0_1 m c t) (iblk m c 5 t) a b) (Fin.ext (by show x1.val = 0 + 1 * x1.val; omega)) (Fin.ext (by show 256 + x2.val = 256 + 1 * x2.val; omega))
    · intro x
      idx_vars x
      obtain rfl : x0 = 0 := Subsingleton.elim _ _
      refine (k1 (X0_1 m c t) (iblk m c 5 t) _ x1 x2).trans ?_
      exact congrArg₂ (fun a b => heads (X0_1 m c t) (iblk m c 5 t) a b) (Fin.ext (by show x1.val = 0 + 1 * x1.val; omega)) (Fin.ext (by show 128 + x2.val = 128 + 1 * x2.val; omega))
    · intro x
      idx_vars x
      obtain rfl : x0 = 0 := Subsingleton.elim _ _
      refine (k0 (X0_1 m c t) (iblk m c 5 t) _ x1 x2).trans ?_
      exact congrArg₂ (fun a b => heads (X0_1 m c t) (iblk m c 5 t) a b) (Fin.ext (by show x1.val = 0 + 1 * x1.val; omega)) (Fin.ext (by show 0 + x2.val = 0 + 1 * x2.val; omega))
  · refine View.cover_of_tiledL (Val := Elt Ideal) (s := S1x8x1024) (e := .f32) _ ![1, 8, 128] ?_ _
    sl_kernel_rfl

theorem out9 (t : Fin cfg0.N) (r : Fin 8) (j : Fin 1024) :
    (outsAt0 m c t).2.2.1 (ix3 0 r j) = X0_2 m c t (ix3 0 r j) := by
  unfold outsAt0
  dsimp only
  frame_out
  exact v_apply (X0_2 m c t) r j

theorem out10 (t : Fin cfg0.N) (r : Fin 8) (h : Fin 8) :
    (outsAt0 m c t).2.2.2.1 (ix3 0 r h)
      = k0_pay32 (F := Ideal) (iblk m c 3 t) (iblk m c 6 t) (ix3 0 r h) := by
  unfold outsAt0
  dsimp only
  frame_out

theorem final7 : (dats m 0 c).arrAt 7 cfg0.N
    = Cert.Reference7Ideal.Read.val_main_v37 (F := Ideal) (m ((c : Thread nD τ).loc main_arg0)) (m ((c : Thread nD τ).loc main_arg1)) := by
  refine (dats m 0 c).arrAt_eq_of_covers 7 _ covers7 fun t hf y => ?_
  blk_simp
  rw [after0_7]
  idx_vars y
  obtain rfl : y0 = 0 := Subsingleton.elim _ _
  refine (out7 m c t y1 y2).trans ?_
  refine Eq.trans ?_ ((Cert.Reference7Ideal.Fox.q_apply (m ((c : Thread nD τ).loc main_arg0)) (m ((c : Thread nD τ).loc main_arg1)) 0 y1 y2).symm.trans ?_)
  · unfold heads
    refine congrArg (· * _) ?_
    refine congrArg₂ (fun a b => headNorm a b _) (funext fun e => ?_) (funext fun e => read4 m c t 0 e)
    refine (read0 m c t 0 y1 _).trans ?_
    congr 2
    exact Fin.ext (by show 128 * (y2.val / 128) + e.val = y2.val / 128 * 128 + e.val; omega)
  · congr 1
    blk_ext [idx t]

theorem final8 : (dats m 0 c).arrAt 8 cfg0.N
    = Cert.Reference7Ideal.Read.val_main_v38 (F := Ideal) (m ((c : Thread nD τ).loc main_arg0)) (m ((c : Thread nD τ).loc main_arg2)) := by
  refine (dats m 0 c).arrAt_eq_of_covers 8 _ covers8 fun t hf y => ?_
  blk_simp
  rw [after0_8]
  idx_vars y
  obtain rfl : y0 = 0 := Subsingleton.elim _ _
  refine (out8 m c t y1 y2).trans ?_
  refine Eq.trans ?_ ((Cert.Reference7Ideal.Fox.k_apply (m ((c : Thread nD τ).loc main_arg0)) (m ((c : Thread nD τ).loc main_arg2)) 0 y1 y2).symm.trans ?_)
  · unfold heads
    skip
    refine congrArg₂ (fun a b => headNorm a b _) (funext fun e => ?_) (funext fun e => read5 m c t 0 e)
    refine (read1 m c t 0 y1 _).trans ?_
    congr 2
    exact Fin.ext (by show 1024 + (128 * (y2.val / 128) + e.val) = 1024 + (y2.val / 128 * 128 + e.val); omega)
  · congr 1
    blk_ext [idx t]

theorem final9 : (dats m 0 c).arrAt 9 cfg0.N = Cert.Reference7Ideal.Read.val_main_v39 (F := Ideal) (m ((c : Thread nD τ).loc main_arg0)) := by
  refine (dats m 0 c).arrAt_eq_of_covers 9 _ covers9 fun t hf y => ?_
  blk_simp
  rw [after0_9]
  idx_vars y
  obtain rfl : y0 = 0 := Subsingleton.elim _ _
  refine (out9 m c t y1 y2).trans ?_
  refine (read2 m c t 0 y1 y2).trans ?_
  refine (Cert.Reference7Ideal.Fox.v_apply (m ((c : Thread nD τ).loc main_arg0)) 0 y1 y2).symm.trans ?_
  congr 1
  blk_ext [idx t]

theorem final10 : (dats m 0 c).arrAt 10 cfg0.N = Cert.Reference7Ideal.Read.val_main_v36 (F := Ideal) (m ((c : Thread nD τ).loc main_arg0)) (m ((c : Thread nD τ).loc main_arg3)) := by
  refine (dats m 0 c).arrAt_eq_of_covers 10 _ covers10 fun t hf y => ?_
  blk_simp
  rw [after0_10]
  idx_vars y
  obtain rfl : y0 = 0 := Subsingleton.elim _ _
  refine (out10 m c t y1 y2).trans ((f_apply (iblk m c 3 t) (iblk m c 6 t) y1 y2).trans ?_)
  refine Eq.trans ?_ ((Cert.Reference7Ideal.Fox.f_apply (m ((c : Thread nD τ).loc main_arg0)) (m ((c : Thread nD τ).loc main_arg3)) 0 y1 y2).symm.trans ?_)
  · exact congrArg₂ (fun a b => logSig (a + b)) (read3 m c t 0 y1 ⟨y2.val, by omega⟩ (by show 6656 + y2.val < 6912; omega)) (read6 m c t 0 y2)
  · congr 1
    blk_ext [idx t]

end Cert.Kernel7Ideal.Fox

end
-- ==== Proof.Part7.lean ====
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.SmallFoxValue
public import Idealize.ShloMosaic.Lib.Claim

@[expose] public section

/-! # The eight-row preparation call's part of the claim -/

noncomputable section

open Idealize.ShloMosaic Idealize.ShloMosaic.TcCoe Idealize.SL.Sem

namespace Cert.Proof.SmallFox

theorem frame_Kernel : Cert.quiescent_Kernel7 := fun m ρ _ => Cert.Kernel7.Gen.frame m ρ
theorem frame_KernelIdeal : Cert.quiescent_Kernel7Ideal := fun m ρ _ => Cert.Kernel7Ideal.Gen.frame m ρ
theorem frame_ReferenceIdeal : Cert.quiescent_Reference7Ideal := fun m ρ _ =>
  (θ_run Cert.Reference7Ideal.defs _ _).mono (fun r h => ⟨fun c => (h c).2.2.2.2, Idealize.ShloMosaic.sem_eq_zero_of_no_sems (by decide) r.2⟩)
    (Cert.Reference7Ideal.Value.run m ρ)

theorem algebraic : Cert.algebraic_Kernel7Ideal_Reference7Ideal := by
  intro m g m' g' hpre hagree
  refine ⟨fun c => (Cert.Kernel7Ideal.Gen.dats m 0 c).arrAt 7 Cert.Kernel7Ideal.cfg0.N, fun c => (Cert.Kernel7Ideal.Gen.dats m 0 c).arrAt 8 Cert.Kernel7Ideal.cfg0.N,
    fun c => (Cert.Kernel7Ideal.Gen.dats m 0 c).arrAt 9 Cert.Kernel7Ideal.cfg0.N, fun c => (Cert.Kernel7Ideal.Gen.dats m 0 c).arrAt 10 Cert.Kernel7Ideal.cfg0.N,
    (θ_run Cert.Kernel7Ideal.defs _ _).mono (fun r h c => ⟨(h c).1, (h c).2.1, (h c).2.2.1, (h c).2.2.2.1, (h c).2.2.2.2.2⟩) (Cert.Kernel7Ideal.Value.run_blocks m g),
    (θ_run Cert.Reference7Ideal.defs _ _).mono (fun r h c => ⟨(h c).1.trans ?_, (h c).2.1.trans ?_, (h c).2.2.1.trans ?_, (h c).2.2.2.1.trans ?_, (h c).2.2.2.2⟩)
      (Cert.Reference7Ideal.Value.run m' g')⟩
  · obtain ⟨e0, e1, e2, e3⟩ := hagree c
    refine (Cert.Reference7Ideal.Read.val_main_v37_eq _ _).trans ?_
    rw [e0, e1]
    exact (Cert.Kernel7Ideal.Fox.final7 m c).symm
  · obtain ⟨e0, e1, e2, e3⟩ := hagree c
    refine (Cert.Reference7Ideal.Read.val_main_v38_eq _ _).trans ?_
    rw [e0, e2]
    exact (Cert.Kernel7Ideal.Fox.final8 m c).symm
  · obtain ⟨e0, e1, e2, e3⟩ := hagree c
    refine (Cert.Reference7Ideal.Read.val_main_v39_eq _).trans ?_
    rw [e0]
    exact (Cert.Kernel7Ideal.Fox.final9 m c).symm
  · obtain ⟨e0, e1, e2, e3⟩ := hagree c
    refine (Cert.Reference7Ideal.Read.val_main_v36_eq _ _).trans ?_
    rw [e0, e3]
    exact (Cert.Kernel7Ideal.Fox.final10 m c).symm

end Cert.Proof.SmallFox

end
-- ==== Proof.Masks.lean ====
module

public import Idealize.ShloMosaic.Lib.Pipeline.ValueKit

@[expose] public section

set_option maxRecDepth 16384

/-!
# Masked sums

A mask built by comparing row numbers keeps one term, or all terms, of a sum.
-/

noncomputable section

open Idealize.ShloMosaic Idealize.ShloMosaic.TcCoe

namespace Cert.Masks

theorem first_row : ∀ x : Fin 64, IntOp.cmpi CmpIPredicate.slt (BitVec.ofNat 32 x.val) 1#32 = if x = 0 then 1 else 0 := by decide +kernel

theorem below_first : ∀ r : Fin 64, BitVec.setWidth 32 (IntOp.cmpi CmpIPredicate.sge (BitVec.ofNat 32 r.val) (BitVec.ofNat 32 (0 : Fin 64).val)) = 1#32 := by
  decide +kernel

theorem same_row : ∀ i x : Fin 64, IntOp.cmpi CmpIPredicate.eq (BitVec.ofNat 32 i.val) (BitVec.ofNat 32 x.val) = if x = i then 1 else 0 := by
  decide +kernel

theorem pick {α : Type} (p : Prop) [Decidable p] (a b : α) : Scalar.select (if p then 1 else 0) a b = if p then a else b := by
  by_cases h : p <;> simp [h, Scalar.select]

theorem one_word : FloatOps.sitofp (F := Ideal) FTy.f32 (1#32) = (1 : EReal) := by
  show (((1#32 : BitVec 32).toInt : ℝ) : EReal) = 1
  have : (1#32 : BitVec 32).toInt = 1 := by decide
  rw [this]
  norm_num

/-- The lower-triangular sum of rows that are all masked off but the first is the first row. -/
theorem sum_first (r : Fin 64) (f : Fin 64 → EReal) :
    ∑ x : Fin 64, Scalar.select (IntOp.cmpi CmpIPredicate.slt (BitVec.ofNat 32 x.val) 1#32)
      (FloatOps.sitofp (F := Ideal) FTy.f32 (BitVec.setWidth 32 (IntOp.cmpi CmpIPredicate.sge (BitVec.ofNat 32 r.val) (BitVec.ofNat 32 x.val))) * f x) 0 = f 0 := by
  rw [Finset.sum_eq_single (0 : Fin 64)]
  · rw [first_row, pick, if_pos rfl, below_first, one_word, one_mul]
  · intro x _ hx
    rw [first_row, pick, if_neg hx]
  · intro h
    exact absurd (Finset.mem_univ _) h

/-- A diagonal mask keeps one term. -/
theorem sum_diag (i : Fin 64) (f : Fin 64 → EReal) :
    ∑ x : Fin 64, Scalar.select (IntOp.cmpi CmpIPredicate.eq (BitVec.ofNat 32 i.val) (BitVec.ofNat 32 x.val)) (f x) 0 = f i := by
  simp only [same_row, pick]
  rw [Finset.sum_ite_eq' Finset.univ i f, if_pos (Finset.mem_univ _)]

/-- A sum whose terms vanish after the first. -/
theorem sum_head (f : Fin 64 → EReal) (h : ∀ x, x ≠ 0 → f x = 0) : ∑ x : Fin 64, f x = f 0 := by
  rw [Finset.sum_eq_single (0 : Fin 64)]
  · intro x _ hx
    exact h x hx
  · intro h
    exact absurd (Finset.mem_univ _) h

/-- A sum over 128 lanes whose terms vanish off lanes 8 to 23. -/
theorem sum_lanes (f : Fin 128 → EReal) (h : ∀ x : Fin 128, (x.val < 8 ∨ 24 ≤ x.val) → f x = 0) :
    ∑ x : Fin 128, f x = ∑ e : Fin 16, f ⟨8 + e.val, by omega⟩ := by
  have hi : Function.Injective (fun e : Fin 16 => (⟨8 + e.val, by omega⟩ : Fin 128)) := by
    intro a b hab
    have := congrArg Fin.val hab
    exact Fin.ext (by simpa using this)
  rw [← Finset.sum_image (s := Finset.univ) (f := f) (g := fun e : Fin 16 => (⟨8 + e.val, by omega⟩ : Fin 128)) (fun a _ b _ hab => hi hab)]
  symm
  refine Finset.sum_subset (Finset.subset_univ _) ?_
  intro x _ hx
  refine h x ?_
  by_contra hc
  push Not at hc
  refine hx (Finset.mem_image.mpr ⟨⟨x.val - 8, by omega⟩, Finset.mem_univ _, Fin.ext ?_⟩)
  show 8 + (x.val - 8) = x.val
  omega

/-- Sixteen and its reciprocal. -/
theorem sixteenth (x : EReal) : x * Ideal.ofBits FTy.f32 0x3D800000#32 = Ideal.div x (Ideal.ofBits FTy.f32 0x41800000#32) := by
  have h1 : Ideal.ofBits FTy.f32 0x3D800000#32 = ((1 / 16 : ℝ) : EReal) := by
    simp [Ideal.ofBits, Ideal.ieee, -EReal.coe_mul]
    norm_num
  have h2 : Ideal.ofBits FTy.f32 0x41800000#32 = ((16 : ℝ) : EReal) := by
    simp [Ideal.ofBits, Ideal.ieee, -EReal.coe_mul]
    norm_num
  rw [h1, h2, Ideal.div_coe (by norm_num : (16 : ℝ) ≠ 0)]

end Cert.Masks

end
-- ==== Proof.SmallGlaState.lean ====
module

public import proofs.«01_k».proof.Proof.FoxRows
public import proofs.«01_k».proof.Proof.Masks
public import proofs.«01_k».proof.Proof.Gen.Kernel8Ideal.Skeleton
public import Idealize.ShloMosaic.Lib.Pipeline.ValueKit

@[expose] public section

set_option maxRecDepth 16384

/-!
# The one-step linear attention's state update, entry by entry
-/

noncomputable section

open Idealize.ShloMosaic Idealize.ShloMosaic.TcCoe Idealize.SL.Sem

namespace Cert.Kernel8Ideal.Gla

open Cert.Kernel8Ideal Cert.Kernel8Ideal.Gen Cert.FoxRows Cert.Masks

theorem gate_apply (X : FVec Ideal S1x64x128 .f32) (W : FVec Ideal S128x256 .bf16) (B : FVec Ideal S1x256 .f32) (r : Fin 64) (d : Fin 256) :
    k0_pay28 (F := Ideal) X W B (ix2 r d) = logSig ((∑ e : Fin 128, X (ix3 0 0 e) * W (ix2 e d)) + B (ix2 0 d)) * Ideal.ofBits FTy.f32 0x3D800000#32 := by
  refine Eq.trans ?_ (sum_first r fun x => logSig ((∑ e : Fin 128, X (ix3 0 x e) * W (ix2 e d)) + B (ix2 0 d)) * Ideal.ofBits FTy.f32 0x3D800000#32)
  unfold logSig
  pointwise [k0_pay28]
  simp only [zero_sub]

/-- One entry of the new state: the old entry decayed, plus the key's entry times the value's. -/
def upd (g : EReal) (s k v : EReal) : EReal := Ideal.exp g * s + k * Ideal.exp (g - g) * v

abbrev eye : IVec S64x64 1 := k0_pay51 (iota .tc S64x64 32 [0] iota_S64x64_d0_w32) (iota .tc S64x64 32 [1] iota_S64x64_d1_w32)

variable (b k : FVec Ideal S64x256 .f32) (v : FVec Ideal S64x512 .f32) (s : FVec Ideal S1x64x128 .f32)
  (hb : ∀ (r : Fin 64) (d : Fin 256), b (ix2 r d) = b (ix2 0 d)) (hk : ∀ (r : Fin 64) (d : Fin 256), r ≠ 0 → k (ix2 r d) = 0)

include hb hk

theorem step (o : ℕ) (p : ℕ) (i : Fin 64) (j : Fin 128) (ho : o + 64 ≤ 256) (hp : p + 128 ≤ 512) :
    ∑ x : Fin 64, Scalar.select (IntOp.cmpi CmpIPredicate.eq (BitVec.ofNat 32 i.val) (BitVec.ofNat 32 x.val))
        (Ideal.exp (b (ix2 63 ⟨o + x.val, by omega⟩)) * s (ix3 0 x j)) 0
      + ∑ x : Fin 64, k (ix2 x ⟨o + i.val, by omega⟩) * Ideal.exp (b (ix2 63 ⟨o + i.val, by omega⟩) - b (ix2 x ⟨o + i.val, by omega⟩)) * v (ix2 x ⟨p + j.val, by omega⟩)
      = upd (b (ix2 0 ⟨o + i.val, by omega⟩)) (s (ix3 0 i j)) (k (ix2 0 ⟨o + i.val, by omega⟩)) (v (ix2 0 ⟨p + j.val, by omega⟩)) := by
  refine (congrArg₂ (· + ·) (sum_diag i fun x => Ideal.exp (b (ix2 63 ⟨o + x.val, by omega⟩)) * s (ix3 0 x j))
    (sum_head (fun x => k (ix2 x ⟨o + i.val, by omega⟩) * Ideal.exp (b (ix2 63 ⟨o + i.val, by omega⟩) - b (ix2 x ⟨o + i.val, by omega⟩)) * v (ix2 x ⟨p + j.val, by omega⟩)) ?_)).trans ?_
  · intro x hx
    rw [hk x _ hx, zero_mul, zero_mul]
  · unfold upd
    rw [hb 63]

theorem state0 (i : Fin 64) (j : Fin 128) :
    k0_pay56 (F := Ideal) (iota .tc S64x64 32 [0] iota_S64x64_d0_w32) (iota .tc S64x64 32 [1] iota_S64x64_d1_w32) b k v s (ix3 0 i j)
      = upd (b (ix2 0 ⟨0 + i.val, by omega⟩)) (s (ix3 0 i j)) (k (ix2 0 ⟨0 + i.val, by omega⟩)) (v (ix2 0 ⟨0 + j.val, by omega⟩)) := by
  refine Eq.trans ?_ (step b k v s hb hk 0 0 i j (by omega) (by omega))
  simp only [Nat.zero_add]
  pointwise [k0_pay56, k0_pay51, k0_pay52, k0_pay53, k0_pay54]

theorem state1 (i : Fin 64) (j : Fin 128) :
    k0_pay67 (F := Ideal) eye (k0_pay61 k) (k0_pay62 v) (k0_pay63 s) (k0_pay65 b) (k0_pay66 b) (ix3 0 i j)
      = upd (b (ix2 0 ⟨64 + i.val, by omega⟩)) (s (ix3 0 i j)) (k (ix2 0 ⟨64 + i.val, by omega⟩)) (v (ix2 0 ⟨128 + j.val, by omega⟩)) := by
  refine Eq.trans ?_ (step b k v s hb hk 64 128 i j (by omega) (by omega))
  pointwise [k0_pay67, k0_pay51, k0_pay61, k0_pay62, k0_pay63, k0_pay65, k0_pay66, k0_pay60]

theorem state2 (i : Fin 64) (j : Fin 128) :
    k0_pay73 (F := Ideal) b k v eye s (ix3 0 i j)
      = upd (b (ix2 0 ⟨128 + i.val, by omega⟩)) (s (ix3 0 i j)) (k (ix2 0 ⟨128 + i.val, by omega⟩)) (v (ix2 0 ⟨256 + j.val, by omega⟩)) := by
  refine Eq.trans ?_ (step b k v s hb hk 128 256 i j (by omega) (by omega))
  pointwise [k0_pay73, k0_pay51, k0_pay69, k0_pay70, k0_pay71]

theorem state3 (i : Fin 64) (j : Fin 128) :
    k0_pay84 (F := Ideal) eye (k0_pay77 v) (k0_pay78 s) (k0_pay81 b k) (k0_pay82 b) k0_pay83 (ix3 0 i j)
      = upd (b (ix2 0 ⟨192 + i.val, by omega⟩)) (s (ix3 0 i j)) (k (ix2 0 ⟨192 + i.val, by omega⟩)) (v (ix2 0 ⟨384 + j.val, by omega⟩)) := by
  refine Eq.trans ?_ (step b k v s hb hk 192 384 i j (by omega) (by omega))
  pointwise [k0_pay84, k0_pay51, k0_pay77, k0_pay78, k0_pay81, k0_pay82, k0_pay83, k0_pay80, k0_pay76]

end Cert.Kernel8Ideal.Gla

end
-- ==== Proof.SmallGlaRef.lean ====
module

public import proofs.«01_k».proof.Proof.FoxRows
public import proofs.«01_k».proof.Proof.Gen.Reference8Ideal.Read
public import Idealize.ShloMosaic.Lib.Pipeline.ValueKit

@[expose] public section

set_option maxRecDepth 16384

/-!
# The one-step linear attention's reference, entry by entry
-/

noncomputable section

open Idealize.ShloMosaic Idealize.ShloMosaic.TcCoe Idealize.SL.Sem

namespace Cert.Reference8Ideal.Gla

open Cert.Reference8Ideal Cert.Reference8Ideal.Gen Cert.Reference8Ideal.Read Cert.FoxRows

variable (x0 : FVec Ideal S8x6912 .f32) (x1 : FVec Ideal S16x256 .f32) (x2 : FVec Ideal S256 .f32) (x4 : FVec Ideal S8x4x64x128 .f32)

theorem gate_apply (b : Fin 8) (d : Fin 256) :
    val_main_v9 (F := Ideal) x0 x1 x2 (ix2 b d)
      = logSig ((∑ e : Fin 16, x0 (ix2 b ⟨6664 + e.val, by omega⟩) * x1 (ix2 e d)) + x2 (ix1 d)) := by
  unfold logSig
  pointwise [val_main_v9, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v8, val_main_v7, val_main_v6, val_main_v5, val_main_v4]
  exact congrArg Neg.neg (if_neg (not_not_intro rfl))

theorem log_decay (b : Fin 8) (h : Fin 4) (i : Fin 64) :
    val_main_v12 (F := Ideal) x0 x1 x2 (ix3 b h i) = Ideal.div (val_main_v9 (F := Ideal) x0 x1 x2 (ix2 b ⟨h.val * 64 + i.val, by omega⟩)) (Ideal.ofBits FTy.f32 0x41800000#32) := by
  unfold val_main_v12 val_main_v11 val_main_cst val_main_v10
  generalize val_main_v9 (F := Ideal) x0 x1 x2 = L
  pointwise

theorem state_apply (b : Fin 8) (h : Fin 4) (i : Fin 64) (j : Fin 128) :
    val_main_v25 (F := Ideal) x0 x1 x2 x4 (ix4 b h i j)
      = Ideal.exp (val_main_v12 (F := Ideal) x0 x1 x2 (ix3 b h i)) * x4 (ix4 b h i j)
        + x0 (ix2 b ⟨6400 + (h.val * 64 + i.val), by omega⟩) * Ideal.exp (val_main_v12 (F := Ideal) x0 x1 x2 (ix3 b h i) - val_main_v12 (F := Ideal) x0 x1 x2 (ix3 b h i))
          * x0 (ix2 b ⟨5120 + (h.val * 128 + j.val), by omega⟩) := by
  unfold val_main_v25 val_main_v24 val_main_v23 val_main_v22 val_main_v21 val_main_v20 val_main_v19 val_main_v18 val_main_v17 val_main_v16 val_main_v15 val_main_v14 val_main_v13
  generalize val_main_v12 (F := Ideal) x0 x1 x2 = L
  pointwise [val_main_v3, val_main_v2, val_main_v1, val_main_v0]

end Cert.Reference8Ideal.Gla

end
-- ==== Proof.SmallGlaRead.lean ====
module

public import proofs.«01_k».proof.Proof.SmallGlaState
public import proofs.«01_k».proof.Proof.SmallGlaRef
public import proofs.«01_k».proof.Proof.Gen.Kernel8Ideal.Value
public import Idealize.ShloMosaic.Lib.Pipeline.ValueKit
public import Idealize.ShloMosaic.Lib.Claim
public import Idealize.ShloMosaic.Lib.StableHlo.ReadAt

@[expose] public section

set_option maxRecDepth 16384

/-!
# The one-step linear attention's inputs and scratch
-/

noncomputable section

open Idealize.ShloMosaic Idealize.ShloMosaic.TcCoe Idealize.SL.Sem
open Idealize.ShloMosaic.Pipeline (Dat)

namespace Cert.Kernel8Ideal.Gla

open Cert.Kernel8Ideal Cert.Kernel8Ideal.Gen Cert.FoxRows Cert.Masks

theorem idx : ∀ t : Fin cfg0.N,
    win0_1.index t = ![t.val, 0, 25] ∧ win0_2.index t = ![t.val, 0, 10] ∧ win0_4.index t = ![t.val, 0, 52]
    ∧ win0_5.index t = ![0, 0] ∧ win0_6.index t = ![0, 0] ∧ win0_8.index t = ![t.val, 0, 0, 0] ∧ win0_10.index t = ![t.val, 0, 0, 0] :=
  (by decide +kernel : ∀ t : Fin grid0.N, _)

theorem covers10 : (cfg0.win 10).Covers := by decide +kernel

variable (m : (ℓ : Loc nD τ sig) → Buf (Elt Ideal) ℓ) (c : Dev nD)

theorem zero_word : FloatOps.sitofp (F := Ideal) FTy.f32 (0#32) = (0 : EReal) := by
  show (((0#32 : BitVec 32).toInt : ℝ) : EReal) = 0
  have : (0#32 : BitVec 32).toInt = 0 := by decide
  rw [this]
  norm_num

theorem V_v3 (b : Fin 8) (r : Fin 64) (j : Fin 6912) :
    V m c main_v3 (ix3 b r j) = if r = 0 then m ((c : Thread nD τ).loc main_arg0) (ix2 b j) else (0 : EReal) := by
  unfold V
  simp only [List.flatten_cons, List.flatten_nil, List.append_nil, List.cons_append, List.nil_append, hostOps0, hostOps0_1, hostOps0_2, hostOps0_3, hostOps0_4]
  after_reads_at
  by_cases h : r = 0
  · rw [if_pos h, dif_pos (by rw [h]; decide)]
  · rw [if_neg h, dif_neg (fun hc => h (Fin.ext (by show r.val = 0; omega)))]
    exact zero_word

theorem V_v1 (r : Fin 128) (d : Fin 256) :
    V m c main_v1 (ix2 r d) = if h : 8 ≤ r.val ∧ r.val < 24 then m ((c : Thread nD τ).loc main_arg1) (ix2 ⟨r.val - 8, by omega⟩ d) else (0 : EReal) := by
  unfold V
  simp only [List.flatten_cons, List.flatten_nil, List.append_nil, List.cons_append, List.nil_append, hostOps0, hostOps0_1, hostOps0_2, hostOps0_3, hostOps0_4]
  after_reads_at
  by_cases h : 8 ≤ r.val ∧ r.val < 24
  · rw [dif_pos h, dif_pos (show 8 ≤ r.val ∧ r.val - 8 < 16 from ⟨h.1, by omega⟩)]
  · rw [dif_neg h, dif_neg (fun hc => h ⟨hc.1, by omega⟩)]
    exact zero_word

theorem V_v4 (b : Fin 1) (d : Fin 256) : V m c main_v4 (ix2 b d) = m ((c : Thread nD τ).loc main_arg2) (ix1 d) := by
  unfold V
  simp only [List.flatten_cons, List.flatten_nil, List.append_nil, List.cons_append, List.nil_append, hostOps0, hostOps0_1, hostOps0_2, hostOps0_3, hostOps0_4]
  after_reads_at

theorem read1 (t : Fin cfg0.N) (r : Fin 64) (d : Fin 256) :
    iblk m c 1 t (ix3 0 r d) = V m c main_v3 (ix3 ⟨t.val, t.isLt⟩ r ⟨6400 + d.val, by omega⟩) := by
  blk_point [iblk, idx t]

theorem read2 (t : Fin cfg0.N) (r : Fin 64) (d : Fin 512) :
    X0_2 m c t (ix3 0 r d) = V m c main_v3 (ix3 ⟨t.val, t.isLt⟩ r ⟨5120 + d.val, by omega⟩) := by
  unfold X0_2 Pipeline.Window.fill
  rw [dif_pos (moved0_2 t _)]
  blk_point [iblk, idx t]

theorem read4 (t : Fin cfg0.N) (r : Fin 64) (d : Fin 128) :
    iblk m c 4 t (ix3 0 r d) = V m c main_v3 (ix3 ⟨t.val, t.isLt⟩ r ⟨6656 + d.val, by omega⟩) := by
  blk_point [iblk, idx t]

theorem read5 (t : Fin cfg0.N) (r : Fin 128) (d : Fin 256) : iblk m c 5 t (ix2 r d) = V m c main_v1 (ix2 r d) := by
  blk_point [iblk, idx t]

theorem read6 (t : Fin cfg0.N) (b : Fin 1) (d : Fin 256) : iblk m c 6 t (ix2 b d) = m ((c : Thread nD τ).loc main_arg2) (ix1 d) := by
  refine Eq.trans ?_ (V_v4 m c b d)
  blk_point [iblk, idx t]

theorem read8 (t : Fin cfg0.N) (h : Fin 4) (i : Fin 64) (j : Fin 128) :
    iblk m c 8 t (ix4 0 h i j) = m ((c : Thread nD τ).loc main_arg4) (ix4 ⟨t.val, t.isLt⟩ h i j) := by
  blk_point [iblk, V, idx t]

/-! The scratch holding the state, read after the stores of some heads. -/

abbrev Cell := View.Piece (Elt Ideal) S4x64x128 .f32

theorem at_head (a : ℕ) (ha : a < 4) (inb) (w : FVec Ideal S1x64x128 .f32) (L : List Cell) (i : Fin 64) (j : Fin 128) :
    View.canon ((⟨Rect.unit (s := S4x64x128) ![a, 0, 0] ![1, 64, 128] inb, w⟩ : Cell) :: L) (ix3 ⟨a, ha⟩ i j) = w (ix3 0 i j) := by
  rw [← Rect.emb_eq_of_coords (Rect.unit (s := S4x64x128) ![a, 0, 0] ![1, 64, 128] inb) (ix3 0 i j : S1x64x128.Idx) (ix3 ⟨a, ha⟩ i j) (by
    intro x
    fin_cases x
    · show a = a + 1 * 0; omega
    · show i.val = 0 + 1 * i.val; omega
    · show j.val = 0 + 1 * j.val; omega)]
  exact View.canon_cons_emb _ _ _ _

theorem off_head (a : ℕ) (h : Fin 4) (hne : h.val ≠ a) (inb) (w : FVec Ideal S1x64x128 .f32) (L : List Cell) (i : Fin 64) (j : Fin 128) :
    View.canon ((⟨Rect.unit (s := S4x64x128) ![a, 0, 0] ![1, 64, 128] inb, w⟩ : Cell) :: L) (ix3 h i j) = View.canon L (ix3 h i j) :=
  View.canon_cons_of_not_mem _ _ (Rect.not_mem_set_of_axis _ _ (0 : Fin 3) a 1 rfl rfl rfl (by show h.val < a ∨ a + 1 ≤ h.val; omega))

theorem at_start (inb) (w : FVec Ideal S4x64x128 .f32) (h : Fin 4) (i : Fin 64) (j : Fin 128) :
    View.canon [(⟨Rect.unit (s := S4x64x128) ![0, 0, 0] ![4, 64, 128] inb, w⟩ : Cell)] (ix3 h i j) = w (ix3 h i j) := by
  have e := View.canon_unit_zero (Val := Elt Ideal) (S := S4x64x128) (e := .f32) (off := ![0, 0, 0]) (by funext x; fin_cases x <;> rfl) inb w
  exact congrFun e _

theorem load_head (L : List Cell) (a : ℕ) (ha : a < 4) (inb) (i : Fin 64) (j : Fin 128) :
    (View.whole cc0_scratch0).readCov L (Rect.unit (s := S4x64x128) ![a, 0, 0] ![1, 64, 128] inb).toLoadRect (ix3 0 i j : S1x64x128.Idx) = View.canon L (ix3 ⟨a, ha⟩ i j) := by
  rw [View.readCov_eq_canon']
  refine congrArg (View.canon L) (Rect.emb_eq_of_coords (Rect.unit (s := S4x64x128) ![a, 0, 0] ![1, 64, 128] inb) (ix3 0 i j : S1x64x128.Idx) (ix3 ⟨a, ha⟩ i j) ?_)
  intro x
  fin_cases x
  · show a = a + 1 * 0; omega
  · show i.val = 0 + 1 * i.val; omega
  · show j.val = 0 + 1 * j.val; omega

theorem load_all (L : List Cell) (inb) (h : Fin 4) (i : Fin 64) (j : Fin 128) :
    (View.whole cc0_scratch0).readCov L (Rect.unit (s := S4x64x128) ![0, 0, 0] ![4, 64, 128] inb).toLoadRect (ix3 h i j : S4x64x128.Idx) = View.canon L (ix3 h i j) := by
  rw [View.readCov_eq_canon']
  refine congrArg (View.canon L) (Rect.emb_eq_of_coords (Rect.unit (s := S4x64x128) ![0, 0, 0] ![4, 64, 128] inb) (ix3 h i j : S4x64x128.Idx) (ix3 h i j) ?_)
  intro x
  fin_cases x
  · show h.val = 0 + 1 * h.val; omega
  · show i.val = 0 + 1 * i.val; omega
  · show j.val = 0 + 1 * j.val; omega

theorem copy_out (x : FVec Ideal S4x64x128 .f32) (h : Fin 4) (i : Fin 64) (j : Fin 128) : k0_pay86 (F := Ideal) x (ix4 0 h i j) = x (ix3 h i j) := by
  pointwise [k0_pay86]

theorem copy_in (x : FVec Ideal S1x4x64x128 .f32) (h : Fin 4) (i : Fin 64) (j : Fin 128) : k0_pay27 (F := Ideal) x (ix3 h i j) = x (ix4 0 h i j) := by
  pointwise [k0_pay27]

theorem key_at (x : FVec Ideal S1x64x256 .f32) (r : Fin 64) (d : Fin 256) : k0_pay31 (F := Ideal) x (ix2 r d) = x (ix3 0 r d) := by
  pointwise [k0_pay31]

theorem value_at (x : FVec Ideal S1x64x512 .f32) (r : Fin 64) (d : Fin 512) : k0_pay32 (F := Ideal) x (ix2 r d) = x (ix3 0 r d) := by
  pointwise [k0_pay32]

/-- The logarithm of the decay the kernel forms. -/
abbrev decay (t : Fin cfg0.N) : FVec Ideal S64x256 .f32 := k0_pay28 (F := Ideal) (iblk m c 4 t) (iblk m c 5 t) (iblk m c 6 t)

theorem decay_rows (t : Fin cfg0.N) (r : Fin 64) (d : Fin 256) : decay m c t (ix2 r d) = decay m c t (ix2 0 d) := by
  unfold decay
  rw [gate_apply, gate_apply]

theorem key_rows (t : Fin cfg0.N) (r : Fin 64) (d : Fin 256) (h : r ≠ 0) : k0_pay31 (F := Ideal) (iblk m c 1 t) (ix2 r d) = 0 := by
  rw [key_at, read1, V_v3, if_neg h]

theorem upd_congr {g s s' k v : EReal} (h : s = s') : upd g s k v = upd g s' k v := by
  rw [h]

end Cert.Kernel8Ideal.Gla

end
-- ==== Proof.SmallGlaOut.lean ====
module

public import proofs.«01_k».proof.Proof.SmallGlaRead
public import proofs.«01_k».proof.Proof.SmallGlaRef
public import proofs.«01_k».proof.Proof.Gen.Kernel8Ideal.Value
public import Idealize.ShloMosaic.Lib.Pipeline.ValueKit
public import Idealize.ShloMosaic.Lib.Claim
public import Idealize.ShloMosaic.Lib.StableHlo.ReadAt

@[expose] public section

set_option maxRecDepth 16384

/-!
# The one-step linear attention's state array
-/

noncomputable section

open Idealize.ShloMosaic Idealize.ShloMosaic.TcCoe Idealize.SL.Sem
open Idealize.ShloMosaic.Pipeline (Dat)

namespace Cert.Kernel8Ideal.Gla

open Cert.Kernel8Ideal Cert.Kernel8Ideal.Gen Cert.FoxRows Cert.Masks

variable (m : (ℓ : Loc nD τ sig) → Buf (Elt Ideal) ℓ) (c : Dev nD)

theorem out10_0 (t : Fin cfg0.N) (i : Fin 64) (j : Fin 128) :
    (outsAt0 m c t).2 (ix4 0 0 i j)
      = upd (decay m c t (ix2 0 ⟨0 + i.val, by omega⟩)) (k0_pay27 (F := Ideal) (iblk m c 8 t) (ix3 0 i j))
          (k0_pay31 (F := Ideal) (iblk m c 1 t) (ix2 0 ⟨0 + i.val, by omega⟩)) (k0_pay32 (F := Ideal) (X0_2 m c t) (ix2 0 ⟨0 + j.val, by omega⟩)) := by
  unfold outsAt0
  dsimp only
  frame_out
  refine (copy_out _ 0 i j).trans ?_
  refine (load_all _ _ 0 i j).trans ?_
  refine (off_head 3 0 (by decide) _ _ _ i j).trans ?_
  refine (off_head 2 0 (by decide) _ _ _ i j).trans ?_
  refine (off_head 1 0 (by decide) _ _ _ i j).trans ?_
  refine (at_head 0 (by decide) _ _ _ i j).trans ?_
  refine (state0 (k0_pay28 (F := Ideal) (iblk m c 4 t) (iblk m c 5 t) (iblk m c 6 t)) (k0_pay31 (F := Ideal) (iblk m c 1 t)) (k0_pay32 (F := Ideal) (X0_2 m c t)) _ (decay_rows m c t) (key_rows m c t) i j).trans ?_
  refine upd_congr ?_
  refine (load_head _ 0 (by decide) _ i j).trans ?_
  exact at_start _ _ _ i j

theorem out10_1 (t : Fin cfg0.N) (i : Fin 64) (j : Fin 128) :
    (outsAt0 m c t).2 (ix4 0 1 i j)
      = upd (decay m c t (ix2 0 ⟨64 + i.val, by omega⟩)) (k0_pay27 (F := Ideal) (iblk m c 8 t) (ix3 1 i j))
          (k0_pay31 (F := Ideal) (iblk m c 1 t) (ix2 0 ⟨64 + i.val, by omega⟩)) (k0_pay32 (F := Ideal) (X0_2 m c t) (ix2 0 ⟨128 + j.val, by omega⟩)) := by
  unfold outsAt0
  dsimp only
  frame_out
  refine (copy_out _ 1 i j).trans ?_
  refine (load_all _ _ 1 i j).trans ?_
  refine (off_head 3 1 (by decide) _ _ _ i j).trans ?_
  refine (off_head 2 1 (by decide) _ _ _ i j).trans ?_
  refine (at_head 1 (by decide) _ _ _ i j).trans ?_
  refine (state1 (k0_pay28 (F := Ideal) (iblk m c 4 t) (iblk m c 5 t) (iblk m c 6 t)) (k0_pay31 (F := Ideal) (iblk m c 1 t)) (k0_pay32 (F := Ideal) (X0_2 m c t)) _ (decay_rows m c t) (key_rows m c t) i j).trans ?_
  refine upd_congr ?_
  refine (load_head _ 1 (by decide) _ i j).trans ?_
  refine (off_head 0 1 (by decide) _ _ _ i j).trans ?_
  exact at_start _ _ _ i j

theorem out10_2 (t : Fin cfg0.N) (i : Fin 64) (j : Fin 128) :
    (outsAt0 m c t).2 (ix4 0 2 i j)
      = upd (decay m c t (ix2 0 ⟨128 + i.val, by omega⟩)) (k0_pay27 (F := Ideal) (iblk m c 8 t) (ix3 2 i j))
          (k0_pay31 (F := Ideal) (iblk m c 1 t) (ix2 0 ⟨128 + i.val, by omega⟩)) (k0_pay32 (F := Ideal) (X0_2 m c t) (ix2 0 ⟨256 + j.val, by omega⟩)) := by
  unfold outsAt0
  dsimp only
  frame_out
  refine (copy_out _ 2 i j).trans ?_
  refine (load_all _ _ 2 i j).trans ?_
  refine (off_head 3 2 (by decide) _ _ _ i j).trans ?_
  refine (at_head 2 (by decide) _ _ _ i j).trans ?_
  refine (state2 (k0_pay28 (F := Ideal) (iblk m c 4 t) (iblk m c 5 t) (iblk m c 6 t)) (k0_pay31 (F := Ideal) (iblk m c 1 t)) (k0_pay32 (F := Ideal) (X0_2 m c t)) _ (decay_rows m c t) (key_rows m c t) i j).trans ?_
  refine upd_congr ?_
  refine (load_head _ 2 (by decide) _ i j).trans ?_
  refine (off_head 1 2 (by decide) _ _ _ i j).trans ?_
  refine (off_head 0 2 (by decide) _ _ _ i j).trans ?_
  exact at_start _ _ _ i j

theorem out10_3 (t : Fin cfg0.N) (i : Fin 64) (j : Fin 128) :
    (outsAt0 m c t).2 (ix4 0 3 i j)
      = upd (decay m c t (ix2 0 ⟨192 + i.val, by omega⟩)) (k0_pay27 (F := Ideal) (iblk m c 8 t) (ix3 3 i j))
          (k0_pay31 (F := Ideal) (iblk m c 1 t) (ix2 0 ⟨192 + i.val, by omega⟩)) (k0_pay32 (F := Ideal) (X0_2 m c t) (ix2 0 ⟨384 + j.val, by omega⟩)) := by
  unfold outsAt0
  dsimp only
  frame_out
  refine (copy_out _ 3 i j).trans ?_
  refine (load_all _ _ 3 i j).trans ?_
  refine (at_head 3 (by decide) _ _ _ i j).trans ?_
  refine (state3 (k0_pay28 (F := Ideal) (iblk m c 4 t) (iblk m c 5 t) (iblk m c 6 t)) (k0_pay31 (F := Ideal) (iblk m c 1 t)) (k0_pay32 (F := Ideal) (X0_2 m c t)) _ (decay_rows m c t) (key_rows m c t) i j).trans ?_
  refine upd_congr ?_
  refine (load_head _ 3 (by decide) _ i j).trans ?_
  refine (off_head 2 3 (by decide) _ _ _ i j).trans ?_
  refine (off_head 1 3 (by decide) _ _ _ i j).trans ?_
  refine (off_head 0 3 (by decide) _ _ _ i j).trans ?_
  exact at_start _ _ _ i j

theorem out10 (t : Fin cfg0.N) (h : Fin 4) (i : Fin 64) (j : Fin 128) :
    (outsAt0 m c t).2 (ix4 0 h i j)
      = upd (decay m c t (ix2 0 ⟨h.val * 64 + i.val, by omega⟩)) (k0_pay27 (F := Ideal) (iblk m c 8 t) (ix3 h i j))
          (k0_pay31 (F := Ideal) (iblk m c 1 t) (ix2 0 ⟨h.val * 64 + i.val, by omega⟩)) (k0_pay32 (F := Ideal) (X0_2 m c t) (ix2 0 ⟨h.val * 128 + j.val, by omega⟩)) := by
  match h with
  | ⟨0, _⟩ => exact out10_0 m c t i j
  | ⟨1, _⟩ => exact out10_1 m c t i j
  | ⟨2, _⟩ => exact out10_2 m c t i j
  | ⟨3, _⟩ => exact out10_3 m c t i j

end Cert.Kernel8Ideal.Gla

end
-- ==== Proof.SmallGlaValue.lean ====
module

public import proofs.«01_k».proof.Proof.SmallGlaOut
public import proofs.«01_k».proof.Proof.SmallGlaRef
public import proofs.«01_k».proof.Proof.Gen.Kernel8Ideal.Value
public import Idealize.ShloMosaic.Lib.Pipeline.ValueKit
public import Idealize.ShloMosaic.Lib.Claim
public import Idealize.ShloMosaic.Lib.StableHlo.ReadAt

@[expose] public section

set_option maxRecDepth 16384

/-!
# The one-step linear attention's state array
-/

noncomputable section

open Idealize.ShloMosaic Idealize.ShloMosaic.TcCoe Idealize.SL.Sem
open Idealize.ShloMosaic.Pipeline (Dat)

namespace Cert.Kernel8Ideal.Gla

open Cert.Kernel8Ideal Cert.Kernel8Ideal.Gen Cert.FoxRows Cert.Masks

variable (m : (ℓ : Loc nD τ sig) → Buf (Elt Ideal) ℓ) (c : Dev nD)

abbrev A0 : FVec Ideal S8x6912 .f32 := m ((c : Thread nD τ).loc main_arg0)
abbrev A1 : FVec Ideal S16x256 .f32 := m ((c : Thread nD τ).loc main_arg1)
abbrev A2 : FVec Ideal S256 .f32 := m ((c : Thread nD τ).loc main_arg2)
abbrev A4 : FVec Ideal S8x4x64x128 .f32 := m ((c : Thread nD τ).loc main_arg4)

theorem decay_apply (t : Fin cfg0.N) (h : Fin 4) (i : Fin 64) :
    decay m c t (ix2 0 ⟨h.val * 64 + i.val, by omega⟩)
      = Cert.Reference8Ideal.Read.val_main_v12 (F := Ideal) (A0 m c) (A1 m c) (A2 m c) (ix3 ⟨t.val, t.isLt⟩ h i) := by
  rw [Cert.Reference8Ideal.Gla.log_decay, Cert.Reference8Ideal.Gla.gate_apply, ← sixteenth]
  unfold decay
  rw [gate_apply]
  refine congrArg (fun z => logSig z * Ideal.ofBits FTy.f32 0x3D800000#32) ?_
  refine congrArg₂ (· + ·) ?_ (read6 m c t 0 _)
  refine (sum_lanes _ ?_).trans (Finset.sum_congr rfl fun e _ => ?_)
  · intro x hx
    rw [read5, V_v1, dif_neg (by omega), mul_zero]
  · rw [read4, read5, V_v3, V_v1, if_pos rfl, dif_pos (by constructor <;> (dsimp only; omega))]
    refine congrArg₂ (· * ·) (congrArg (A0 m c) (congrArg (ix2 _) (Fin.ext ?_))) (congrArg (A1 m c) (congrArg (fun z => ix2 z _) (Fin.ext ?_)))
    · show 6656 + (8 + e.val) = 6664 + e.val; omega
    · show 8 + e.val - 8 = e.val; omega

theorem final : (dats m 0 c).arrAt 10 cfg0.N = Cert.Reference8Ideal.Read.val_main_v25 (F := Ideal) (A0 m c) (A1 m c) (A2 m c) (A4 m c) := by
  refine (dats m 0 c).arrAt_eq_of_covers 10 _ covers10 fun t hf y => ?_
  blk_simp
  rw [after0_10]
  idx_vars y
  obtain rfl : y0 = 0 := Subsingleton.elim _ _
  refine (out10 m c t y1 y2 y3).trans ?_
  rw [copy_in, read8, key_at, read1, V_v3, if_pos rfl, value_at, read2, V_v3, if_pos rfl, decay_apply]
  refine Eq.trans (Cert.Reference8Ideal.Gla.state_apply (A0 m c) (A1 m c) (A2 m c) (A4 m c) ⟨t.val, t.isLt⟩ y1 y2 y3).symm ?_
  congr 1
  blk_ext [idx t]

end Cert.Kernel8Ideal.Gla

end
-- ==== Proof.Part8.lean ====
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.SmallGlaValue
public import Idealize.ShloMosaic.Lib.Claim

@[expose] public section

/-! # The one-step linear attention call's part of the claim -/

noncomputable section

open Idealize.ShloMosaic Idealize.ShloMosaic.TcCoe Idealize.SL.Sem

namespace Cert.Proof.SmallGla

theorem frame_Kernel : Cert.quiescent_Kernel8 := fun m ρ _ => Cert.Kernel8.Gen.frame m ρ
theorem frame_KernelIdeal : Cert.quiescent_Kernel8Ideal := fun m ρ _ => Cert.Kernel8Ideal.Gen.frame m ρ
theorem frame_ReferenceIdeal : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run m ρ)

theorem algebraic : Cert.algebraic_Kernel8Ideal_Reference8Ideal := by
  intro m g m' g' hpre hagree
  refine ⟨fun c => (Cert.Kernel8Ideal.Gen.dats m 0 c).arrAt 10 Cert.Kernel8Ideal.cfg0.N,
    (θ_run Cert.Kernel8Ideal.defs _ _).mono (fun r h c => (h c).2) (Cert.Kernel8Ideal.Value.run_blocks m g),
    (θ_run Cert.Reference8Ideal.defs _ _).mono (fun r h c => ⟨(h c).1.trans ?_, (h c).2⟩) (Cert.Reference8Ideal.Value.run m' g')⟩
  obtain ⟨e0, e1, e2, e3, e4⟩ := hagree c
  refine (Cert.Reference8Ideal.Read.val_main_v25_eq _ _).trans ?_
  rw [e0, e1, e2, e4]
  exact (Cert.Kernel8Ideal.Gla.final m c).symm

end Cert.Proof.SmallGla

end
-- ==== Proof.SmallGdnState.lean ====
module

public import proofs.«01_k».proof.Proof.FoxRows
public import proofs.«01_k».proof.Proof.Masks
public import proofs.«01_k».proof.Proof.Gen.Kernel9Ideal.Skeleton
public import Idealize.ShloMosaic.Lib.Pipeline.ValueKit

@[expose] public section

set_option maxRecDepth 16384

/-!
# One step of the gated delta rule, one head, entry by entry

Rows after the first have a zero rate, so the triangular matrix is zero, its inverse is the identity and only the first
row's correction reaches the state.
-/

noncomputable section

open Idealize.ShloMosaic Idealize.ShloMosaic.TcCoe Idealize.SL.Sem

namespace Cert.Kernel9Ideal.Gdn

open Cert.Kernel9Ideal Cert.Kernel9Ideal.Gen Cert.FoxRows Cert.Masks

abbrev rowI : IVec S64x64 32 := iota .tc S64x64 32 [0] iota_S64x64_d0_w32
abbrev colI : IVec S64x64 32 := iota .tc S64x64 32 [1] iota_S64x64_d1_w32

theorem same {α : Type} (x : BitVec 1) (a : α) : Scalar.select x a a = a := by
  unfold Scalar.select
  split <;> rfl

theorem zero_word : FloatOps.sitofp (F := Ideal) FTy.f32 (BitVec.setWidth 32 (0 : BitVec 1)) = (0 : EReal) := by
  show (((BitVec.setWidth 32 (0 : BitVec 1)).toInt : ℝ) : EReal) = 0
  have : (BitVec.setWidth 32 (0 : BitVec 1)).toInt = 0 := by decide
  rw [this]
  norm_num

/-- The entries the first row of the strict mask lets through: none. -/
theorem not_after : ∀ x : Fin 64, IntOp.cmpi CmpIPredicate.sgt (0#32) (BitVec.ofNat 32 x.val) = 0 := by
  decide +kernel

theorem no {α : Type} (a b : α) : Scalar.select (0 : BitVec 1) a b = b := by
  simp [Scalar.select]

variable (v k : FVec Ideal S64x128 .f32) (b g : FVec Ideal S64x1 .f32) (e : FVec Ideal S64x64 .f32) (s : FVec Ideal S1x128x128 .f32)

theorem rate_zero (hb : ∀ r : Fin 64, r ≠ 0 → b (ix2 r 0) = 0) : k0_pay28 (F := Ideal) k0_pay19 k b e = fun _ => (0 : EReal) := by
  funext y
  idx_vars y
  by_cases h : y0 = 0
  · subst h
    pointwise [k0_pay28, k0_pay27, k0_pay19]
    rw [not_after, no]
  · pointwise [k0_pay28, k0_pay27, k0_pay19]
    simp only [hb y0 h, mul_zero, zero_mul, Finset.sum_const_zero, same]

/-- The identity matrix. -/
def one : FVec Ideal S64x64 .f32 := fun y => FloatOps.sitofp (F := Ideal) FTy.f32 (BitVec.setWidth 32 (IntOp.cmpi CmpIPredicate.eq (rowI y) (colI y)))

theorem start (hb : ∀ r : Fin 64, r ≠ 0 → b (ix2 r 0) = 0) : k0_pay29 (F := Ideal) rowI colI k0_pay19 k b e = one := by
  funext y
  unfold k0_pay29
  rw [rate_zero k b e hb]
  idx_vars y
  unfold one
  pointwise
  simp only [same, zero_mul, Finset.sum_const_zero, mul_zero, sub_zero]

theorem level30 (x : FVec Ideal S64x64 .f32) (w : BitVec 32) : k0_pay30 (F := Ideal) rowI colI (fun _ => (0 : EReal)) x w = x := by
  funext y
  idx_vars y
  pointwise [k0_pay30]
  simp only [same, zero_mul, Finset.sum_const_zero, mul_zero, sub_zero]

theorem level33 (x : FVec Ideal S64x64 .f32) (p q : IVec S64x64 1) : k0_pay33 (F := Ideal) rowI colI (fun _ => (0 : EReal)) x p q = x := by
  funext y
  idx_vars y
  pointwise [k0_pay33]
  simp only [same, zero_mul, Finset.sum_const_zero, mul_zero, sub_zero]

theorem one_apply (r x : Fin 64) : one (ix2 r x) = if x = r then (1 : EReal) else 0 := by
  unfold one
  pointwise
  rw [same_row]
  by_cases h : x = r
  · rw [if_pos h, if_pos h]
    exact one_word
  · rw [if_neg h, if_neg h]
    exact zero_word

/-- The identity leaves a column as it is. -/
theorem one_sum (r : Fin 64) (f : Fin 64 → EReal) : ∑ x : Fin 64, one (ix2 r x) * f x = f r := by
  rw [Finset.sum_eq_single r]
  · rw [one_apply, if_pos rfl, one_mul]
  · intro x _ hx
    rw [one_apply, if_neg hx, zero_mul]
  · intro h
    exact absurd (Finset.mem_univ _) h

/-- The correction of one row. -/
def fix (b : EReal) (g : EReal) (v : EReal) (k s : Fin 128 → EReal) : EReal := v * b - ∑ d : Fin 128, k d * b * Ideal.exp g * s d

theorem new_value (hb : ∀ r : Fin 64, r ≠ 0 → b (ix2 r 0) = 0) (p q : IVec S64x64 1) (r : Fin 64) (j : Fin 128) :
    k0_pay38 (F := Ideal) colI v b g (k0_pay27 k b) (fun _ => (0 : EReal)) one p q s (ix2 r j)
      = if r = 0 then fix (b (ix2 0 0)) (g (ix2 0 0)) (v (ix2 0 j)) (fun d => k (ix2 0 d)) (fun d => s (ix3 0 d j)) else 0 := by
  pointwise [k0_pay38, k0_pay27, k0_pay37, k0_pay36]
  simp only [same, zero_mul, Finset.sum_const_zero, mul_zero, sub_zero]
  have e1 := one_sum r fun x => v (ix2 x j) * b (ix2 x 0)
  have e2 : ∀ d : Fin 128, ∑ x : Fin 64, one (ix2 r x) * (k (ix2 x d) * b (ix2 x 0) * Ideal.exp (g (ix2 x 0))) = k (ix2 r d) * b (ix2 r 0) * Ideal.exp (g (ix2 r 0)) :=
    fun d => one_sum r fun x => k (ix2 x d) * b (ix2 x 0) * Ideal.exp (g (ix2 x 0))
  rw [e1]
  simp only [e2]
  unfold fix
  by_cases h : r = 0
  · rw [if_pos h, h]
  · rw [if_neg h]
    simp only [hb r h, mul_zero, zero_mul, Finset.sum_const_zero, sub_zero]

/-- One head's new state, as the first head's operations on that head's arrays. -/
def head : FVec Ideal S1x128x128 .f32 :=
  k0_pay43 k g
    (k0_pay38 colI v b g (k0_pay27 k b) (k0_pay28 k0_pay19 k b e)
      (k0_pay33 rowI colI (k0_pay28 k0_pay19 k b e)
        (k0_pay30 rowI colI (k0_pay28 k0_pay19 k b e) (k0_pay29 rowI colI k0_pay19 k b e) 3#32)
        (k0_pay31 rowI colI) (k0_pay32 colI))
      (k0_pay34 rowI colI) (k0_pay35 rowI) s)
    (k0_pay41 g s) (k0_pay42 g)

/-- One entry of the new state: the old entry decayed, plus the key's entry times the correction. -/
def upd (g : EReal) (s k u : EReal) : EReal := Ideal.exp g * s + k * Ideal.exp (g - g) * u

theorem head_apply (hb : ∀ r : Fin 64, r ≠ 0 → b (ix2 r 0) = 0) (hg : ∀ r : Fin 64, g (ix2 r 0) = g (ix2 0 0)) (i j : Fin 128) :
    head v k b g e s (ix3 0 i j)
      = upd (g (ix2 0 0)) (s (ix3 0 i j)) (k (ix2 0 i)) (fix (b (ix2 0 0)) (g (ix2 0 0)) (v (ix2 0 j)) (fun d => k (ix2 0 d)) (fun d => s (ix3 0 d j))) := by
  unfold head
  rw [rate_zero k b e hb, start k b e hb, level30, level33]
  have hn := new_value v k b g s hb (k0_pay34 rowI colI) (k0_pay35 rowI)
  generalize k0_pay38 (F := Ideal) colI v b g (k0_pay27 k b) (fun _ => (0 : EReal)) one (k0_pay34 rowI colI) (k0_pay35 rowI) s = n at hn
  pointwise [k0_pay43, k0_pay41, k0_pay42, k0_pay40, k0_pay37]
  have e1 := sum_head (fun x => k (ix2 x i) * Ideal.exp (g (ix2 63 0) - g (ix2 x 0)) * n (ix2 x j)) (by
    intro x hx
    show k (ix2 x i) * Ideal.exp (g (ix2 63 0) - g (ix2 x 0)) * n (ix2 x j) = 0
    rw [hn, if_neg hx, mul_zero])
  rw [e1, hn, if_pos rfl, hg 63]
  rfl

end Cert.Kernel9Ideal.Gdn

end
-- ==== Proof.SmallGdnRead.lean ====
module

public import proofs.«01_k».proof.Proof.SmallGdnState
public import proofs.«01_k».proof.Proof.Gen.Kernel9Ideal.Value
public import Idealize.ShloMosaic.Lib.Pipeline.ValueKit
public import Idealize.ShloMosaic.Lib.Claim
public import Idealize.ShloMosaic.Lib.StableHlo.ReadAt

@[expose] public section

set_option maxRecDepth 16384

/-!
# The one-step delta rule's inputs and scratch
-/

noncomputable section

open Idealize.ShloMosaic Idealize.ShloMosaic.TcCoe Idealize.SL.Sem
open Idealize.ShloMosaic.Pipeline (Dat)

namespace Cert.Kernel9Ideal.Gdn

open Cert.Kernel9Ideal Cert.Kernel9Ideal.Gen Cert.FoxRows Cert.Masks

theorem idx : ∀ t : Fin cfg0.N,
    win0_0.index t = ![t.val, 0, 2] ∧ win0_2.index t = ![t.val, 0, 52] ∧ win0_3.index t = ![0, 0] ∧ win0_4.index t = ![t.val, 0, 0]
    ∧ win0_5.index t = ![0, 0] ∧ win0_6.index t = ![0, 0] ∧ win0_8.index t = ![t.val, 0, 0, 0] ∧ win0_10.index t = ![t.val, 0, 0, 0]
    ∧ win0_11.index t = ![t.val, 0, 0] :=
  (by decide +kernel : ∀ t : Fin grid0.N, _)

theorem covers10 : (cfg0.win 10).Covers := by decide +kernel
theorem covers11 : (cfg0.win 11).Covers := by decide +kernel

variable (m : (ℓ : Loc nD τ sig) → Buf (Elt Ideal) ℓ) (c : Dev nD)

theorem zero_of_int : FloatOps.sitofp (F := Ideal) FTy.f32 (0#32) = (0 : EReal) := by
  show (((0#32 : BitVec 32).toInt : ℝ) : EReal) = 0
  have : (0#32 : BitVec 32).toInt = 0 := by decide
  rw [this]
  norm_num

theorem V_v1 (b : Fin 8) (r : Fin 64) (j : Fin 6912) :
    V m c main_v1 (ix3 b r j) = if r = 0 then m ((c : Thread nD τ).loc main_arg0) (ix2 b j) else (0 : EReal) := by
  unfold V
  simp only [List.flatten_cons, List.flatten_nil, List.append_nil, List.cons_append, List.nil_append, hostOps0, hostOps0_1, hostOps0_2, hostOps0_3, hostOps0_4, hostOps0_5, hostOps0_6]
  after_reads_at
  by_cases h : r = 0
  · rw [if_pos h, dif_pos (by rw [h]; decide)]
  · rw [if_neg h, dif_neg (fun hc => h (Fin.ext (by show r.val = 0; omega)))]
    exact zero_of_int

theorem V_v3 (a : Fin 1) (h : Fin 4) : V m c main_v3 (ix2 a ⟨28 + h.val, by omega⟩) = m ((c : Thread nD τ).loc main_arg3) (ix1 h) := by
  unfold V
  simp only [List.flatten_cons, List.flatten_nil, List.append_nil, List.cons_append, List.nil_append, hostOps0, hostOps0_1, hostOps0_2, hostOps0_3, hostOps0_4, hostOps0_5, hostOps0_6]
  after_reads_at

theorem V_v5 (a : Fin 1) (h : Fin 4) : V m c main_v5 (ix2 a ⟨28 + h.val, by omega⟩) = m ((c : Thread nD τ).loc main_arg4) (ix1 h) := by
  unfold V
  simp only [List.flatten_cons, List.flatten_nil, List.append_nil, List.cons_append, List.nil_append, hostOps0, hostOps0_1, hostOps0_2, hostOps0_3, hostOps0_4, hostOps0_5, hostOps0_6]
  after_reads_at

theorem read0 (t : Fin cfg0.N) (r : Fin 64) (d : Fin 1536) :
    X0_0 m c t (ix3 0 r d) = V m c main_v1 (ix3 ⟨t.val, t.isLt⟩ r ⟨3072 + d.val, by omega⟩) := by
  unfold X0_0 Pipeline.Window.fill
  rw [dif_pos (moved0_0 t _)]
  blk_point [iblk, idx t]

theorem read2 (t : Fin cfg0.N) (r : Fin 64) (d : Fin 128) :
    iblk m c 2 t (ix3 0 r d) = V m c main_v1 (ix3 ⟨t.val, t.isLt⟩ r ⟨6656 + d.val, by omega⟩) := by
  blk_point [iblk, idx t]

theorem read3 (t : Fin cfg0.N) (i : Fin 4) (d : Fin 1536) : iblk m c 3 t (ix2 i d) = m ((c : Thread nD τ).loc main_arg1) (ix2 i d) := by
  blk_point [iblk, V, idx t]

theorem read4 (t : Fin cfg0.N) (i : Fin 3) (d : Fin 1536) : iblk m c 4 t (ix3 0 i d) = m ((c : Thread nD τ).loc main_arg2) (ix3 ⟨t.val, t.isLt⟩ i d) := by
  blk_point [iblk, V, idx t]

theorem read5 (t : Fin cfg0.N) (a : Fin 1) (d : Fin 128) : iblk m c 5 t (ix2 a d) = V m c main_v3 (ix2 a d) := by
  blk_point [iblk, idx t]

theorem read6 (t : Fin cfg0.N) (a : Fin 1) (d : Fin 128) : iblk m c 6 t (ix2 a d) = V m c main_v5 (ix2 a d) := by
  blk_point [iblk, idx t]

theorem read8 (t : Fin cfg0.N) (h : Fin 4) (i : Fin 128) (j : Fin 128) :
    iblk m c 8 t (ix4 0 h i j) = m ((c : Thread nD τ).loc main_arg6) (ix4 ⟨t.val, t.isLt⟩ h i j) := by
  blk_point [iblk, V, idx t]

/-! The scratch holding the state, read after the stores of some heads. -/

abbrev Cell := View.Piece (Elt Ideal) S4x128x128 .f32

theorem at_head (a : ℕ) (ha : a < 4) (inb) (w : FVec Ideal S1x128x128 .f32) (L : List Cell) (i : Fin 128) (j : Fin 128) :
    View.canon ((⟨Rect.unit (s := S4x128x128) ![a, 0, 0] ![1, 128, 128] inb, w⟩ : Cell) :: L) (ix3 ⟨a, ha⟩ i j) = w (ix3 0 i j) := by
  rw [← Rect.emb_eq_of_coords (Rect.unit (s := S4x128x128) ![a, 0, 0] ![1, 128, 128] inb) (ix3 0 i j : S1x128x128.Idx) (ix3 ⟨a, ha⟩ i j) (by
    intro x
    fin_cases x
    · show a = a + 1 * 0; omega
    · show i.val = 0 + 1 * i.val; omega
    · show j.val = 0 + 1 * j.val; omega)]
  exact View.canon_cons_emb _ _ _ _

theorem off_head (a : ℕ) (h : Fin 4) (hne : h.val ≠ a) (inb) (w : FVec Ideal S1x128x128 .f32) (L : List Cell) (i : Fin 128) (j : Fin 128) :
    View.canon ((⟨Rect.unit (s := S4x128x128) ![a, 0, 0] ![1, 128, 128] inb, w⟩ : Cell) :: L) (ix3 h i j) = View.canon L (ix3 h i j) :=
  View.canon_cons_of_not_mem _ _ (Rect.not_mem_set_of_axis _ _ (0 : Fin 3) a 1 rfl rfl rfl (by show h.val < a ∨ a + 1 ≤ h.val; omega))

theorem at_start (inb) (w : FVec Ideal S4x128x128 .f32) (h : Fin 4) (i : Fin 128) (j : Fin 128) :
    View.canon [(⟨Rect.unit (s := S4x128x128) ![0, 0, 0] ![4, 128, 128] inb, w⟩ : Cell)] (ix3 h i j) = w (ix3 h i j) := by
  have e := View.canon_unit_zero (Val := Elt Ideal) (S := S4x128x128) (e := .f32) (off := ![0, 0, 0]) (by funext x; fin_cases x <;> rfl) inb w
  exact congrFun e _

theorem load_head (L : List Cell) (a : ℕ) (ha : a < 4) (inb) (i : Fin 128) (j : Fin 128) :
    (View.whole cc0_scratch0).readCov L (Rect.unit (s := S4x128x128) ![a, 0, 0] ![1, 128, 128] inb).toLoadRect (ix3 0 i j : S1x128x128.Idx) = View.canon L (ix3 ⟨a, ha⟩ i j) := by
  rw [View.readCov_eq_canon']
  refine congrArg (View.canon L) (Rect.emb_eq_of_coords (Rect.unit (s := S4x128x128) ![a, 0, 0] ![1, 128, 128] inb) (ix3 0 i j : S1x128x128.Idx) (ix3 ⟨a, ha⟩ i j) ?_)
  intro x
  fin_cases x
  · show a = a + 1 * 0; omega
  · show i.val = 0 + 1 * i.val; omega
  · show j.val = 0 + 1 * j.val; omega

theorem load_all (L : List Cell) (inb) (h : Fin 4) (i : Fin 128) (j : Fin 128) :
    (View.whole cc0_scratch0).readCov L (Rect.unit (s := S4x128x128) ![0, 0, 0] ![4, 128, 128] inb).toLoadRect (ix3 h i j : S4x128x128.Idx) = View.canon L (ix3 h i j) := by
  rw [View.readCov_eq_canon']
  refine congrArg (View.canon L) (Rect.emb_eq_of_coords (Rect.unit (s := S4x128x128) ![0, 0, 0] ![4, 128, 128] inb) (ix3 h i j : S4x128x128.Idx) (ix3 h i j) ?_)
  intro x
  fin_cases x
  · show h.val = 0 + 1 * h.val; omega
  · show i.val = 0 + 1 * i.val; omega
  · show j.val = 0 + 1 * j.val; omega

theorem copy_out (x : FVec Ideal S4x128x128 .f32) (h : Fin 4) (i : Fin 128) (j : Fin 128) : k0_pay1 (F := Ideal) x (ix4 0 h i j) = x (ix3 h i j) := by
  pointwise [k0_pay1]

theorem copy_in (x : FVec Ideal S1x4x128x128 .f32) (h : Fin 4) (i : Fin 128) (j : Fin 128) : k0_pay2 (F := Ideal) x (ix3 h i j) = x (ix4 0 h i j) := by
  pointwise [k0_pay2]

/-! The scratch holding the convolution's rows. -/

abbrev Row := View.Piece (Elt Ideal) S72x1536 .f32

/-- The rows stored when the convolution runs: the carried three, then the block's. -/
abbrev rows (t : Fin cfg0.N) : List Row :=
  [⟨Rect.unit (s := S72x1536) ![8, 0] ![64, 1536] inb_S72x1536_S64x1536_8_0, k0_pay4 (F := Ideal) (X0_0 m c t)⟩,
    ⟨Rect.unit (s := S72x1536) ![5, 0] ![3, 1536] inb_S72x1536_S3x1536_5_0, k0_pay3 (F := Ideal) (iblk m c 4 t)⟩]

theorem row_new (t : Fin cfg0.N) (d : Fin 1536) : View.canon (rows m c t) (ix2 8 d) = m ((c : Thread nD τ).loc main_arg0) (ix2 ⟨t.val, t.isLt⟩ ⟨3072 + d.val, by omega⟩) := by
  have e := Rect.emb_eq_of_coords (Rect.unit (s := S72x1536) ![8, 0] ![64, 1536] inb_S72x1536_S64x1536_8_0) (ix2 0 d : S64x1536.Idx) (ix2 8 d) (by
    intro x
    fin_cases x
    · show (8 : ℕ) = 8 + 1 * 0; omega
    · show d.val = 0 + 1 * d.val; omega)
  rw [← e]
  refine (View.canon_cons_emb _ _ _ _).trans ?_
  have h : k0_pay4 (F := Ideal) (X0_0 m c t) (ix2 0 d) = X0_0 m c t (ix3 0 0 d) := by
    pointwise [k0_pay4]
  refine h.trans ?_
  rw [read0, V_v1, if_pos rfl]

theorem row_old (t : Fin cfg0.N) (i : Fin 3) (d : Fin 1536) : View.canon (rows m c t) (ix2 ⟨5 + i.val, by omega⟩ d) = m ((c : Thread nD τ).loc main_arg2) (ix3 ⟨t.val, t.isLt⟩ i d) := by
  refine (View.canon_cons_of_not_mem _ _ (Rect.not_mem_set_of_axis _ _ (0 : Fin 2) 8 64 rfl rfl rfl (by show 5 + i.val < 8 ∨ 8 + 64 ≤ 5 + i.val; omega))).trans ?_
  have e := Rect.emb_eq_of_coords (Rect.unit (s := S72x1536) ![5, 0] ![3, 1536] inb_S72x1536_S3x1536_5_0) (ix2 i d : S3x1536.Idx) (ix2 ⟨5 + i.val, by omega⟩ d) (by
    intro x
    fin_cases x
    · show 5 + i.val = 5 + 1 * i.val; omega
    · show d.val = 0 + 1 * d.val; omega)
  rw [← e]
  refine (View.canon_cons_emb _ _ _ _).trans ?_
  have h : k0_pay3 (F := Ideal) (iblk m c 4 t) (ix2 i d) = iblk m c 4 t (ix3 0 i d) := by
    pointwise [k0_pay3]
  exact h.trans (read4 m c t i d)

theorem load_rows (L : List Row) (a : ℕ) (ha : a < 72) (inb) (d : Fin 1536) :
    (View.whole cc0_scratch1).readCov L (Rect.unit (s := S72x1536) ![a, 0] ![64, 1536] inb).toLoadRect (ix2 0 d : S64x1536.Idx) = View.canon L (ix2 ⟨a, ha⟩ d) := by
  rw [View.readCov_eq_canon']
  refine congrArg (View.canon L) (Rect.emb_eq_of_coords (Rect.unit (s := S72x1536) ![a, 0] ![64, 1536] inb) (ix2 0 d : S64x1536.Idx) (ix2 ⟨a, ha⟩ d) ?_)
  intro x
  fin_cases x
  · show a = a + 1 * 0; omega
  · show d.val = 0 + 1 * d.val; omega

theorem load_three (L : List Row) (inb) (i : Fin 3) (d : Fin 1536) :
    (View.whole cc0_scratch1).readCov L (Rect.unit (s := S72x1536) ![6, 0] ![3, 1536] inb).toLoadRect (ix2 i d : S3x1536.Idx) = View.canon L (ix2 ⟨6 + i.val, by omega⟩ d) := by
  rw [View.readCov_eq_canon']
  refine congrArg (View.canon L) (Rect.emb_eq_of_coords (Rect.unit (s := S72x1536) ![6, 0] ![3, 1536] inb) (ix2 i d : S3x1536.Idx) (ix2 ⟨6 + i.val, by omega⟩ d) ?_)
  intro x
  fin_cases x
  · show 6 + i.val = 6 + 1 * i.val; omega
  · show d.val = 0 + 1 * d.val; omega

end Cert.Kernel9Ideal.Gdn

end
-- ==== Proof.SmallGdnHeads.lean ====
module

public import proofs.«01_k».proof.Proof.SmallGdnState
public import proofs.«01_k».proof.Proof.FoxRows
public import proofs.«01_k».proof.Proof.Masks
public import proofs.«01_k».proof.Proof.Gen.Kernel9Ideal.Skeleton
public import Idealize.ShloMosaic.Lib.Pipeline.ValueKit

@[expose] public section

set_option maxRecDepth 16384

/-!
# The four heads' new states

Each head's operations are the first head's on its own columns.
-/

noncomputable section

open Idealize.ShloMosaic Idealize.ShloMosaic.TcCoe Idealize.SL.Sem

namespace Cert.Kernel9Ideal.Gdn

open Cert.Kernel9Ideal Cert.Kernel9Ideal.Gen Cert.FoxRows Cert.Masks

/-- Entry `i` of the row `x` after division by its length. -/
def unit (x : Fin 128 → EReal) (i : Fin 128) : EReal := x i * Ideal.rsqrt ((∑ e, x e * x e) + Ideal.ofBits FTy.f32 0x358637BD#32)

/-- The sigmoid. -/
def gate (x : EReal) : EReal := Ideal.div (Ideal.ofBits FTy.f32 0x3F800000#32) (Ideal.ofBits FTy.f32 0x3F800000#32 + Ideal.exp (-x))

/-- The gated convolution of four rows. -/
def taps (x w : Fin 4 → EReal) : EReal :=
  (x 0 * w 0 + x 1 * w 1 + x 2 * w 2 + x 3 * w 3) * gate (x 0 * w 0 + x 1 * w 1 + x 2 * w 2 + x 3 * w 3)

/-- The logarithm of the decay: minus the rate `a`'s exponential times the softplus of `x`. -/
def decay (a x : EReal) : EReal :=
  -Ideal.exp a * (max x 0 + Ideal.log1p (Ideal.exp (-FloatOps.absf (F := Ideal) (φ := .f32) x)))

variable (Q : FVec Ideal S64x1536 .f32) (sm : FVec Ideal S1x64x128 .f32) (al dt : FVec Ideal S1x128 .f32) (s : FVec Ideal S1x128x128 .f32)

abbrev rates : FVec Ideal S64x128 .f32 := k0_pay17 (F := Ideal) (k0_pay12 sm)
abbrev gates : FVec Ideal S64x128 .f32 := k0_pay16 (F := Ideal) (k0_pay13 sm dt) (k0_pay14 al)
abbrev sums : FVec Ideal S64x128 .f32 := k0_pay20 (F := Ideal) (k0_pay13 sm dt) (k0_pay14 al)

theorem rates_apply (r : Fin 64) (l : Fin 128) : rates sm (ix2 r l) = if r = 0 then gate (sm (ix3 0 0 l)) else 0 := by
  unfold rates gate
  pointwise [k0_pay17, k0_pay15, k0_pay12, k0_pay11]
  rw [first_row, pick]
  by_cases h : r = 0
  · rw [if_pos h, if_pos h, h, zero_sub]
  · rw [if_neg h, if_neg h]

theorem sums_apply (r : Fin 64) (l : Fin 128) : sums sm al dt (ix2 r l) = decay (al (ix2 0 l)) (sm (ix3 0 0 l) + dt (ix2 0 l)) := by
  refine Eq.trans ?_ (sum_first r fun x => decay (al (ix2 0 l)) (sm (ix3 0 x l) + dt (ix2 0 l)))
  unfold sums decay
  pointwise [k0_pay20, k0_pay18, k0_pay16, k0_pay15, k0_pay14, k0_pay13, k0_pay11]
  simp only [zero_sub]

/-- One entry of the head whose keys, values, rate and decay stand at columns `a`, `p`, `x` and `y`. -/
def cell (a p x y : ℕ) (ha : a + 128 ≤ 1536) (hp : p + 128 ≤ 1536) (hx : x < 128) (hy : y < 128) (i j : Fin 128) : EReal :=
  upd (decay (al (ix2 0 ⟨y, hy⟩)) (sm (ix3 0 0 ⟨y, hy⟩) + dt (ix2 0 ⟨y, hy⟩))) (s (ix3 0 i j)) (unit (fun d => Q (ix2 0 ⟨a + d.val, by omega⟩)) i)
    (fix (gate (sm (ix3 0 0 ⟨x, hx⟩))) (decay (al (ix2 0 ⟨y, hy⟩)) (sm (ix3 0 0 ⟨y, hy⟩) + dt (ix2 0 ⟨y, hy⟩))) (Q (ix2 0 ⟨p + j.val, by omega⟩))
      (unit fun d => Q (ix2 0 ⟨a + d.val, by omega⟩)) (fun d => s (ix3 0 d j)))

theorem cell_congr {a p x y : ℕ} {ha : a + 128 ≤ 1536} {hp : p + 128 ≤ 1536} {hx : x < 128} {hy : y < 128} (s' : FVec Ideal S1x128x128 .f32) (h : ∀ i j, s (ix3 0 i j) = s' (ix3 0 i j))
    (i j : Fin 128) : cell Q sm al dt s a p x y ha hp hx hy i j = cell Q sm al dt s' a p x y ha hp hx hy i j := by
  unfold cell
  simp only [h]

theorem cell_eq (v k : FVec Ideal S64x128 .f32) (b g : FVec Ideal S64x1 .f32) (e : FVec Ideal S64x64 .f32)
    (a p x y : ℕ) (ha : a + 128 ≤ 1536) (hp : p + 128 ≤ 1536) (hx : x < 128) (hy : y < 128)
    (hv : ∀ j : Fin 128, v (ix2 0 j) = Q (ix2 0 ⟨p + j.val, by omega⟩))
    (hk : ∀ i : Fin 128, k (ix2 0 i) = unit (fun d => Q (ix2 0 ⟨a + d.val, by omega⟩)) i)
    (hb : ∀ r : Fin 64, b (ix2 r 0) = rates sm (ix2 r ⟨x, hx⟩)) (hg : ∀ r : Fin 64, g (ix2 r 0) = sums sm al dt (ix2 r ⟨y, hy⟩)) (i j : Fin 128) :
    head v k b g e s (ix3 0 i j) = cell Q sm al dt s a p x y ha hp hx hy i j := by
  have h1 : ∀ r : Fin 64, r ≠ 0 → b (ix2 r 0) = 0 := by
    intro r hr
    rw [hb, rates_apply, if_neg hr]
  have h2 : ∀ r : Fin 64, g (ix2 r 0) = g (ix2 0 0) := by
    intro r
    rw [hg, hg, sums_apply, sums_apply]
  refine (head_apply v k b g e s h1 h2 i j).trans ?_
  unfold cell
  rw [hg, sums_apply, hb, rates_apply, if_pos rfl, hv, hk]
  simp only [hk]

theorem same_ops0 :
    k0_pay43 (F := Ideal) (k0_pay23 Q) (k0_pay25 (k0_pay13 sm dt) (k0_pay14 al)) (k0_pay38 colI (k0_pay21 Q) (k0_pay24 (k0_pay12 sm)) (k0_pay25 (k0_pay13 sm dt) (k0_pay14 al)) (k0_pay27 (k0_pay23 Q) (k0_pay24 (k0_pay12 sm))) (k0_pay28 k0_pay19 (k0_pay23 Q) (k0_pay24 (k0_pay12 sm)) (k0_pay26 (k0_pay13 sm dt) (k0_pay14 al))) (k0_pay33 rowI colI (k0_pay28 k0_pay19 (k0_pay23 Q) (k0_pay24 (k0_pay12 sm)) (k0_pay26 (k0_pay13 sm dt) (k0_pay14 al))) (k0_pay30 rowI colI (k0_pay28 k0_pay19 (k0_pay23 Q) (k0_pay24 (k0_pay12 sm)) (k0_pay26 (k0_pay13 sm dt) (k0_pay14 al))) (k0_pay29 rowI colI k0_pay19 (k0_pay23 Q) (k0_pay24 (k0_pay12 sm)) (k0_pay26 (k0_pay13 sm dt) (k0_pay14 al))) 3#32) (k0_pay31 rowI colI) (k0_pay32 colI)) (k0_pay34 rowI colI) (k0_pay35 rowI) s) (k0_pay41 (k0_pay25 (k0_pay13 sm dt) (k0_pay14 al)) s) (k0_pay42 (k0_pay25 (k0_pay13 sm dt) (k0_pay14 al)))
      = head (k0_pay21 Q) (k0_pay23 Q) (k0_pay24 (k0_pay12 sm)) (k0_pay25 (k0_pay13 sm dt) (k0_pay14 al)) (k0_pay26 (k0_pay13 sm dt) (k0_pay14 al)) s := rfl

theorem state0 (i j : Fin 128) :
    k0_pay43 (F := Ideal) (k0_pay23 Q) (k0_pay25 (k0_pay13 sm dt) (k0_pay14 al)) (k0_pay38 colI (k0_pay21 Q) (k0_pay24 (k0_pay12 sm)) (k0_pay25 (k0_pay13 sm dt) (k0_pay14 al)) (k0_pay27 (k0_pay23 Q) (k0_pay24 (k0_pay12 sm))) (k0_pay28 k0_pay19 (k0_pay23 Q) (k0_pay24 (k0_pay12 sm)) (k0_pay26 (k0_pay13 sm dt) (k0_pay14 al))) (k0_pay33 rowI colI (k0_pay28 k0_pay19 (k0_pay23 Q) (k0_pay24 (k0_pay12 sm)) (k0_pay26 (k0_pay13 sm dt) (k0_pay14 al))) (k0_pay30 rowI colI (k0_pay28 k0_pay19 (k0_pay23 Q) (k0_pay24 (k0_pay12 sm)) (k0_pay26 (k0_pay13 sm dt) (k0_pay14 al))) (k0_pay29 rowI colI k0_pay19 (k0_pay23 Q) (k0_pay24 (k0_pay12 sm)) (k0_pay26 (k0_pay13 sm dt) (k0_pay14 al))) 3#32) (k0_pay31 rowI colI) (k0_pay32 colI)) (k0_pay34 rowI colI) (k0_pay35 rowI) s) (k0_pay41 (k0_pay25 (k0_pay13 sm dt) (k0_pay14 al)) s) (k0_pay42 (k0_pay25 (k0_pay13 sm dt) (k0_pay14 al))) (ix3 0 i j)
      = cell Q sm al dt s 512 1024 24 28 (by omega) (by omega) (by omega) (by omega) i j := by
  rw [same_ops0]
  refine cell_eq Q sm al dt s _ _ _ _ _ 512 1024 24 28 (by omega) (by omega) (by omega) (by omega) ?_ ?_ ?_ ?_ i j
  · intro d
    pointwise [k0_pay21]
  · intro d
    unfold unit
    pointwise [k0_pay23]
  · intro r
    show k0_pay24 (F := Ideal) (k0_pay12 sm) (ix2 r 0) = _
    unfold k0_pay24
    pointwise
  · intro r
    show k0_pay25 (F := Ideal) (k0_pay13 sm dt) (k0_pay14 al) (ix2 r 0) = _
    unfold k0_pay25
    pointwise

theorem same_ops1 :
    k0_pay67 (F := Ideal) (k0_pay46 Q) (k0_pay48 Q) (k0_pay49 (k0_pay17 (k0_pay12 sm))) (k0_pay50 (k0_pay20 (k0_pay13 sm dt) (k0_pay14 al))) (k0_pay52 Q (k0_pay17 (k0_pay12 sm))) (k0_pay62 rowI colI (k0_pay53 Q (k0_pay16 (k0_pay13 sm dt) (k0_pay14 al)) (k0_pay17 (k0_pay12 sm)) rowI colI k0_pay18 k0_pay19) (k0_pay59 rowI colI (k0_pay53 Q (k0_pay16 (k0_pay13 sm dt) (k0_pay14 al)) (k0_pay17 (k0_pay12 sm)) rowI colI k0_pay18 k0_pay19) (k0_pay56 rowI colI (k0_pay53 Q (k0_pay16 (k0_pay13 sm dt) (k0_pay14 al)) (k0_pay17 (k0_pay12 sm)) rowI colI k0_pay18 k0_pay19) (k0_pay54 rowI colI) (k0_pay55 rowI colI)) (k0_pay57 rowI colI) (k0_pay58 colI) 1#32) (k0_pay60 rowI colI) (k0_pay61 rowI) 1#32) (k0_pay63 (k0_pay50 (k0_pay20 (k0_pay13 sm dt) (k0_pay14 al)))) s
      = head (k0_pay46 Q) (k0_pay48 Q) (k0_pay49 (rates sm)) (k0_pay50 (sums sm al dt)) (k0_pay51 (gates sm al dt) rowI colI k0_pay18 k0_pay19) s := rfl

theorem state1 (i j : Fin 128) :
    k0_pay67 (F := Ideal) (k0_pay46 Q) (k0_pay48 Q) (k0_pay49 (k0_pay17 (k0_pay12 sm))) (k0_pay50 (k0_pay20 (k0_pay13 sm dt) (k0_pay14 al))) (k0_pay52 Q (k0_pay17 (k0_pay12 sm))) (k0_pay62 rowI colI (k0_pay53 Q (k0_pay16 (k0_pay13 sm dt) (k0_pay14 al)) (k0_pay17 (k0_pay12 sm)) rowI colI k0_pay18 k0_pay19) (k0_pay59 rowI colI (k0_pay53 Q (k0_pay16 (k0_pay13 sm dt) (k0_pay14 al)) (k0_pay17 (k0_pay12 sm)) rowI colI k0_pay18 k0_pay19) (k0_pay56 rowI colI (k0_pay53 Q (k0_pay16 (k0_pay13 sm dt) (k0_pay14 al)) (k0_pay17 (k0_pay12 sm)) rowI colI k0_pay18 k0_pay19) (k0_pay54 rowI colI) (k0_pay55 rowI colI)) (k0_pay57 rowI colI) (k0_pay58 colI) 1#32) (k0_pay60 rowI colI) (k0_pay61 rowI) 1#32) (k0_pay63 (k0_pay50 (k0_pay20 (k0_pay13 sm dt) (k0_pay14 al)))) s (ix3 0 i j)
      = cell Q sm al dt s 640 1152 25 29 (by omega) (by omega) (by omega) (by omega) i j := by
  rw [same_ops1]
  refine cell_eq Q sm al dt s _ _ _ _ _ 640 1152 25 29 (by omega) (by omega) (by omega) (by omega) ?_ ?_ ?_ ?_ i j
  · intro d
    pointwise [k0_pay46]
  · intro d
    unfold unit
    pointwise [k0_pay48]
  · intro r
    show k0_pay49 (F := Ideal) (rates sm) (ix2 r 0) = _
    unfold k0_pay49
    generalize rates sm = R
    pointwise
  · intro r
    show k0_pay50 (F := Ideal) (sums sm al dt) (ix2 r 0) = _
    unfold k0_pay50
    generalize sums sm al dt = R
    pointwise

theorem same_ops2 :
    k0_pay92 (F := Ideal) (k0_pay74 (k0_pay70 Q) (k0_pay73 Q) (FloatOps.ofBits FTy.f32 897988541#32)) (k0_pay76 (k0_pay20 (k0_pay13 sm dt) (k0_pay14 al))) (k0_pay89 s) (k0_pay90 rowI colI (k0_pay71 Q) (k0_pay75 (k0_pay17 (k0_pay12 sm))) (k0_pay76 (k0_pay20 (k0_pay13 sm dt) (k0_pay14 al))) (k0_pay78 (k0_pay17 (k0_pay12 sm)) (k0_pay70 Q) (k0_pay73 Q) (FloatOps.ofBits FTy.f32 897988541#32)) (k0_pay79 (k0_pay16 (k0_pay13 sm dt) (k0_pay14 al)) (k0_pay17 (k0_pay12 sm)) rowI colI k0_pay18 k0_pay19 (k0_pay70 Q) (k0_pay73 Q) (FloatOps.ofBits FTy.f32 897988541#32)) (k0_pay86 rowI colI (k0_pay79 (k0_pay16 (k0_pay13 sm dt) (k0_pay14 al)) (k0_pay17 (k0_pay12 sm)) rowI colI k0_pay18 k0_pay19 (k0_pay70 Q) (k0_pay73 Q) (FloatOps.ofBits FTy.f32 897988541#32)) (k0_pay83 rowI colI (k0_pay79 (k0_pay16 (k0_pay13 sm dt) (k0_pay14 al)) (k0_pay17 (k0_pay12 sm)) rowI colI k0_pay18 k0_pay19 (k0_pay70 Q) (k0_pay73 Q) (FloatOps.ofBits FTy.f32 897988541#32)) (k0_pay80 (k0_pay16 (k0_pay13 sm dt) (k0_pay14 al)) (k0_pay17 (k0_pay12 sm)) rowI colI k0_pay18 k0_pay19 (k0_pay70 Q) (k0_pay73 Q) (FloatOps.ofBits FTy.f32 897988541#32)) (k0_pay81 rowI colI) (k0_pay82 rowI)) (k0_pay84 rowI) (k0_pay85 colI)) (k0_pay87 rowI colI (k0_pay79 (k0_pay16 (k0_pay13 sm dt) (k0_pay14 al)) (k0_pay17 (k0_pay12 sm)) rowI colI k0_pay18 k0_pay19 (k0_pay70 Q) (k0_pay73 Q) (FloatOps.ofBits FTy.f32 897988541#32))) (constant S64x64 FTy.f32 0#32) s)
      = head (k0_pay71 Q) (k0_pay74 (k0_pay70 Q) (k0_pay73 Q) (FloatOps.ofBits FTy.f32 897988541#32)) (k0_pay75 (rates sm)) (k0_pay76 (sums sm al dt)) (k0_pay77 (gates sm al dt) rowI colI k0_pay18 k0_pay19) s := rfl

theorem state2 (i j : Fin 128) :
    k0_pay92 (F := Ideal) (k0_pay74 (k0_pay70 Q) (k0_pay73 Q) (FloatOps.ofBits FTy.f32 897988541#32)) (k0_pay76 (k0_pay20 (k0_pay13 sm dt) (k0_pay14 al))) (k0_pay89 s) (k0_pay90 rowI colI (k0_pay71 Q) (k0_pay75 (k0_pay17 (k0_pay12 sm))) (k0_pay76 (k0_pay20 (k0_pay13 sm dt) (k0_pay14 al))) (k0_pay78 (k0_pay17 (k0_pay12 sm)) (k0_pay70 Q) (k0_pay73 Q) (FloatOps.ofBits FTy.f32 897988541#32)) (k0_pay79 (k0_pay16 (k0_pay13 sm dt) (k0_pay14 al)) (k0_pay17 (k0_pay12 sm)) rowI colI k0_pay18 k0_pay19 (k0_pay70 Q) (k0_pay73 Q) (FloatOps.ofBits FTy.f32 897988541#32)) (k0_pay86 rowI colI (k0_pay79 (k0_pay16 (k0_pay13 sm dt) (k0_pay14 al)) (k0_pay17 (k0_pay12 sm)) rowI colI k0_pay18 k0_pay19 (k0_pay70 Q) (k0_pay73 Q) (FloatOps.ofBits FTy.f32 897988541#32)) (k0_pay83 rowI colI (k0_pay79 (k0_pay16 (k0_pay13 sm dt) (k0_pay14 al)) (k0_pay17 (k0_pay12 sm)) rowI colI k0_pay18 k0_pay19 (k0_pay70 Q) (k0_pay73 Q) (FloatOps.ofBits FTy.f32 897988541#32)) (k0_pay80 (k0_pay16 (k0_pay13 sm dt) (k0_pay14 al)) (k0_pay17 (k0_pay12 sm)) rowI colI k0_pay18 k0_pay19 (k0_pay70 Q) (k0_pay73 Q) (FloatOps.ofBits FTy.f32 897988541#32)) (k0_pay81 rowI colI) (k0_pay82 rowI)) (k0_pay84 rowI) (k0_pay85 colI)) (k0_pay87 rowI colI (k0_pay79 (k0_pay16 (k0_pay13 sm dt) (k0_pay14 al)) (k0_pay17 (k0_pay12 sm)) rowI colI k0_pay18 k0_pay19 (k0_pay70 Q) (k0_pay73 Q) (FloatOps.ofBits FTy.f32 897988541#32))) (constant S64x64 FTy.f32 0#32) s) (ix3 0 i j)
      = cell Q sm al dt s 768 1280 26 30 (by omega) (by omega) (by omega) (by omega) i j := by
  rw [same_ops2]
  refine cell_eq Q sm al dt s _ _ _ _ _ 768 1280 26 30 (by omega) (by omega) (by omega) (by omega) ?_ ?_ ?_ ?_ i j
  · intro d
    pointwise [k0_pay71]
  · intro d
    unfold unit
    pointwise [k0_pay74, k0_pay70, k0_pay73]
  · intro r
    show k0_pay75 (F := Ideal) (rates sm) (ix2 r 0) = _
    unfold k0_pay75
    generalize rates sm = R
    pointwise
  · intro r
    show k0_pay76 (F := Ideal) (sums sm al dt) (ix2 r 0) = _
    unfold k0_pay76
    generalize sums sm al dt = R
    pointwise

theorem same_ops3 :
    k0_pay118 (F := Ideal) (k0_pay98 Q) (k0_pay100 (k0_pay20 (k0_pay13 sm dt) (k0_pay14 al))) (k0_pay113 colI (k0_pay96 Q) (k0_pay99 (k0_pay17 (k0_pay12 sm))) (k0_pay100 (k0_pay20 (k0_pay13 sm dt) (k0_pay14 al))) (k0_pay102 (k0_pay98 Q) (k0_pay99 (k0_pay17 (k0_pay12 sm)))) (k0_pay103 k0_pay19 (k0_pay98 Q) (k0_pay99 (k0_pay17 (k0_pay12 sm))) (k0_pay101 (k0_pay16 (k0_pay13 sm dt) (k0_pay14 al)) rowI colI k0_pay18 k0_pay19)) (k0_pay108 rowI colI (k0_pay103 k0_pay19 (k0_pay98 Q) (k0_pay99 (k0_pay17 (k0_pay12 sm))) (k0_pay101 (k0_pay16 (k0_pay13 sm dt) (k0_pay14 al)) rowI colI k0_pay18 k0_pay19)) (k0_pay105 rowI colI (k0_pay103 k0_pay19 (k0_pay98 Q) (k0_pay99 (k0_pay17 (k0_pay12 sm))) (k0_pay101 (k0_pay16 (k0_pay13 sm dt) (k0_pay14 al)) rowI colI k0_pay18 k0_pay19)) (k0_pay104 rowI colI k0_pay19 (k0_pay98 Q) (k0_pay99 (k0_pay17 (k0_pay12 sm))) (k0_pay101 (k0_pay16 (k0_pay13 sm dt) (k0_pay14 al)) rowI colI k0_pay18 k0_pay19)) 3#32) (k0_pay106 rowI colI) (k0_pay107 colI)) (k0_pay109 rowI colI) (k0_pay110 rowI) s) (k0_pay116 (k0_pay100 (k0_pay20 (k0_pay13 sm dt) (k0_pay14 al))) s) (k0_pay117 (k0_pay100 (k0_pay20 (k0_pay13 sm dt) (k0_pay14 al))))
      = head (k0_pay96 Q) (k0_pay98 Q) (k0_pay99 (rates sm)) (k0_pay100 (sums sm al dt)) (k0_pay101 (gates sm al dt) rowI colI k0_pay18 k0_pay19) s := rfl

theorem state3 (i j : Fin 128) :
    k0_pay118 (F := Ideal) (k0_pay98 Q) (k0_pay100 (k0_pay20 (k0_pay13 sm dt) (k0_pay14 al))) (k0_pay113 colI (k0_pay96 Q) (k0_pay99 (k0_pay17 (k0_pay12 sm))) (k0_pay100 (k0_pay20 (k0_pay13 sm dt) (k0_pay14 al))) (k0_pay102 (k0_pay98 Q) (k0_pay99 (k0_pay17 (k0_pay12 sm)))) (k0_pay103 k0_pay19 (k0_pay98 Q) (k0_pay99 (k0_pay17 (k0_pay12 sm))) (k0_pay101 (k0_pay16 (k0_pay13 sm dt) (k0_pay14 al)) rowI colI k0_pay18 k0_pay19)) (k0_pay108 rowI colI (k0_pay103 k0_pay19 (k0_pay98 Q) (k0_pay99 (k0_pay17 (k0_pay12 sm))) (k0_pay101 (k0_pay16 (k0_pay13 sm dt) (k0_pay14 al)) rowI colI k0_pay18 k0_pay19)) (k0_pay105 rowI colI (k0_pay103 k0_pay19 (k0_pay98 Q) (k0_pay99 (k0_pay17 (k0_pay12 sm))) (k0_pay101 (k0_pay16 (k0_pay13 sm dt) (k0_pay14 al)) rowI colI k0_pay18 k0_pay19)) (k0_pay104 rowI colI k0_pay19 (k0_pay98 Q) (k0_pay99 (k0_pay17 (k0_pay12 sm))) (k0_pay101 (k0_pay16 (k0_pay13 sm dt) (k0_pay14 al)) rowI colI k0_pay18 k0_pay19)) 3#32) (k0_pay106 rowI colI) (k0_pay107 colI)) (k0_pay109 rowI colI) (k0_pay110 rowI) s) (k0_pay116 (k0_pay100 (k0_pay20 (k0_pay13 sm dt) (k0_pay14 al))) s) (k0_pay117 (k0_pay100 (k0_pay20 (k0_pay13 sm dt) (k0_pay14 al)))) (ix3 0 i j)
      = cell Q sm al dt s 896 1408 27 31 (by omega) (by omega) (by omega) (by omega) i j := by
  rw [same_ops3]
  refine cell_eq Q sm al dt s _ _ _ _ _ 896 1408 27 31 (by omega) (by omega) (by omega) (by omega) ?_ ?_ ?_ ?_ i j
  · intro d
    pointwise [k0_pay96]
  · intro d
    unfold unit
    pointwise [k0_pay98]
  · intro r
    show k0_pay99 (F := Ideal) (rates sm) (ix2 r 0) = _
    unfold k0_pay99
    generalize rates sm = R
    pointwise
  · intro r
    show k0_pay100 (F := Ideal) (sums sm al dt) (ix2 r 0) = _
    unfold k0_pay100
    generalize sums sm al dt = R
    pointwise

end Cert.Kernel9Ideal.Gdn

end
-- ==== Proof.SmallGdnOut.lean ====
module

public import proofs.«01_k».proof.Proof.SmallGdnRead
public import proofs.«01_k».proof.Proof.SmallGdnHeads
public import proofs.«01_k».proof.Proof.Gen.Kernel9Ideal.Value
public import Idealize.ShloMosaic.Lib.Pipeline.ValueKit
public import Idealize.ShloMosaic.Lib.Claim
public import Idealize.ShloMosaic.Lib.StableHlo.ReadAt

@[expose] public section

set_option maxRecDepth 16384

/-!
# The one-step delta rule's two arrays
-/

noncomputable section

open Idealize.ShloMosaic Idealize.ShloMosaic.TcCoe Idealize.SL.Sem
open Idealize.ShloMosaic.Pipeline (Dat)

namespace Cert.Kernel9Ideal.Gdn

open Cert.Kernel9Ideal Cert.Kernel9Ideal.Gen Cert.FoxRows Cert.Masks

variable (m : (ℓ : Loc nD τ sig) → Buf (Elt Ideal) ℓ) (c : Dev nD)

theorem out11 (t : Fin cfg0.N) (i : Fin 3) (d : Fin 1536) :
    (outsAt0 m c t).2.2 (ix3 0 i d) = View.canon (rows m c t) (ix2 ⟨6 + i.val, by omega⟩ d) := by
  unfold outsAt0
  dsimp only
  frame_out
  have h : ∀ x : FVec Ideal S3x1536 .f32, k0_pay9 (F := Ideal) x (ix3 0 i d) = x (ix2 i d) := by
    intro x
    pointwise [k0_pay9]
  exact (h _).trans (load_three _ _ i d)

/-- The rows one tap multiplies. -/
abbrev cols (t : Fin cfg0.N) (a : ℕ) (inb : ∀ x, (![a, 0] : Fin 2 → Nat) x + S64x1536.size x ≤ S72x1536.size x) : FVec Ideal S64x1536 .f32 :=
  (View.whole cc0_scratch1).readCov (rows m c t) (Rect.unit (s := S72x1536) ![a, 0] ![64, 1536] inb).toLoadRect

/-- One tap's weights. -/
abbrev tap (t : Fin cfg0.N) (a : ℕ) (inb : ∀ x, (![a, 0] : Fin 2 → Nat) x + S1x1536.size x ≤ S4x1536.size x) : FVec Ideal S1x1536 .f32 :=
  View.ld (iblk m c 3 t) (Rect.unit (s := S4x1536) ![a, 0] ![1, 1536] inb)

/-- The convolution's result, before the split into queries, keys and values. -/
abbrev conv (t : Fin cfg0.N) : FVec Ideal S64x1536 .f32 :=
  k0_pay8 (F := Ideal)
    (k0_pay5 (cols m c t 5 inb_S72x1536_S64x1536_5_0) (tap m c t 0 inb_S4x1536_S1x1536_0_0) (cols m c t 6 inb_S72x1536_S64x1536_6_0) (tap m c t 1 inb_S4x1536_S1x1536_1_0)
      (cols m c t 7 inb_S72x1536_S64x1536_7_0) (tap m c t 2 inb_S4x1536_S1x1536_2_0) (cols m c t 8 inb_S72x1536_S64x1536_8_0) (tap m c t 3 inb_S4x1536_S1x1536_3_0))
    (k0_pay6 (cols m c t 5 inb_S72x1536_S64x1536_5_0) (tap m c t 0 inb_S4x1536_S1x1536_0_0) (cols m c t 6 inb_S72x1536_S64x1536_6_0) (tap m c t 1 inb_S4x1536_S1x1536_1_0)
      (cols m c t 7 inb_S72x1536_S64x1536_7_0) (tap m c t 2 inb_S4x1536_S1x1536_2_0) (cols m c t 8 inb_S72x1536_S64x1536_8_0) (tap m c t 3 inb_S4x1536_S1x1536_3_0))
    k0_pay7

theorem tap_apply (t : Fin cfg0.N) (a : ℕ) (ha : a < 4) (inb) (d : Fin 1536) : tap m c t a inb (ix2 0 d) = iblk m c 3 t (ix2 ⟨a, ha⟩ d) := by
  refine congrArg (iblk m c 3 t) (Rect.emb_eq_of_coords (Rect.unit (s := S4x1536) ![a, 0] ![1, 1536] inb) (ix2 0 d : S1x1536.Idx) (ix2 ⟨a, ha⟩ d) ?_)
  intro x
  fin_cases x
  · show a = a + 1 * 0; omega
  · show d.val = 0 + 1 * d.val; omega

theorem conv_ops (r0 r1 r2 r3 : FVec Ideal S64x1536 .f32) (w0 w1 w2 w3 : FVec Ideal S1x1536 .f32) (d : Fin 1536) (x w : Fin 4 → EReal)
    (h0 : r0 (ix2 0 d) = x 0) (h1 : r1 (ix2 0 d) = x 1) (h2 : r2 (ix2 0 d) = x 2) (h3 : r3 (ix2 0 d) = x 3)
    (g0 : w0 (ix2 0 d) = w 0) (g1 : w1 (ix2 0 d) = w 1) (g2 : w2 (ix2 0 d) = w 2) (g3 : w3 (ix2 0 d) = w 3) :
    k0_pay8 (F := Ideal) (k0_pay5 r0 w0 r1 w1 r2 w2 r3 w3) (k0_pay6 r0 w0 r1 w1 r2 w2 r3 w3) k0_pay7 (ix2 0 d) = taps x w := by
  unfold taps Cert.Kernel9Ideal.Gdn.gate
  rw [← h0, ← h1, ← h2, ← h3, ← g0, ← g1, ← g2, ← g3]
  pointwise [k0_pay8, k0_pay7, k0_pay6, k0_pay5]
  simp only [zero_sub]

/-- The rows the convolution of the new position reads: three carried ones and the new one. -/
def window (t : Fin cfg0.N) (i : Fin 4) (d : Fin 1536) : EReal :=
  if h : i.val < 3 then m ((c : Thread nD τ).loc main_arg2) (ix3 ⟨t.val, t.isLt⟩ ⟨i.val, h⟩ d)
  else m ((c : Thread nD τ).loc main_arg0) (ix2 ⟨t.val, t.isLt⟩ ⟨3072 + d.val, by omega⟩)

theorem cols_apply (t : Fin cfg0.N) (i : Fin 4) (d : Fin 1536) : View.canon (rows m c t) (ix2 ⟨5 + i.val, by omega⟩ d) = window m c t i d := by
  unfold window
  by_cases h : i.val < 3
  · rw [dif_pos h]
    exact row_old m c t ⟨i.val, h⟩ d
  · rw [dif_neg h]
    obtain rfl : i = 3 := Fin.ext (by show i.val = 3; omega)
    exact row_new m c t d

theorem col_apply (t : Fin cfg0.N) (i : Fin 4) (inb) (d : Fin 1536) : cols m c t (5 + i.val) inb (ix2 0 d) = window m c t i d :=
  (load_rows (rows m c t) (5 + i.val) (by omega) inb d).trans (cols_apply m c t i d)

theorem weight_apply (t : Fin cfg0.N) (i : Fin 4) (inb) (d : Fin 1536) : tap m c t i.val inb (ix2 0 d) = m ((c : Thread nD τ).loc main_arg1) (ix2 i d) :=
  (tap_apply m c t i.val i.isLt inb d).trans (read3 m c t i d)

theorem conv_apply (t : Fin cfg0.N) (d : Fin 1536) :
    conv m c t (ix2 0 d) = taps (fun i => window m c t i d) (fun i => m ((c : Thread nD τ).loc main_arg1) (ix2 i d)) :=
  conv_ops _ _ _ _ _ _ _ _ d _ _ (col_apply m c t 0 _ d) (col_apply m c t 1 _ d) (col_apply m c t 2 _ d) (col_apply m c t 3 _ d)
    (weight_apply m c t 0 _ d) (weight_apply m c t 1 _ d) (weight_apply m c t 2 _ d) (weight_apply m c t 3 _ d)

/-- A head's state before the step. -/
def before (t : Fin cfg0.N) (h : Fin 4) : FVec Ideal S1x128x128 .f32 := fun y => k0_pay2 (F := Ideal) (iblk m c 8 t) (ix3 h (y 1) (y 2))

theorem before_apply (t : Fin cfg0.N) (h : Fin 4) (i j : Fin 128) :
    before m c t h (ix3 0 i j) = m ((c : Thread nD τ).loc main_arg6) (ix4 ⟨t.val, t.isLt⟩ h i j) :=
  (copy_in _ h i j).trans (read8 m c t h i j)

theorem out10_0 (t : Fin cfg0.N) (i j : Fin 128) :
    (outsAt0 m c t).2.1 (ix4 0 0 i j)
      = cell (conv m c t) (iblk m c 2 t) (iblk m c 5 t) (iblk m c 6 t) (before m c t 0) 512 1024 24 28 (by omega) (by omega) (by omega) (by omega) i j := by
  unfold outsAt0
  dsimp only
  frame_out
  refine (copy_out _ 0 i j).trans ?_
  refine (load_all _ _ 0 i j).trans ?_
  refine (off_head 3 0 (by decide) _ _ _ i j).trans ?_
  refine (off_head 2 0 (by decide) _ _ _ i j).trans ?_
  refine (off_head 1 0 (by decide) _ _ _ i j).trans ?_
  refine (at_head 0 (by decide) _ _ _ i j).trans ?_
  refine (state0 (conv m c t) (iblk m c 2 t) (iblk m c 5 t) (iblk m c 6 t) _ i j).trans ?_
  refine cell_congr _ _ _ _ _ (before m c t 0) (fun i j => ?_) i j
  refine (load_head _ 0 (by decide) _ i j).trans ?_
  exact at_start _ _ 0 i j

theorem out10_1 (t : Fin cfg0.N) (i j : Fin 128) :
    (outsAt0 m c t).2.1 (ix4 0 1 i j)
      = cell (conv m c t) (iblk m c 2 t) (iblk m c 5 t) (iblk m c 6 t) (before m c t 1) 640 1152 25 29 (by omega) (by omega) (by omega) (by omega) i j := by
  unfold outsAt0
  dsimp only
  frame_out
  refine (copy_out _ 1 i j).trans ?_
  refine (load_all _ _ 1 i j).trans ?_
  refine (off_head 3 1 (by decide) _ _ _ i j).trans ?_
  refine (off_head 2 1 (by decide) _ _ _ i j).trans ?_
  refine (at_head 1 (by decide) _ _ _ i j).trans ?_
  refine (state1 (conv m c t) (iblk m c 2 t) (iblk m c 5 t) (iblk m c 6 t) _ i j).trans ?_
  refine cell_congr _ _ _ _ _ (before m c t 1) (fun i j => ?_) i j
  refine (load_head _ 1 (by decide) _ i j).trans ?_
  refine (off_head 0 1 (by decide) _ _ _ i j).trans ?_
  exact at_start _ _ 1 i j

theorem out10_2 (t : Fin cfg0.N) (i j : Fin 128) :
    (outsAt0 m c t).2.1 (ix4 0 2 i j)
      = cell (conv m c t) (iblk m c 2 t) (iblk m c 5 t) (iblk m c 6 t) (before m c t 2) 768 1280 26 30 (by omega) (by omega) (by omega) (by omega) i j := by
  unfold outsAt0
  dsimp only
  frame_out
  refine (copy_out _ 2 i j).trans ?_
  refine (load_all _ _ 2 i j).trans ?_
  refine (off_head 3 2 (by decide) _ _ _ i j).trans ?_
  refine (at_head 2 (by decide) _ _ _ i j).trans ?_
  refine (state2 (conv m c t) (iblk m c 2 t) (iblk m c 5 t) (iblk m c 6 t) _ i j).trans ?_
  refine cell_congr _ _ _ _ _ (before m c t 2) (fun i j => ?_) i j
  refine (load_head _ 2 (by decide) _ i j).trans ?_
  refine (off_head 1 2 (by decide) _ _ _ i j).trans ?_
  refine (off_head 0 2 (by decide) _ _ _ i j).trans ?_
  exact at_start _ _ 2 i j

theorem out10_3 (t : Fin cfg0.N) (i j : Fin 128) :
    (outsAt0 m c t).2.1 (ix4 0 3 i j)
      = cell (conv m c t) (iblk m c 2 t) (iblk m c 5 t) (iblk m c 6 t) (before m c t 3) 896 1408 27 31 (by omega) (by omega) (by omega) (by omega) i j := by
  unfold outsAt0
  dsimp only
  frame_out
  refine (copy_out _ 3 i j).trans ?_
  refine (load_all _ _ 3 i j).trans ?_
  refine (at_head 3 (by decide) _ _ _ i j).trans ?_
  refine (state3 (conv m c t) (iblk m c 2 t) (iblk m c 5 t) (iblk m c 6 t) _ i j).trans ?_
  refine cell_congr _ _ _ _ _ (before m c t 3) (fun i j => ?_) i j
  refine (load_head _ 3 (by decide) _ i j).trans ?_
  refine (off_head 2 3 (by decide) _ _ _ i j).trans ?_
  refine (off_head 1 3 (by decide) _ _ _ i j).trans ?_
  refine (off_head 0 3 (by decide) _ _ _ i j).trans ?_
  exact at_start _ _ 3 i j

end Cert.Kernel9Ideal.Gdn

end
-- ==== Proof.SmallGdnRef.lean ====
module

public import proofs.«01_k».proof.Proof.SmallGdnHeads
public import proofs.«01_k».proof.Proof.Gen.Reference9Ideal.Read
public import Idealize.ShloMosaic.Lib.Pipeline.ValueKit

@[expose] public section

set_option maxRecDepth 16384

/-!
# The one-step delta rule's reference, entry by entry
-/

noncomputable section

open Idealize.ShloMosaic Idealize.ShloMosaic.TcCoe Idealize.SL.Sem

namespace Cert.Reference9Ideal.Gdn

open Cert.Reference9Ideal Cert.Reference9Ideal.Gen Cert.Reference9Ideal.Read Cert.FoxRows
open Cert.Kernel9Ideal.Gdn (unit taps decay fix upd)

variable (x0 : FVec Ideal S8x6912 .f32) (x1 : FVec Ideal S4x1536 .f32) (x2 : FVec Ideal S8x3x1536 .f32) (x3 x4 : FVec Ideal S4 .f32) (x6 : FVec Ideal S8x4x128x128 .f32)

theorem rows_old (b : Fin 8) (i : Fin 3) (d : Fin 1536) : val_main_v2 (F := Ideal) x0 x2 (ix3 b ⟨i.val, by omega⟩ d) = x2 (ix3 b i d) := by
  unfold val_main_v2
  generalize val_main_v1 (F := Ideal) x0 = L
  pointwise

theorem rows_new (b : Fin 8) (d : Fin 1536) : val_main_v2 (F := Ideal) x0 x2 (ix3 b 3 d) = x0 (ix2 b ⟨3072 + d.val, by omega⟩) := by
  pointwise [val_main_v2, val_main_v1, val_main_v0]

theorem conv_apply (b : Fin 8) (d : Fin 1536) :
    val_main_v34 (F := Ideal) x0 x1 x2 (ix2 b d) = taps (fun i => val_main_v2 (F := Ideal) x0 x2 (ix3 b i d)) (fun i => x1 (ix2 i d)) := by
  unfold taps Cert.Kernel9Ideal.Gdn.gate val_main_v34 val_main_call0_v5 val_main_call0_v4 val_main_call0_cst_0 val_main_call0_v3 val_main_call0_v2 val_main_call0_cst val_main_call0_v1 val_main_call0_v0 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3
  generalize val_main_v2 (F := Ideal) x0 x2 = L
  pointwise

theorem key_apply (b : Fin 8) (h : Fin 4) (i : Fin 128) :
    val_main_v46 (F := Ideal) x0 x1 x2 (ix3 b h i) = unit (fun d => val_main_v34 (F := Ideal) x0 x1 x2 (ix2 b ⟨512 + (h.val * 128 + d.val), by omega⟩)) i := by
  unfold unit val_main_v46 val_main_v45 val_main_v44 val_main_v43 val_main_v42 val_main_cst_0 val_main_v41 val_main_v40 val_main_cst val_main_v39 val_main_v36 val_main_v35
  generalize val_main_v34 (F := Ideal) x0 x1 x2 = L
  pointwise

theorem value_apply (b : Fin 8) (h : Fin 4) (i : Fin 128) :
    val_main_v38 (F := Ideal) x0 x1 x2 (ix3 b h i) = val_main_v34 (F := Ideal) x0 x1 x2 (ix2 b ⟨1024 + (h.val * 128 + i.val), by omega⟩) := by
  unfold val_main_v38 val_main_v37
  generalize val_main_v34 (F := Ideal) x0 x1 x2 = L
  pointwise

theorem rate_apply (b : Fin 8) (h : Fin 4) (a : Fin 1) : val_main_v54 (F := Ideal) x0 (ix3 b h a) = Cert.Kernel9Ideal.Gdn.gate (x0 (ix2 b ⟨6680 + h.val, by omega⟩)) := by
  unfold Cert.Kernel9Ideal.Gdn.gate
  pointwise [val_main_v54, val_main_v53, val_main_v52, val_main_cst_2, val_main_v51, val_main_v50, val_main_cst_1, val_main_v49, val_main_v48, val_main_v47]

theorem decay_apply (b : Fin 8) (h : Fin 4) (a : Fin 1) :
    val_main_v65 (F := Ideal) x0 x3 x4 (ix3 b h a) = decay (x3 (ix1 h)) (x0 (ix2 b ⟨6684 + h.val, by omega⟩) + x4 (ix1 h)) := by
  unfold decay
  pointwise [val_main_v65, val_main_v64, val_main_v63, val_main_v62, val_main_v61, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, val_main_v60, val_main_v59, val_main_v58, val_main_v57, val_main_v56, val_main_v55]
  exact congrArg _ (if_neg (not_not_intro rfl))

theorem state_apply (b : Fin 8) (h : Fin 4) (i j : Fin 128) :
    val_main_v88 (F := Ideal) x0 x1 x2 x3 x4 x6 (ix4 b h i j)
      = upd (val_main_v65 (F := Ideal) x0 x3 x4 (ix3 b h 0)) (x6 (ix4 b h i j)) (val_main_v46 (F := Ideal) x0 x1 x2 (ix3 b h i))
          (fix (val_main_v54 (F := Ideal) x0 (ix3 b h 0)) (val_main_v65 (F := Ideal) x0 x3 x4 (ix3 b h 0)) (val_main_v38 (F := Ideal) x0 x1 x2 (ix3 b h j))
            (fun d => val_main_v46 (F := Ideal) x0 x1 x2 (ix3 b h d)) (fun d => x6 (ix4 b h d j))) := by
  unfold upd fix val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66
  generalize val_main_v65 (F := Ideal) x0 x3 x4 = G
  generalize val_main_v54 (F := Ideal) x0 = R
  generalize val_main_v46 (F := Ideal) x0 x1 x2 = K
  generalize val_main_v38 (F := Ideal) x0 x1 x2 = V
  pointwise

theorem last_rows (b : Fin 8) (i : Fin 3) (d : Fin 1536) :
    val_main_v89 (F := Ideal) x0 x2 (ix3 b i d) = val_main_v2 (F := Ideal) x0 x2 (ix3 b ⟨1 + i.val, by omega⟩ d) := by
  unfold val_main_v89
  generalize val_main_v2 (F := Ideal) x0 x2 = L
  pointwise

end Cert.Reference9Ideal.Gdn

end
-- ==== Proof.SmallGdnValue.lean ====
module

public import proofs.«01_k».proof.Proof.SmallGdnOut
public import proofs.«01_k».proof.Proof.SmallGdnRef
public import proofs.«01_k».proof.Proof.Gen.Kernel9Ideal.Value
public import Idealize.ShloMosaic.Lib.Pipeline.ValueKit
public import Idealize.ShloMosaic.Lib.Claim
public import Idealize.ShloMosaic.Lib.StableHlo.ReadAt

@[expose] public section

set_option maxRecDepth 16384

/-!
# The one-step delta rule's state and convolution arrays
-/

noncomputable section

open Idealize.ShloMosaic Idealize.ShloMosaic.TcCoe Idealize.SL.Sem
open Idealize.ShloMosaic.Pipeline (Dat)

namespace Cert.Kernel9Ideal.Gdn

open Cert.Kernel9Ideal Cert.Kernel9Ideal.Gen Cert.FoxRows Cert.Masks

theorem cell_of (Q : FVec Ideal S64x1536 .f32) (sm : FVec Ideal S1x64x128 .f32) (al dt : FVec Ideal S1x128 .f32) (s : FVec Ideal S1x128x128 .f32)
    {a p x y : ℕ} {ha : a + 128 ≤ 1536} {hp : p + 128 ≤ 1536} {hx : x < 128} {hy : y < 128} (G R W : EReal) (K S : Fin 128 → EReal) (i j : Fin 128)
    (hg : decay (al (ix2 0 ⟨y, hy⟩)) (sm (ix3 0 0 ⟨y, hy⟩) + dt (ix2 0 ⟨y, hy⟩)) = G) (hr : gate (sm (ix3 0 0 ⟨x, hx⟩)) = R)
    (hk : ∀ i : Fin 128, unit (fun d => Q (ix2 0 ⟨a + d.val, by omega⟩)) i = K i) (hv : Q (ix2 0 ⟨p + j.val, by omega⟩) = W) (hs : ∀ d, s (ix3 0 d j) = S d) :
    cell Q sm al dt s a p x y ha hp hx hy i j = upd G (S i) (K i) (fix R G W K S) := by
  obtain rfl : (fun i => unit (fun d => Q (ix2 0 ⟨a + d.val, by omega⟩)) i) = K := funext hk
  obtain rfl : (fun d => s (ix3 0 d j)) = S := funext hs
  subst hg hr hv
  rfl

variable (m : (ℓ : Loc nD τ sig) → Buf (Elt Ideal) ℓ) (c : Dev nD)

abbrev A0 : FVec Ideal S8x6912 .f32 := m ((c : Thread nD τ).loc main_arg0)
abbrev A1 : FVec Ideal S4x1536 .f32 := m ((c : Thread nD τ).loc main_arg1)
abbrev A2 : FVec Ideal S8x3x1536 .f32 := m ((c : Thread nD τ).loc main_arg2)
abbrev A3 : FVec Ideal S4 .f32 := m ((c : Thread nD τ).loc main_arg3)
abbrev A4 : FVec Ideal S4 .f32 := m ((c : Thread nD τ).loc main_arg4)
abbrev A6 : FVec Ideal S8x4x128x128 .f32 := m ((c : Thread nD τ).loc main_arg6)

theorem window_ref (t : Fin cfg0.N) (i : Fin 4) (d : Fin 1536) :
    window m c t i d = Cert.Reference9Ideal.Read.val_main_v2 (F := Ideal) (A0 m c) (A2 m c) (ix3 ⟨t.val, t.isLt⟩ i d) := by
  unfold window
  by_cases h : i.val < 3
  · rw [dif_pos h]
    exact (Cert.Reference9Ideal.Gdn.rows_old (A0 m c) (A2 m c) ⟨t.val, t.isLt⟩ ⟨i.val, h⟩ d).symm
  · rw [dif_neg h]
    obtain rfl : i = 3 := Fin.ext (by show i.val = 3; omega)
    exact (Cert.Reference9Ideal.Gdn.rows_new (A0 m c) (A2 m c) ⟨t.val, t.isLt⟩ d).symm

theorem conv_ref (t : Fin cfg0.N) (d : Fin 1536) :
    conv m c t (ix2 0 d) = Cert.Reference9Ideal.Read.val_main_v34 (F := Ideal) (A0 m c) (A1 m c) (A2 m c) (ix2 ⟨t.val, t.isLt⟩ d) := by
  refine (conv_apply m c t d).trans (Eq.trans ?_ (Cert.Reference9Ideal.Gdn.conv_apply (A0 m c) (A1 m c) (A2 m c) ⟨t.val, t.isLt⟩ d).symm)
  exact congrArg (fun x => taps x _) (funext fun i => window_ref m c t i d)

theorem small_ref (t : Fin cfg0.N) (l : Fin 128) : iblk m c 2 t (ix3 0 0 l) = A0 m c (ix2 ⟨t.val, t.isLt⟩ ⟨6656 + l.val, by omega⟩) :=
  (read2 m c t 0 l).trans ((V_v1 m c ⟨t.val, t.isLt⟩ 0 _).trans (if_pos rfl))

abbrev rateRow (t : Fin cfg0.N) : FVec Ideal S1x128 .f32 := iblk m c 5 t
abbrev biasRow (t : Fin cfg0.N) : FVec Ideal S1x128 .f32 := iblk m c 6 t
abbrev smallRow (t : Fin cfg0.N) : FVec Ideal S1x64x128 .f32 := iblk m c 2 t

theorem decay_ref (t : Fin cfg0.N) (h : Fin 4) (y : ℕ) (hy : y < 128) (e : y = 28 + h.val) :
    decay (rateRow m c t (ix2 0 ⟨y, hy⟩)) (smallRow m c t (ix3 0 0 ⟨y, hy⟩) + biasRow m c t (ix2 0 ⟨y, hy⟩))
      = Cert.Reference9Ideal.Read.val_main_v65 (F := Ideal) (A0 m c) (A3 m c) (A4 m c) (ix3 ⟨t.val, t.isLt⟩ h 0) := by
  subst e
  refine Eq.trans ?_ (Cert.Reference9Ideal.Gdn.decay_apply (A0 m c) (A3 m c) (A4 m c) ⟨t.val, t.isLt⟩ h 0).symm
  refine congrArg₂ decay ((read5 m c t 0 _).trans (V_v3 m c 0 h)) (congrArg₂ (· + ·) ((small_ref m c t _).trans ?_) ((read6 m c t 0 _).trans (V_v5 m c 0 h)))
  exact congrArg (fun z => A0 m c (ix2 _ z)) (Fin.ext (by show 6656 + (28 + h.val) = 6684 + h.val; omega))

theorem rate_ref (t : Fin cfg0.N) (h : Fin 4) (x : ℕ) (hx : x < 128) (e : x = 24 + h.val) :
    gate (iblk m c 2 t (ix3 0 0 ⟨x, hx⟩)) = Cert.Reference9Ideal.Read.val_main_v54 (F := Ideal) (A0 m c) (ix3 ⟨t.val, t.isLt⟩ h 0) := by
  subst e
  refine Eq.trans ?_ (Cert.Reference9Ideal.Gdn.rate_apply (A0 m c) ⟨t.val, t.isLt⟩ h 0).symm
  rw [small_ref]
  exact congrArg (fun z => gate (A0 m c (ix2 _ z))) (Fin.ext (by show 6656 + (24 + h.val) = 6680 + h.val; omega))

theorem key_ref (t : Fin cfg0.N) (h : Fin 4) (a : ℕ) (ha : a + 128 ≤ 1536) (e : a = 512 + 128 * h.val) (i : Fin 128) :
    unit (fun d => conv m c t (ix2 0 ⟨a + d.val, by omega⟩)) i
      = Cert.Reference9Ideal.Read.val_main_v46 (F := Ideal) (A0 m c) (A1 m c) (A2 m c) (ix3 ⟨t.val, t.isLt⟩ h i) := by
  subst e
  refine Eq.trans ?_ (Cert.Reference9Ideal.Gdn.key_apply (A0 m c) (A1 m c) (A2 m c) ⟨t.val, t.isLt⟩ h i).symm
  refine congrArg (fun q => unit q i) (funext fun d => ?_)
  refine (conv_ref m c t _).trans ?_
  exact congrArg (fun z => Cert.Reference9Ideal.Read.val_main_v34 (F := Ideal) (A0 m c) (A1 m c) (A2 m c) (ix2 _ z))
    (Fin.ext (by show 512 + 128 * h.val + d.val = 512 + (h.val * 128 + d.val); omega))

theorem value_ref (t : Fin cfg0.N) (h : Fin 4) (p : ℕ) (hp : p + 128 ≤ 1536) (e : p = 1024 + 128 * h.val) (j : Fin 128) :
    conv m c t (ix2 0 ⟨p + j.val, by omega⟩)
      = Cert.Reference9Ideal.Read.val_main_v38 (F := Ideal) (A0 m c) (A1 m c) (A2 m c) (ix3 ⟨t.val, t.isLt⟩ h j) := by
  subst e
  refine (conv_ref m c t _).trans (Eq.trans ?_ (Cert.Reference9Ideal.Gdn.value_apply (A0 m c) (A1 m c) (A2 m c) ⟨t.val, t.isLt⟩ h j).symm)
  exact congrArg (fun z => Cert.Reference9Ideal.Read.val_main_v34 (F := Ideal) (A0 m c) (A1 m c) (A2 m c) (ix2 _ z))
    (Fin.ext (by show 1024 + 128 * h.val + j.val = 1024 + (h.val * 128 + j.val); omega))

theorem cell_ref (t : Fin cfg0.N) (h : Fin 4) (a p x y : ℕ) (ha : a + 128 ≤ 1536) (hp : p + 128 ≤ 1536) (hx : x < 128) (hy : y < 128)
    (ea : a = 512 + 128 * h.val) (ep : p = 1024 + 128 * h.val) (ex : x = 24 + h.val) (ey : y = 28 + h.val) (i j : Fin 128) :
    cell (conv m c t) (iblk m c 2 t) (iblk m c 5 t) (iblk m c 6 t) (before m c t h) a p x y ha hp hx hy i j
      = Cert.Reference9Ideal.Read.val_main_v88 (F := Ideal) (A0 m c) (A1 m c) (A2 m c) (A3 m c) (A4 m c) (A6 m c) (ix4 ⟨t.val, t.isLt⟩ h i j) := by
  refine Eq.trans ?_ (Cert.Reference9Ideal.Gdn.state_apply (A0 m c) (A1 m c) (A2 m c) (A3 m c) (A4 m c) (A6 m c) ⟨t.val, t.isLt⟩ h i j).symm
  exact cell_of _ _ _ _ _ _ _ _ (fun d => Cert.Reference9Ideal.Read.val_main_v46 (F := Ideal) (A0 m c) (A1 m c) (A2 m c) (ix3 ⟨t.val, t.isLt⟩ h d))
    (fun d => A6 m c (ix4 ⟨t.val, t.isLt⟩ h d j)) i j
    (decay_ref m c t h y hy ey) (rate_ref m c t h x hx ex) (key_ref m c t h a ha ea) (value_ref m c t h p hp ep j) (fun d => before_apply m c t h d j)

theorem out10 (t : Fin cfg0.N) (h : Fin 4) (i j : Fin 128) :
    (outsAt0 m c t).2.1 (ix4 0 h i j)
      = Cert.Reference9Ideal.Read.val_main_v88 (F := Ideal) (A0 m c) (A1 m c) (A2 m c) (A3 m c) (A4 m c) (A6 m c) (ix4 ⟨t.val, t.isLt⟩ h i j) := by
  match h with
  | 0 => exact (out10_0 m c t i j).trans (cell_ref m c t 0 _ _ _ _ _ _ _ _ rfl rfl rfl rfl i j)
  | 1 => exact (out10_1 m c t i j).trans (cell_ref m c t 1 _ _ _ _ _ _ _ _ rfl rfl rfl rfl i j)
  | 2 => exact (out10_2 m c t i j).trans (cell_ref m c t 2 _ _ _ _ _ _ _ _ rfl rfl rfl rfl i j)
  | 3 => exact (out10_3 m c t i j).trans (cell_ref m c t 3 _ _ _ _ _ _ _ _ rfl rfl rfl rfl i j)

theorem final10 : (dats m 0 c).arrAt 10 cfg0.N
    = Cert.Reference9Ideal.Read.val_main_v88 (F := Ideal) (A0 m c) (A1 m c) (A2 m c) (A3 m c) (A4 m c) (A6 m c) := by
  refine (dats m 0 c).arrAt_eq_of_covers 10 _ covers10 fun t hf y => ?_
  blk_simp
  rw [after0_10]
  idx_vars y
  obtain rfl : y0 = 0 := Subsingleton.elim _ _
  refine (out10 m c t y1 y2 y3).trans ?_
  congr 1
  blk_ext [idx t]

theorem final11 : (dats m 0 c).arrAt 11 cfg0.N = Cert.Reference9Ideal.Read.val_main_v89 (F := Ideal) (A0 m c) (A2 m c) := by
  refine (dats m 0 c).arrAt_eq_of_covers 11 _ covers11 fun t hf y => ?_
  blk_simp
  rw [after0_11]
  idx_vars y
  obtain rfl : y0 = 0 := Subsingleton.elim _ _
  refine (out11 m c t y1 y2).trans ?_
  have e : (⟨6 + y1.val, by omega⟩ : Fin 72) = ⟨5 + (1 + y1.val), by omega⟩ := Fin.ext (by show 6 + y1.val = 5 + (1 + y1.val); omega)
  rw [e]
  refine (cols_apply m c t ⟨1 + y1.val, by omega⟩ y2).trans ((window_ref m c t _ y2).trans ?_)
  refine Eq.trans (Cert.Reference9Ideal.Gdn.last_rows (A0 m c) (A2 m c) ⟨t.val, t.isLt⟩ y1 y2).symm ?_
  congr 1
  blk_ext [idx t]

end Cert.Kernel9Ideal.Gdn

end
-- ==== Proof.Part9.lean ====
module

public import proofs.«01_k».proof.Defs
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.SmallGdnValue
public import Idealize.ShloMosaic.Lib.Claim

@[expose] public section

/-! # The one-step delta rule call's part of the claim -/

noncomputable section

open Idealize.ShloMosaic Idealize.ShloMosaic.TcCoe Idealize.SL.Sem

namespace Cert.Proof.SmallGdn

theorem frame_Kernel : Cert.quiescent_Kernel9 := fun m ρ _ => Cert.Kernel9.Gen.frame m ρ
theorem frame_KernelIdeal : Cert.quiescent_Kernel9Ideal := fun m ρ _ => Cert.Kernel9Ideal.Gen.frame m ρ
theorem frame_ReferenceIdeal : Cert.quiescent_Reference9Ideal := fun m ρ _ =>
  (θ_run Cert.Reference9Ideal.defs _ _).mono (fun r h => ⟨fun c => (h c).2.2, Idealize.ShloMosaic.sem_eq_zero_of_no_sems (by decide) r.2⟩)
    (Cert.Reference9Ideal.Value.run m ρ)

theorem algebraic : Cert.algebraic_Kernel9Ideal_Reference9Ideal := by
  intro m g m' g' hpre hagree
  refine ⟨fun c => (Cert.Kernel9Ideal.Gen.dats m 0 c).arrAt 10 Cert.Kernel9Ideal.cfg0.N,
    fun c => (Cert.Kernel9Ideal.Gen.dats m 0 c).arrAt 11 Cert.Kernel9Ideal.cfg0.N,
    (θ_run Cert.Kernel9Ideal.defs _ _).mono (fun r h c => (h c).2) (Cert.Kernel9Ideal.Value.run_blocks m g),
    (θ_run Cert.Reference9Ideal.defs _ _).mono (fun r h c => ⟨(h c).1.trans ?_, (h c).2.1.trans ?_, (h c).2.2⟩) (Cert.Reference9Ideal.Value.run m' g')⟩
  · obtain ⟨e0, e1, e2, e3, e4, e5, e6⟩ := hagree c
    refine (Cert.Reference9Ideal.Read.val_main_v88_eq _ _).trans ?_
    rw [e0, e1, e2, e3, e4, e6]
    exact (Cert.Kernel9Ideal.Gdn.final10 m c).symm
  · obtain ⟨e0, e1, e2, e3, e4, e5, e6⟩ := hagree c
    refine (Cert.Reference9Ideal.Read.val_main_v89_eq _ _).trans ?_
    rw [e0, e2]
    exact (Cert.Kernel9Ideal.Gdn.final11 m c).symm

end Cert.Proof.SmallGdn

end
-- ==== Proof.SmallProjRef.lean ====
module

public import proofs.«01_k».proof.Proof.Rows
public import proofs.«01_k».proof.Proof.Gen.Reference10Ideal.Read
public import Idealize.ShloMosaic.Lib.Pipeline.ValueKit

@[expose] public section

set_option maxRecDepth 16384

/-!
# The eight-row input projection's reference at one row and column
-/

noncomputable section

open Idealize.ShloMosaic Idealize.ShloMosaic.TcCoe Idealize.SL.Sem
open Idealize.ShloMosaic.Pipeline (Dat)

namespace Cert.Reference10Ideal.Proj

open Cert.Reference10Ideal Cert.Reference10Ideal.Gen Cert.Reference10Ideal.Read Cert.Rows

variable (x0 : FVec Ideal S8x2048 .f32) (x1 : FVec Ideal S2048 .f32) (x2 : FVec Ideal S2048x6912 .f32)

theorem norm (r : Fin 8) (d : Fin 2048) :
    val_main_v12 (F := Ideal) x0 x1 (ix2 r d) = normed (fun e => x0 (ix2 r e)) (fun e => x1 (ix1 e)) d := by
  unfold normed
  pointwise [val_main_v12, val_main_v11,val_main_v10,val_main_v9,val_main_v8,val_main_v7,val_main_v6,val_main_v5,val_main_v4,val_main_v3,val_main_v2,val_main_v1,val_main_v0,val_main_cst,val_main_cst_0,val_main_cst_1]

theorem apply (r : Fin 8) (f : Fin 6912) : val_main_v13 (F := Ideal) x0 x1 x2 (ix2 r f)
    = ∑ e, normed (fun e => x0 (ix2 r e)) (fun e => x1 (ix1 e)) e * x2 (ix2 e f) := by
  simp only [← norm]
  unfold val_main_v13
  generalize val_main_v12 (F := Ideal) x0 x1 = L
  pointwise

end Cert.Reference10Ideal.Proj

end
-- ==== Proof.SmallProjValue.lean ====
module

public import proofs.«01_k».proof.Proof.SmallProjRef
public import proofs.«01_k».proof.Proof.Gen.Kernel10Ideal.Value
public import Idealize.ShloMosaic.Lib.Pipeline.ValueKit
public import Idealize.ShloMosaic.Lib.Claim

@[expose] public section

set_option maxRecDepth 16384

/-!
# The eight-row input projection's output array

Grid point `t` multiplies the normalised rows `8 * (t / 9) + r`, kept in the scratch, by the columns `768 * (t % 9) + f`.
-/

noncomputable section

open Idealize.ShloMosaic Idealize.ShloMosaic.TcCoe Idealize.SL.Sem
open Idealize.ShloMosaic.Pipeline (Dat)

namespace Cert.Kernel10Ideal.Proj

open Cert.Kernel10Ideal Cert.Kernel10Ideal.Gen Cert.Rows

theorem pay1_apply (x : FVec Ideal S8x2048 .f32) (g : FVec Ideal S1x2048 .f32) (r : Fin 8) (d : Fin 2048) :
    k0_pay1 (F := Ideal) x g (ix2 r d) = normed (fun e => x (ix2 r e)) (fun e => g (ix2 0 e)) d := by
  unfold normed
  pointwise [k0_pay1]

theorem pay2_apply (h : FVec Ideal S8x2048 .bf16) (w : FVec Ideal S2048x768 .bf16) (r : Fin 8) (f : Fin 768) :
    k0_pay2 (F := Ideal) h w (ix2 r f) = ∑ e, h (ix2 r e) * w (ix2 e f) := by
  pointwise [k0_pay2]

theorem idx : ∀ t : Fin cfg0.N,
    win0_0.index t = ![t.val / 9, 0] ∧ win0_1.index t = ![0, 0] ∧ win0_2.index t = ![0, t.val % 9]
    ∧ win0_3.index t = ![t.val / 9, t.val % 9] ∧ t.val / 9 < 1 :=
  (by decide +kernel : ∀ t : Fin grid0.N, _)

theorem covers : (cfg0.win 3).Covers := by decide +kernel

variable (m : (ℓ : Loc nD τ sig) → Buf (Elt Ideal) ℓ) (c : Dev nD)

theorem read0 (t : Fin cfg0.N) (r : Fin 8) (d : Fin 2048) (h : 8 * (t.val / 9) + r.val < 8) :
    iblk m c 0 t (ix2 r d) = m ((c : Thread nD τ).loc main_arg0) (ix2 ⟨8 * (t.val / 9) + r.val, h⟩ d) := by
  blk_point [iblk, V, idx t]

theorem read1 (t : Fin cfg0.N) (r : Fin 1) (d : Fin 2048) :
    iblk m c 1 t (ix2 r d) = m ((c : Thread nD τ).loc main_arg1) (ix1 d) := by
  blk_simp [iblk]
  entry_read
  pointwise
  blk_ext [idx t]

theorem read2 (t : Fin cfg0.N) (e : Fin 2048) (f : Fin 768) (h : 768 * (t.val % 9) + f.val < 6912) :
    iblk m c 2 t (ix2 e f) = m ((c : Thread nD τ).loc main_arg2) (ix2 e ⟨768 * (t.val % 9) + f.val, h⟩) := by
  blk_simp [iblk]
  entry_read
  pointwise
  blk_ext [idx t]

/-- The normalised row `r` of the array. -/
abbrev hrow (r : Fin 8) : Fin 2048 → EReal :=
  normed (fun e => m ((c : Thread nD τ).loc main_arg0) (ix2 r e)) (fun e => m ((c : Thread nD τ).loc main_arg1) (ix1 e))

theorem carryA (t : Fin cfg0.N) (h0 : t.val % 9 = 0) :
    (outsAt0 m c t.val t.isLt).1 = k0_pay2 (F := Ideal) (outsAt0 m c t.val t.isLt).2 (iblk m c 2 t)
    ∧ (outsAt0 m c t.val t.isLt).2 = k0_pay1 (F := Ideal) (iblk m c 0 t) (iblk m c 1 t) := by
  rw [outsAt0_A m c t h0]
  constructor
  · dsimp only
    frame_out
  · dsimp only
    frame_out

theorem carryB (t : Fin cfg0.N) (h0 : ¬t.val % 9 = 0) :
    (outsAt0 m c t.val t.isLt).1 = k0_pay2 (F := Ideal) (outsAt0 m c t.val t.isLt).2 (iblk m c 2 t)
    ∧ (outsAt0 m c t.val t.isLt).2 = (outsAt0 m c (t.val - 1) (Nat.lt_of_le_of_lt (Nat.sub_le _ _) t.isLt)).2 := by
  rw [outsAt0_B m c t h0]
  constructor
  · dsimp only
    frame_out
    congr 1
    exact (Memref.isWhole_whole cc0_scratch0).read_unread _
  · rfl

theorem carried_start (t : Fin cfg0.N) (h0 : t.val % 9 = 0) (r : Fin 8) (hr : 8 * (t.val / 9) + r.val < 8) (d : Fin 2048) :
    (outsAt0 m c t.val t.isLt).2 (ix2 r d) = hrow m c ⟨8 * (t.val / 9) + r.val, hr⟩ d := by
  rw [(carryA m c t h0).2]
  refine (pay1_apply (iblk m c 0 t) (iblk m c 1 t) r d).trans ?_
  congr 1
  · funext e; exact read0 m c t r e hr
  · funext e; exact read1 m c t 0 e

/-- The scratch holds the normalised rows of the point's row block. -/
theorem carried (n : ℕ) (h : n < cfg0.N) (r : Fin 8) (i : ℕ) (hi : i = n / 9) (hr : 8 * i + r.val < 8) (d : Fin 2048) :
    (outsAt0 m c n h).2 (ix2 r d) = hrow m c ⟨8 * i + r.val, hr⟩ d := by
  induction n with
  | zero => subst hi; exact carried_start m c ⟨0, h⟩ (Nat.zero_mod _) r hr d
  | succ n ih =>
    by_cases h0 : (n + 1) % 9 = 0
    · subst hi; exact carried_start m c ⟨n + 1, h⟩ h0 r hr d
    · rw [(carryB m c ⟨n + 1, h⟩ h0).2]
      exact ih (Nat.lt_of_succ_lt h) (by omega)

/-- The output array is the reference's result, of the same arrays. -/
theorem final : (dats m 0 c).arrAt 3 cfg0.N
    = Cert.Reference10Ideal.Read.val_main_v13 (F := Ideal) (m ((c : Thread nD τ).loc main_arg0)) (m ((c : Thread nD τ).loc main_arg1))
        (m ((c : Thread nD τ).loc main_arg2)) := by
  refine (dats m 0 c).arrAt_eq_of_covers 3 _ covers fun t hf y => ?_
  blk_simp
  rw [after0_3]
  idx_vars y
  have hr : 8 * (t.val / 9) + y0.val < 8 := by have := (idx t).2.2.2.2; omega
  have hc : 768 * (t.val % 9) + y1.val < 6912 := by have : t.val % 9 < 9 := Nat.mod_lt _ (by omega); omega
  have e : (outsAt0 m c t.val t.isLt).1 = k0_pay2 (F := Ideal) (outsAt0 m c t.val t.isLt).2 (iblk m c 2 t) := by
    by_cases h0 : t.val % 9 = 0
    · exact (carryA m c t h0).1
    · exact (carryB m c t h0).1
  rw [e]
  refine (pay2_apply _ (iblk m c 2 t) y0 y1).trans ?_
  refine (Finset.sum_congr rfl fun k _ => congrArg₂ (· * ·) (carried m c t.val t.isLt y0 _ rfl hr k) (read2 m c t k y1 hc)).trans ?_
  refine (Cert.Reference10Ideal.Proj.apply (m ((c : Thread nD τ).loc main_arg0)) (m ((c : Thread nD τ).loc main_arg1)) (m ((c : Thread nD τ).loc main_arg2))
    ⟨8 * (t.val / 9) + y0.val, hr⟩ ⟨768 * (t.val % 9) + y1.val, hc⟩).symm.trans ?_
  congr 1
  blk_ext [idx t]

end Cert.Kernel10Ideal.Proj

end
-- ==== Proof.Part10.lean ====
module

public import proofs.«01_k».proof.Defs
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.SmallProjValue
public import Idealize.ShloMosaic.Lib.Claim

@[expose] public section

/-! # The eight-row input projection call's part of the claim -/

noncomputable section

open Idealize.ShloMosaic Idealize.ShloMosaic.TcCoe Idealize.SL.Sem

namespace Cert.Proof.SmallProj

theorem frame_Kernel : Cert.quiescent_Kernel10 := fun m ρ _ => Cert.Kernel10.Gen.frame m ρ
theorem frame_KernelIdeal : Cert.quiescent_Kernel10Ideal := fun m ρ _ => Cert.Kernel10Ideal.Gen.frame m ρ
theorem frame_ReferenceIdeal : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run m ρ)

theorem algebraic : Cert.algebraic_Kernel10Ideal_Reference10Ideal := by
  intro m g m' g' hpre hagree
  refine ⟨fun c => (Cert.Kernel10Ideal.Gen.dats m 0 c).arrAt 3 Cert.Kernel10Ideal.cfg0.N, Cert.Kernel10Ideal.Value.run_blocks m g,
    (θ_run Cert.Reference10Ideal.defs _ _).mono (fun r h c => ⟨(h c).1.trans ?_, (h c).2⟩) (Cert.Reference10Ideal.Value.run m' g')⟩
  obtain ⟨e0, e1, e2⟩ := hagree c
  refine (Cert.Reference10Ideal.Read.val_main_v13_eq _ _ _).trans ?_
  rw [e0, e1, e2]
  exact (Cert.Kernel10Ideal.Proj.final m c).symm

end Cert.Proof.SmallProj

end
-- ==== Proof.SmallOutValue.lean ====
module

public import proofs.«01_k».proof.Proof.Gen.Reference11Ideal.Read
public import proofs.«01_k».proof.Proof.Gen.Kernel11Ideal.Value
public import Idealize.ShloMosaic.Lib.Pipeline.ValueKit
public import Idealize.ShloMosaic.Lib.Claim

@[expose] public section

set_option maxRecDepth 16384

/-!
# The eight-row output projection's output array

The product with the joined array is the sum of the three products over its parts.
-/

noncomputable section

open Idealize.ShloMosaic Idealize.ShloMosaic.TcCoe Idealize.SL.Sem
open Idealize.ShloMosaic.Pipeline (Dat)

namespace Cert.Kernel11Ideal.Out

open Cert.Kernel11Ideal Cert.Kernel11Ideal.Gen

/-- A sum over 2048 terms in the three parts 512, 512 and 1024. -/
theorem sum_parts (f : Fin 2048 → EReal) :
    ∑ k, f k = (∑ k : Fin 512, f ⟨k.val, by omega⟩) + (∑ k : Fin 512, f ⟨512 + k.val, by omega⟩) + ∑ k : Fin 1024, f ⟨1024 + k.val, by omega⟩ := by
  have h1 := Fin.sum_univ_add (a := 1024) (b := 1024) f
  have h2 := Fin.sum_univ_add (a := 512) (b := 512) fun k => f (Fin.castAdd 1024 k)
  exact h1.trans (congrArg (· + _) h2)

theorem pay1_apply (a b : FVec Ideal S8x512 .f32) (wa wb : FVec Ideal S512x2048 .bf16) (o : FVec Ideal S8x1024 .f32) (wo : FVec Ideal S1024x2048 .bf16)
    (x : FVec Ideal S8x2048 .f32) (r : Fin 8) (d : Fin 2048) :
    k0_pay1 (F := Ideal) a wa b wb o wo x (ix2 r d)
      = x (ix2 r d) + ((∑ e, a (ix2 r e) * wa (ix2 e d)) + (∑ e, b (ix2 r e) * wb (ix2 e d)) + ∑ e, o (ix2 r e) * wo (ix2 e d)) := by
  pointwise [k0_pay1]

theorem out_apply (x0 : FVec Ideal S8x2048 .f32) (x1 x2 : FVec Ideal S8x512 .f32) (x3 : FVec Ideal S8x1024 .f32) (x4 : FVec Ideal S2048x2048 .bf16)
    (r : Fin 8) (d : Fin 2048) :
    out0_5 (F := Ideal) x0 x1 x2 x3 x4 (ix2 r d)
      = x0 (ix2 r d) + ((∑ e : Fin 512, x1 (ix2 r e) * x4 (ix2 ⟨e.val, by omega⟩ d)) + (∑ e : Fin 512, x2 (ix2 r e) * x4 (ix2 ⟨512 + e.val, by omega⟩ d))
          + ∑ e : Fin 1024, x3 (ix2 r e) * x4 (ix2 ⟨1024 + e.val, by omega⟩ d)) := by
  frame_out
  refine (pay1_apply _ _ _ _ _ _ _ r d).trans ?_
  pointwise

theorem join_a (x1 x2 : FVec Ideal S8x512 .f32) (x3 : FVec Ideal S8x1024 .f32) (r : Fin 8) (k : Fin 512) :
    Cert.Reference11Ideal.Read.val_main_v0 (F := Ideal) x1 x2 x3 (ix2 r ⟨k.val, by omega⟩) = x1 (ix2 r k) := by
  pointwise [Cert.Reference11Ideal.Read.val_main_v0]

theorem join_b (x1 x2 : FVec Ideal S8x512 .f32) (x3 : FVec Ideal S8x1024 .f32) (r : Fin 8) (k : Fin 512) :
    Cert.Reference11Ideal.Read.val_main_v0 (F := Ideal) x1 x2 x3 (ix2 r ⟨512 + k.val, by omega⟩) = x2 (ix2 r k) := by
  pointwise [Cert.Reference11Ideal.Read.val_main_v0]

theorem join_c (x1 x2 : FVec Ideal S8x512 .f32) (x3 : FVec Ideal S8x1024 .f32) (r : Fin 8) (k : Fin 1024) :
    Cert.Reference11Ideal.Read.val_main_v0 (F := Ideal) x1 x2 x3 (ix2 r ⟨1024 + k.val, by omega⟩) = x3 (ix2 r k) := by
  pointwise [Cert.Reference11Ideal.Read.val_main_v0]
  rw [dif_neg (by omega), dif_neg (by omega)]
  exact congrArg x3 (congrArg (ix2 r) (Fin.ext (by show 1024 + k.val - 512 - 512 = k.val; omega)))

theorem ref_apply (x0 : FVec Ideal S8x2048 .f32) (x1 x2 : FVec Ideal S8x512 .f32) (x3 : FVec Ideal S8x1024 .f32) (x4 : FVec Ideal S2048x2048 .f32)
    (r : Fin 8) (d : Fin 2048) :
    Cert.Reference11Ideal.Read.val_main_v2 (F := Ideal) x0 x1 x2 x3 x4 (ix2 r d)
      = x0 (ix2 r d) + ((∑ e : Fin 512, x1 (ix2 r e) * x4 (ix2 ⟨e.val, by omega⟩ d)) + (∑ e : Fin 512, x2 (ix2 r e) * x4 (ix2 ⟨512 + e.val, by omega⟩ d))
          + ∑ e : Fin 1024, x3 (ix2 r e) * x4 (ix2 ⟨1024 + e.val, by omega⟩ d)) := by
  have h : Cert.Reference11Ideal.Read.val_main_v2 (F := Ideal) x0 x1 x2 x3 x4 (ix2 r d)
      = x0 (ix2 r d) + ∑ e, Cert.Reference11Ideal.Read.val_main_v0 (F := Ideal) x1 x2 x3 (ix2 r e) * x4 (ix2 e d) := by
    unfold Cert.Reference11Ideal.Read.val_main_v2 Cert.Reference11Ideal.Read.val_main_v1
    generalize Cert.Reference11Ideal.Read.val_main_v0 (F := Ideal) x1 x2 x3 = L
    pointwise
  rw [h, sum_parts]
  simp only [join_a, join_b, join_c]

theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![t.val, 0] ∧ t.val < 1 :=
  (by decide +kernel : ∀ t : Fin grid0.N, _)

theorem covers : (cfg0.win 5).Covers := by decide +kernel

variable (m : (ℓ : Loc nD τ sig) → Buf (Elt Ideal) ℓ) (c : Dev nD)

theorem read0 (t : Fin cfg0.N) (r : Fin 8) (d : Fin 2048) (h : 8 * t.val + r.val < 8) :
    iblk m c 0 t (ix2 r d) = m ((c : Thread nD τ).loc main_arg0) (ix2 ⟨8 * t.val + r.val, h⟩ d) := by
  blk_point [iblk, V, idx t]

theorem read1 (t : Fin cfg0.N) (r : Fin 8) (d : Fin 512) (h : 8 * t.val + r.val < 8) :
    iblk m c 1 t (ix2 r d) = m ((c : Thread nD τ).loc main_arg1) (ix2 ⟨8 * t.val + r.val, h⟩ d) := by
  blk_point [iblk, V, idx t]

theorem read2 (t : Fin cfg0.N) (r : Fin 8) (d : Fin 512) (h : 8 * t.val + r.val < 8) :
    iblk m c 2 t (ix2 r d) = m ((c : Thread nD τ).loc main_arg2) (ix2 ⟨8 * t.val + r.val, h⟩ d) := by
  blk_point [iblk, V, idx t]

theorem read3 (t : Fin cfg0.N) (r : Fin 8) (d : Fin 1024) (h : 8 * t.val + r.val < 8) :
    iblk m c 3 t (ix2 r d) = m ((c : Thread nD τ).loc main_arg3) (ix2 ⟨8 * t.val + r.val, h⟩ d) := by
  blk_point [iblk, V, idx t]

theorem read4 (t : Fin cfg0.N) (e : Fin 2048) (d : Fin 2048) :
    iblk m c 4 t (ix2 e d) = m ((c : Thread nD τ).loc main_arg4) (ix2 e d) := by
  blk_simp [iblk]
  entry_read
  pointwise
  blk_ext [idx t]

/-- The output array is the reference's result, of the same arrays. -/
theorem final : (dats m 0 c).arrAt 5 cfg0.N
    = Cert.Reference11Ideal.Read.val_main_v2 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ covers fun t hf y => ?_
  blk_simp
  rw [after0_5]
  idx_vars y
  have hr : 8 * t.val + y0.val < 8 := by have := (idx t).2.2.2.2.2.2; omega
  refine (out_apply (iblk m c 0 t) (iblk m c 1 t) (iblk m c 2 t) (iblk m c 3 t) (iblk m c 4 t) y0 y1).trans ?_
  refine Eq.trans ?_ ((ref_apply (m ((c : Thread nD τ).loc main_arg0)) (m ((c : Thread nD τ).loc main_arg1)) (m ((c : Thread nD τ).loc main_arg2))
    (m ((c : Thread nD τ).loc main_arg3)) (m ((c : Thread nD τ).loc main_arg4)) ⟨8 * t.val + y0.val, hr⟩ y1).symm.trans ?_)
  · congr 1
    · exact read0 m c t y0 y1 hr
    · congr 1
      · congr 1
        · exact Finset.sum_congr rfl fun e _ => congrArg₂ (· * ·) (read1 m c t y0 e hr) (read4 m c t _ y1)
        · exact Finset.sum_congr rfl fun e _ => congrArg₂ (· * ·) (read2 m c t y0 e hr) (read4 m c t _ y1)
      · exact Finset.sum_congr rfl fun e _ => congrArg₂ (· * ·) (read3 m c t y0 e hr) (read4 m c t _ y1)
  · congr 1
    blk_ext [idx t]

end Cert.Kernel11Ideal.Out

end
-- ==== Proof.Part11.lean ====
module

public import proofs.«01_k».proof.Defs
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.SmallOutValue
public import Idealize.ShloMosaic.Lib.Claim

@[expose] public section

/-! # The eight-row output projection call's part of the claim -/

noncomputable section

open Idealize.ShloMosaic Idealize.ShloMosaic.TcCoe Idealize.SL.Sem

namespace Cert.Proof.SmallOut

theorem frame_Kernel : Cert.quiescent_Kernel11 := fun m ρ _ => Cert.Kernel11.Gen.frame m ρ
theorem frame_KernelIdeal : Cert.quiescent_Kernel11Ideal := fun m ρ _ => Cert.Kernel11Ideal.Gen.frame m ρ
theorem frame_ReferenceIdeal : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run m ρ)

theorem algebraic : Cert.algebraic_Kernel11Ideal_Reference11Ideal := by
  intro m g m' g' hpre hagree
  refine ⟨fun c => (Cert.Kernel11Ideal.Gen.dats m 0 c).arrAt 5 Cert.Kernel11Ideal.cfg0.N, Cert.Kernel11Ideal.Value.run_blocks m g,
    (θ_run Cert.Reference11Ideal.defs _ _).mono (fun r h c => ⟨(h c).1.trans ?_, (h c).2⟩) (Cert.Reference11Ideal.Value.run m' g')⟩
  obtain ⟨e0, e1, e2, e3, e4⟩ := hagree c
  refine (Cert.Reference11Ideal.Read.val_main_v2_eq _ _ _ _ _).trans ?_
  rw [e0, e1, e2, e3, e4]
  exact (Cert.Kernel11Ideal.Out.final m c).symm

end Cert.Proof.SmallOut

end
-- ==== Proof.lean ====
module

public import proofs.«01_k».proof.Proof.Flash
public import proofs.«01_k».proof.Proof.Part2
public import proofs.«01_k».proof.Proof.Part3
public import proofs.«01_k».proof.Proof.Part4
public import proofs.«01_k».proof.Proof.Part5
public import proofs.«01_k».proof.Proof.Part6
public import proofs.«01_k».proof.Proof.Part7
public import proofs.«01_k».proof.Proof.Part8
public import proofs.«01_k».proof.Proof.Part9
public import proofs.«01_k».proof.Proof.Part10
public import proofs.«01_k».proof.Proof.Part11

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Pre_finite_logits.facts,
    Flash.frame_Kernel, Flash.frame_KernelIdeal, Flash.frame_KernelIdeal_pre, Flash.frame_ReferenceIdeal, Flash.frame_ReferenceIdeal_pre,
    Ffn.frame_Kernel, Ffn.frame_KernelIdeal, Ffn.frame_ReferenceIdeal,
    Proj.frame_Kernel, Proj.frame_KernelIdeal, Proj.frame_ReferenceIdeal,
    Out.frame_Kernel, Out.frame_KernelIdeal, Out.frame_ReferenceIdeal,
    Fox.frame_Kernel, Fox.frame_KernelIdeal, Fox.frame_ReferenceIdeal,
    SmallFfn.frame_Kernel, SmallFfn.frame_KernelIdeal, SmallFfn.frame_ReferenceIdeal,
    SmallFox.frame_Kernel, SmallFox.frame_KernelIdeal, SmallFox.frame_ReferenceIdeal,
    SmallGla.frame_Kernel, SmallGla.frame_KernelIdeal, SmallGla.frame_ReferenceIdeal,
    SmallGdn.frame_Kernel, SmallGdn.frame_KernelIdeal, SmallGdn.frame_ReferenceIdeal,
    SmallProj.frame_Kernel, SmallProj.frame_KernelIdeal, SmallProj.frame_ReferenceIdeal,
    SmallOut.frame_Kernel, SmallOut.frame_KernelIdeal, SmallOut.frame_ReferenceIdeal,
    trivial, Flash.algebraic,
    trivial, Ffn.algebraic,
    trivial, Proj.algebraic,
    trivial, Out.algebraic,
    trivial, Fox.algebraic,
    trivial, SmallFfn.algebraic,
    trivial, SmallFox.algebraic,
    trivial, SmallGla.algebraic,
    trivial, SmallGdn.algebraic,
    trivial, SmallProj.algebraic,
    trivial, SmallOut.algebraic⟩

end Cert.Proof

end
